-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Outputs (m : (ℓ : Loc Cert.Outputs.nD Cert.Outputs.τ Cert.Outputs.sig) → Buf (Elt Bits) ℓ) : Prop :=
  True

def Pre_OutputsIdeal (m : (ℓ : Loc Cert.OutputsIdeal.nD Cert.OutputsIdeal.τ Cert.OutputsIdeal.sig) → Buf (Elt Ideal) ℓ) : Prop :=
  True

def Pre_OutputsReferenceIdeal (m : (ℓ : Loc Cert.OutputsReferenceIdeal.nD Cert.OutputsReferenceIdeal.τ Cert.OutputsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Outputs [hOutputs : Cert.Outputs.Facts] : Prop :=
  ∀ (m : (ℓ : Loc Cert.Outputs.nD Cert.Outputs.τ Cert.Outputs.sig) → Buf (Elt Bits) ℓ) (g : Dev Cert.Outputs.nD → PrngReg), Pre_Outputs m →
    θ_run (Cert.Outputs.defs (F := Bits)) (onTc (τ := Cert.Outputs.τ) (Cert.Outputs.main (F := Bits))) ⟨m, fun _ => 0, g⟩ (fun r => (∀ c : Dev Cert.Outputs.nD,
      r.2.mem ((c.tc : Thread Cert.Outputs.nD Cert.Outputs.τ).loc Cert.Outputs.main_arg0) = m ((c.tc : Thread Cert.Outputs.nD Cert.Outputs.τ).loc Cert.Outputs.main_arg0)
      ∧ r.2.mem ((c.tc : Thread Cert.Outputs.nD Cert.Outputs.τ).loc Cert.Outputs.main_arg1) = m ((c.tc : Thread Cert.Outputs.nD Cert.Outputs.τ).loc Cert.Outputs.main_arg1)
      ∧ r.2.mem ((c.tc : Thread Cert.Outputs.nD Cert.Outputs.τ).loc Cert.Outputs.main_arg2) = m ((c.tc : Thread Cert.Outputs.nD Cert.Outputs.τ).loc Cert.Outputs.main_arg2))
      ∧ r.2.sem = fun _ => 0)

def quiescent_OutputsIdeal [hOutputsIdeal : Cert.OutputsIdeal.Facts] : Prop :=
  ∀ (m : (ℓ : Loc Cert.OutputsIdeal.nD Cert.OutputsIdeal.τ Cert.OutputsIdeal.sig) → Buf (Elt Ideal) ℓ) (g : Dev Cert.OutputsIdeal.nD → PrngReg), Pre_OutputsIdeal m →
    θ_run (Cert.OutputsIdeal.defs (F := Ideal)) (onTc (τ := Cert.OutputsIdeal.τ) (Cert.OutputsIdeal.main (F := Ideal))) ⟨m, fun _ => 0, g⟩ (fun r => (∀ c : Dev Cert.OutputsIdeal.nD,
      r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0)
      ∧ r.2.mem ((c.tc : Thread Cert.OutputsIdeal.nD Cert.OutputsIdeal.τ).loc Cert.OutputsIdeal.main_arg1) = m ((c.tc : Thread Cert.OutputsIdeal.nD Cert.OutputsIdeal.τ).loc Cert.OutputsIdeal.main_arg1)
      ∧ r.2.mem ((c.tc : Thread Cert.OutputsIdeal.nD Cert.OutputsIdeal.τ).loc Cert.OutputsIdeal.main_arg2) = m ((c.tc : Thread Cert.OutputsIdeal.nD Cert.OutputsIdeal.τ).loc Cert.OutputsIdeal.main_arg2))
      ∧ r.2.sem = fun _ => 0)

def quiescent_OutputsReferenceIdeal [hOutputsReferenceIdeal : Cert.OutputsReferenceIdeal.Facts] : Prop :=
  ∀ (m : (ℓ : Loc Cert.OutputsReferenceIdeal.nD Cert.OutputsReferenceIdeal.τ Cert.OutputsReferenceIdeal.sig) → Buf (Elt Ideal) ℓ) (g : Dev Cert.OutputsReferenceIdeal.nD → PrngReg), Pre_OutputsReferenceIdeal m →
    θ_run (Cert.OutputsReferenceIdeal.defs (F := Ideal)) (onTc (τ := Cert.OutputsReferenceIdeal.τ) (Cert.OutputsReferenceIdeal.main (F := Ideal))) ⟨m, fun _ => 0, g⟩ (fun r => (∀ c : Dev Cert.OutputsReferenceIdeal.nD,
      r.2.mem ((c.tc : Thread Cert.OutputsReferenceIdeal.nD Cert.OutputsReferenceIdeal.τ).loc Cert.OutputsReferenceIdeal.main_arg0) = m ((c.tc : Thread Cert.OutputsReferenceIdeal.nD Cert.OutputsReferenceIdeal.τ).loc Cert.OutputsReferenceIdeal.main_arg0)
      ∧ r.2.mem ((c.tc : Thread Cert.OutputsReferenceIdeal.nD Cert.OutputsReferenceIdeal.τ).loc Cert.OutputsReferenceIdeal.main_arg1) = m ((c.tc : Thread Cert.OutputsReferenceIdeal.nD Cert.OutputsReferenceIdeal.τ).loc Cert.OutputsReferenceIdeal.main_arg1)
      ∧ r.2.mem ((c.tc : Thread Cert.OutputsReferenceIdeal.nD Cert.OutputsReferenceIdeal.τ).loc Cert.OutputsReferenceIdeal.main_arg2) = m ((c.tc : Thread Cert.OutputsReferenceIdeal.nD Cert.OutputsReferenceIdeal.τ).loc Cert.OutputsReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Outputs_OutputsIdeal : Prop :=
  True

def algebraic_OutputsIdeal_OutputsReferenceIdeal [hOutputsIdeal : Cert.OutputsIdeal.Facts] [hOutputsReferenceIdeal : Cert.OutputsReferenceIdeal.Facts] : Prop :=
  ∀ (m : (ℓ : Loc Cert.OutputsIdeal.nD Cert.OutputsIdeal.τ Cert.OutputsIdeal.sig) → Buf (Elt Ideal) ℓ) (g : Dev Cert.OutputsIdeal.nD → PrngReg)
    (m' : (ℓ : Loc Cert.OutputsReferenceIdeal.nD Cert.OutputsReferenceIdeal.τ Cert.OutputsReferenceIdeal.sig) → Buf (Elt Ideal) ℓ) (g' : Dev Cert.OutputsReferenceIdeal.nD → PrngReg), Pre_OutputsIdeal m →
    (∀ c : Dev Cert.OutputsIdeal.nD,
      m' ((c.tc : Thread Cert.OutputsReferenceIdeal.nD Cert.OutputsReferenceIdeal.τ).loc Cert.OutputsReferenceIdeal.main_arg0) = m ((c.tc : Thread Cert.OutputsIdeal.nD Cert.OutputsIdeal.τ).loc Cert.OutputsIdeal.main_arg0)
      ∧ m' ((c.tc : Thread Cert.OutputsReferenceIdeal.nD Cert.OutputsReferenceIdeal.τ).loc Cert.OutputsReferenceIdeal.main_arg1) = m ((c.tc : Thread Cert.OutputsIdeal.nD Cert.OutputsIdeal.τ).loc Cert.OutputsIdeal.main_arg1)
      ∧ m' ((c.tc : Thread Cert.OutputsReferenceIdeal.nD Cert.OutputsReferenceIdeal.τ).loc Cert.OutputsReferenceIdeal.main_arg2) = m ((c.tc : Thread Cert.OutputsIdeal.nD Cert.OutputsIdeal.τ).loc Cert.OutputsIdeal.main_arg2)) →
    ∃ (v0 : (c : Dev Cert.OutputsIdeal.nD) → Buf (Elt Ideal) ((c.tc : Thread Cert.OutputsIdeal.nD Cert.OutputsIdeal.τ).loc Cert.OutputsIdeal.main_v0_0)) (v1 : (c : Dev Cert.OutputsIdeal.nD) → Buf (Elt Ideal) ((c.tc : Thread Cert.OutputsIdeal.nD Cert.OutputsIdeal.τ).loc Cert.OutputsIdeal.main_v0_1)) (v2 : (c : Dev Cert.OutputsIdeal.nD) → Buf (Elt Ideal) ((c.tc : Thread Cert.OutputsIdeal.nD Cert.OutputsIdeal.τ).loc Cert.OutputsIdeal.main_v0_2)) (v3 : (c : Dev Cert.OutputsIdeal.nD) → Buf (Elt Ideal) ((c.tc : Thread Cert.OutputsIdeal.nD Cert.OutputsIdeal.τ).loc Cert.OutputsIdeal.main_v0_3)),
      θ_run (Cert.OutputsIdeal.defs (F := Ideal)) (onTc (τ := Cert.OutputsIdeal.τ) (Cert.OutputsIdeal.main (F := Ideal))) ⟨m, fun _ => 0, g⟩ (fun r => ∀ c : Dev Cert.OutputsIdeal.nD,
          r.2.mem ((c.tc : Thread Cert.OutputsIdeal.nD Cert.OutputsIdeal.τ).loc Cert.OutputsIdeal.main_v0_0) = v0 c
          ∧ r.2.mem ((c.tc : Thread Cert.OutputsIdeal.nD Cert.OutputsIdeal.τ).loc Cert.OutputsIdeal.main_v0_1) = v1 c
          ∧ r.2.mem ((c.tc : Thread Cert.OutputsIdeal.nD Cert.OutputsIdeal.τ).loc Cert.OutputsIdeal.main_v0_2) = v2 c
          ∧ r.2.mem ((c.tc : Thread Cert.OutputsIdeal.nD Cert.OutputsIdeal.τ).loc Cert.OutputsIdeal.main_v0_3) = v3 c
          ∧ r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0)
          ∧ r.2.mem ((c.tc : Thread Cert.OutputsIdeal.nD Cert.OutputsIdeal.τ).loc Cert.OutputsIdeal.main_arg1) = m ((c.tc : Thread Cert.OutputsIdeal.nD Cert.OutputsIdeal.τ).loc Cert.OutputsIdeal.main_arg1)
          ∧ r.2.mem ((c.tc : Thread Cert.OutputsIdeal.nD Cert.OutputsIdeal.τ).loc Cert.OutputsIdeal.main_arg2) = m ((c.tc : Thread Cert.OutputsIdeal.nD Cert.OutputsIdeal.τ).loc Cert.OutputsIdeal.main_arg2))
      ∧ θ_run (Cert.OutputsReferenceIdeal.defs (F := Ideal)) (onTc (τ := Cert.OutputsReferenceIdeal.τ) (Cert.OutputsReferenceIdeal.main (F := Ideal))) ⟨m', fun _ => 0, g'⟩ (fun r => ∀ c : Dev Cert.OutputsReferenceIdeal.nD,
          r.2.mem ((c.tc : Thread Cert.OutputsReferenceIdeal.nD Cert.OutputsReferenceIdeal.τ).loc Cert.OutputsReferenceIdeal.main_v0_0) = v0 c
          ∧ r.2.mem ((c.tc : Thread Cert.OutputsReferenceIdeal.nD Cert.OutputsReferenceIdeal.τ).loc Cert.OutputsReferenceIdeal.main_v0_1) = v1 c
          ∧ r.2.mem ((c.tc : Thread Cert.OutputsReferenceIdeal.nD Cert.OutputsReferenceIdeal.τ).loc Cert.OutputsReferenceIdeal.main_v0_2) = v2 c
          ∧ r.2.mem ((c.tc : Thread Cert.OutputsReferenceIdeal.nD Cert.OutputsReferenceIdeal.τ).loc Cert.OutputsReferenceIdeal.main_v0_3) = v3 c
          ∧ r.2.mem ((c.tc : Thread Cert.OutputsReferenceIdeal.nD Cert.OutputsReferenceIdeal.τ).loc Cert.OutputsReferenceIdeal.main_arg0) = m' ((c.tc : Thread Cert.OutputsReferenceIdeal.nD Cert.OutputsReferenceIdeal.τ).loc Cert.OutputsReferenceIdeal.main_arg0)
          ∧ r.2.mem ((c.tc : Thread Cert.OutputsReferenceIdeal.nD Cert.OutputsReferenceIdeal.τ).loc Cert.OutputsReferenceIdeal.main_arg1) = m' ((c.tc : Thread Cert.OutputsReferenceIdeal.nD Cert.OutputsReferenceIdeal.τ).loc Cert.OutputsReferenceIdeal.main_arg1)
          ∧ r.2.mem ((c.tc : Thread Cert.OutputsReferenceIdeal.nD Cert.OutputsReferenceIdeal.τ).loc Cert.OutputsReferenceIdeal.main_arg2) = m' ((c.tc : Thread Cert.OutputsReferenceIdeal.nD Cert.OutputsReferenceIdeal.τ).loc Cert.OutputsReferenceIdeal.main_arg2))

def Claim : Prop :=
  ∃ (hKernel : Cert.Kernel.Facts) (hKernelIdeal : Cert.KernelIdeal.Facts) (hReferenceIdeal : Cert.ReferenceIdeal.Facts) (hOutputs : Cert.Outputs.Facts) (hOutputsIdeal : Cert.OutputsIdeal.Facts) (hOutputsReferenceIdeal : Cert.OutputsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Outputs (hOutputs := hOutputs)
    ∧ quiescent_OutputsIdeal (hOutputsIdeal := hOutputsIdeal)
    ∧ quiescent_OutputsReferenceIdeal (hOutputsReferenceIdeal := hOutputsReferenceIdeal)
    ∧ preserves_Kernel_KernelIdeal
    ∧ algebraic_KernelIdeal_ReferenceIdeal (hKernelIdeal := hKernelIdeal) (hReferenceIdeal := hReferenceIdeal)
    ∧ preserves_Outputs_OutputsIdeal
    ∧ algebraic_OutputsIdeal_OutputsReferenceIdeal (hOutputsIdeal := hOutputsIdeal) (hOutputsReferenceIdeal := hOutputsReferenceIdeal)
-- ==== Kernel.lean ====
abbrev S77x32x768 : Shape := ⟨3, ![77, 32, 768]⟩
abbrev S12x77x32x768 : Shape := ⟨4, ![12, 77, 32, 768]⟩
abbrev S12x768 : Shape := ⟨2, ![12, 768]⟩
abbrev S12x768x2304 : Shape := ⟨3, ![12, 768, 2304]⟩
abbrev S12x2304 : Shape := ⟨2, ![12, 2304]⟩
abbrev S12x768x768 : Shape := ⟨3, ![12, 768, 768]⟩
abbrev S12x768x3072 : Shape := ⟨3, ![12, 768, 3072]⟩
abbrev S12x3072 : Shape := ⟨2, ![12, 3072]⟩
abbrev S12x3072x768 : Shape := ⟨3, ![12, 3072, 768]⟩
abbrev S77x8x768 : Shape := ⟨3, ![77, 8, 768]⟩
abbrev S1x77x8x768 : Shape := ⟨4, ![1, 77, 8, 768]⟩
abbrev S1x768x2304 : Shape := ⟨3, ![1, 768, 2304]⟩
abbrev S1x768x768 : Shape := ⟨3, ![1, 768, 768]⟩
abbrev S1x768x3072 : Shape := ⟨3, ![1, 768, 3072]⟩
abbrev S1x3072x768 : Shape := ⟨3, ![1, 3072, 768]⟩
abbrev S4x616x768 : Shape := ⟨3, ![4, 616, 768]⟩
abbrev S624x768 : Shape := ⟨2, ![624, 768]⟩
abbrev S624x3072 : Shape := ⟨2, ![624, 3072]⟩
abbrev S616x768 : Shape := ⟨2, ![616, 768]⟩
abbrev S1x616x768 : Shape := ⟨3, ![1, 616, 768]⟩
abbrev S1x768 : Shape := ⟨2, ![1, 768]⟩
abbrev S1x16x768 : Shape := ⟨3, ![1, 16, 768]⟩
abbrev S16x768 : Shape := ⟨2, ![16, 768]⟩
abbrev S16 : Shape := ⟨1, ![16]⟩
abbrev S16x1 : Shape := ⟨2, ![16, 1]⟩
abbrev S1x8x768 : Shape := ⟨3, ![1, 8, 768]⟩
abbrev S8x768 : Shape := ⟨2, ![8, 768]⟩
abbrev S8 : Shape := ⟨1, ![8]⟩
abbrev S8x1 : Shape := ⟨2, ![8, 1]⟩
abbrev S1x768x256 : Shape := ⟨3, ![1, 768, 256]⟩
abbrev S768x256 : Shape := ⟨2, ![768, 256]⟩
abbrev S624x256 : Shape := ⟨2, ![624, 256]⟩
abbrev S616x256 : Shape := ⟨2, ![616, 256]⟩
abbrev S1x256 : Shape := ⟨2, ![1, 256]⟩
abbrev S77x8x256 : Shape := ⟨3, ![77, 8, 256]⟩
abbrev S1x77x8x256 : Shape := ⟨4, ![1, 77, 8, 256]⟩
abbrev S1x616x256 : Shape := ⟨3, ![1, 616, 256]⟩
abbrev S1x3072x256 : Shape := ⟨3, ![1, 3072, 256]⟩
abbrev S3072x256 : Shape := ⟨2, ![3072, 256]⟩

abbrev nBuf : Space → Nat
  | .hbm => 20
  | .vmem => 31
  | .smem => 0
  | _ => 0

abbrev bufTy : (tb : Table) → Fin (tcTables nBuf tb) → BufTy
  | .hbm, ⟨0, _⟩ => ⟨S77x32x768, .f32⟩
  | .hbm, ⟨1, _⟩ => ⟨S12x77x32x768, .bf16⟩
  | .hbm, ⟨2, _⟩ => ⟨S12x768, .f32⟩
  | .hbm, ⟨3, _⟩ => ⟨S12x768, .f32⟩
  | .hbm, ⟨4, _⟩ => ⟨S12x768, .f32⟩
  | .hbm, ⟨5, _⟩ => ⟨S12x768, .f32⟩
  | .hbm, ⟨6, _⟩ => ⟨S12x768x2304, .i8⟩
  | .hbm, ⟨7, _⟩ => ⟨S12x2304, .f32⟩
  | .hbm, ⟨8, _⟩ => ⟨S12x2304, .f32⟩
  | .hbm, ⟨9, _⟩ => ⟨S12x768x768, .i8⟩
  | .hbm, ⟨10, _⟩ => ⟨S12x768, .f32⟩
  | .hbm, ⟨11, _⟩ => ⟨S12x768, .f32⟩
  | .hbm, ⟨12, _⟩ => ⟨S12x768x3072, .i8⟩
  | .hbm, ⟨13, _⟩ => ⟨S12x3072, .f32⟩
  | .hbm, ⟨14, _⟩ => ⟨S12x3072, .f32⟩
  | .hbm, ⟨15, _⟩ => ⟨S12x3072x768, .i8⟩
  | .hbm, ⟨16, _⟩ => ⟨S12x768, .f32⟩
  | .hbm, ⟨17, _⟩ => ⟨S12x768, .f32⟩
  | .hbm, ⟨18, _⟩ => ⟨S12x77x32x768, .f32⟩
  | .hbm, ⟨19, _⟩ => ⟨S12x77x32x768, .bf16⟩
  | .local _ .vmem, ⟨0, _⟩ => ⟨S77x8x768, .f32⟩
  | .local _ .vmem, ⟨1, _⟩ => ⟨S77x8x768, .f32⟩
  | .local _ .vmem, ⟨2, _⟩ => ⟨S1x77x8x768, .bf16⟩
  | .local _ .vmem, ⟨3, _⟩ => ⟨S1x77x8x768, .bf16⟩
  | .local _ .vmem, ⟨4, _⟩ => ⟨S12x768, .f32⟩
  | .local _ .vmem, ⟨5, _⟩ => ⟨S12x768, .f32⟩
  | .local _ .vmem, ⟨6, _⟩ => ⟨S12x768, .f32⟩
  | .local _ .vmem, ⟨7, _⟩ => ⟨S12x768, .f32⟩
  | .local _ .vmem, ⟨8, _⟩ => ⟨S1x768x2304, .i8⟩
  | .local _ .vmem, ⟨9, _⟩ => ⟨S1x768x2304, .i8⟩
  | .local _ .vmem, ⟨10, _⟩ => ⟨S12x2304, .f32⟩
  | .local _ .vmem, ⟨11, _⟩ => ⟨S12x2304, .f32⟩
  | .local _ .vmem, ⟨12, _⟩ => ⟨S1x768x768, .i8⟩
  | .local _ .vmem, ⟨13, _⟩ => ⟨S1x768x768, .i8⟩
  | .local _ .vmem, ⟨14, _⟩ => ⟨S12x768, .f32⟩
  | .local _ .vmem, ⟨15, _⟩ => ⟨S12x768, .f32⟩
  | .local _ .vmem, ⟨16, _⟩ => ⟨S1x768x3072, .i8⟩
  | .local _ .vmem, ⟨17, _⟩ => ⟨S1x768x3072, .i8⟩
  | .local _ .vmem, ⟨18, _⟩ => ⟨S12x3072, .f32⟩
  | .local _ .vmem, ⟨19, _⟩ => ⟨S12x3072, .f32⟩
  | .local _ .vmem, ⟨20, _⟩ => ⟨S1x3072x768, .i8⟩
  | .local _ .vmem, ⟨21, _⟩ => ⟨S1x3072x768, .i8⟩
  | .local _ .vmem, ⟨22, _⟩ => ⟨S12x768, .f32⟩
  | .local _ .vmem, ⟨23, _⟩ => ⟨S12x768, .f32⟩
  | .local _ .vmem, ⟨24, _⟩ => ⟨S1x77x8x768, .f32⟩
  | .local _ .vmem, ⟨25, _⟩ => ⟨S1x77x8x768, .f32⟩
  | .local _ .vmem, ⟨26, _⟩ => ⟨S1x77x8x768, .bf16⟩
  | .local _ .vmem, ⟨27, _⟩ => ⟨S1x77x8x768, .bf16⟩
  | .local _ .vmem, ⟨28, _⟩ => ⟨S4x616x768, .f32⟩
  | .local _ .vmem, ⟨29, _⟩ => ⟨S624x768, .bf16⟩
  | .local _ .vmem, ⟨30, _⟩ => ⟨S624x3072, .bf16⟩
  | _, _ => ⟨S77x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![12, 4], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v2595 : Index := Scalar.indexCast arg1
  let c0_922 : Index := 0#32
  let c0_923 : Index := 0#32
  ![v2595.toNat, 0, 0]
def k0_off2 (i : grid0.Coords) : Fin 2 → Nat :=
  let arg0 : BitVec 32 := BitVec.ofNat 32 (i 0).val
  let v8 : Index := Scalar.indexCast arg0
  let c0 : Index := 0#32
  ![v8.toNat, 0]
def k0_off3 (i : grid0.Coords) : Fin 3 → Nat :=
  let arg1 : BitVec 32 := BitVec.ofNat 32 (i 1).val
  let v12 : Index := Scalar.indexCast arg1
  let c0_5 : Index := 0#32
  let c0_6 : Index := 0#32
  ![v12.toNat, 0, 0]
def k0_off4 (i : grid0.Coords) : Fin 3 → Nat :=
  let arg1 : BitVec 32 := BitVec.ofNat 32 (i 1).val
  let v39 : Index := Scalar.indexCast arg1
  let c16 : Index := 16#32
  let c0_13 : Index := 0#32
  ![v39.toNat, 16, 0]
def k0_off5 (i : grid0.Coords) : Fin 3 → Nat :=
  let arg1 : BitVec 32 := BitVec.ofNat 32 (i 1).val
  let v66 : Index := Scalar.indexCast arg1
  let c32 : Index := 32#32
  let c0_21 : Index := 0#32
  ![v66.toNat, 32, 0]
def k0_off6 (i : grid0.Coords) : Fin 3 → Nat :=
  let arg1 : BitVec 32 := BitVec.ofNat 32 (i 1).val
  let v93 : Index := Scalar.indexCast arg1
  let c48 : Index := 48#32
  let c0_29 : Index := 0#32
  ![v93.toNat, 48, 0]
def k0_off7 (i : grid0.Coords) : Fin 3 → Nat :=
  let arg1 : BitVec 32 := BitVec.ofNat 32 (i 1).val
  let v120 : Index := Scalar.indexCast arg1
  let c64 : Index := 64#32
  let c0_37 : Index := 0#32
  ![v120.toNat, 64, 0]
def k0_off8 (i : grid0.Coords) : Fin 3 → Nat :=
  let arg1 : BitVec 32 := BitVec.ofNat 32 (i 1).val
  let v147 : Index := Scalar.indexCast arg1
  let c80 : Index := 80#32
  let c0_45 : Index := 0#32
  ![v147.toNat, 80, 0]
def k0_off9 (i : grid0.Coords) : Fin 3 → Nat :=
  let arg1 : BitVec 32 := BitVec.ofNat 32 (i 1).val
  let v174 : Index := Scalar.indexCast arg1
  let c96 : Index := 96#32
  let c0_53 : Index := 0#32
  ![v174.toNat, 96, 0]
def k0_off10 (i : grid0.Coords) : Fin 3 → Nat :=
  let arg1 : BitVec 32 := BitVec.ofNat 32 (i 1).val
  let v201 : Index := Scalar.indexCast arg1
  let c112 : Index := 112#32
  let c0_61 : Index := 0#32
  ![v201.toNat, 112, 0]
def k0_off11 (i : grid0.Coords) : Fin 3 → Nat :=
  let arg1 : BitVec 32 := BitVec.ofNat 32 (i 1).val
  let v228 : Index := Scalar.indexCast arg1
  let c128 : Index := 128#32
  let c0_69 : Index := 0#32
  ![v228.toNat, 128, 0]
def k0_off12 (i : grid0.Coords) : Fin 3 → Nat :=
  let arg1 : BitVec 32 := BitVec.ofNat 32 (i 1).val
  let v255 : Index := Scalar.indexCast arg1
  let c144 : Index := 144#32
  let c0_77 : Index := 0#32
  ![v255.toNat, 144, 0]
def k0_off13 (i : grid0.Coords) : Fin 3 → Nat :=
  let arg1 : BitVec 32 := BitVec.ofNat 32 (i 1).val
  let v282 : Index := Scalar.indexCast arg1
  let c160 : Index := 160#32
  let c0_85 : Index := 0#32
  ![v282.toNat, 160, 0]
def k0_off14 (i : grid0.Coords) : Fin 3 → Nat :=
  let arg1 : BitVec 32 := BitVec.ofNat 32 (i 1).val
  let v309 : Index := Scalar.indexCast arg1
  let c176 : Index := 176#32
  let c0_93 : Index := 0#32
  ![v309.toNat, 176, 0]
def k0_off15 (i : grid0.Coords) : Fin 3 → Nat :=
  let arg1 : BitVec 32 := BitVec.ofNat 32 (i 1).val
  let v336 : Index := Scalar.indexCast arg1
  let c192 : Index := 192#32
  let c0_101 : Index := 0#32
  ![v336.toNat, 192, 0]
def k0_off16 (i : grid0.Coords) : Fin 3 → Nat :=
  let arg1 : BitVec 32 := BitVec.ofNat 32 (i 1).val
  let v363 : Index := Scalar.indexCast arg1
  let c208 : Index := 208#32
  let c0_109 : Index := 0#32
  ![v363.toNat, 208, 0]
def k0_off17 (i : grid0.Coords) : Fin 3 → Nat :=
  let arg1 : BitVec 32 := BitVec.ofNat 32 (i 1).val
  let v390 : Index := Scalar.indexCast arg1
  let c224 : Index := 224#32
  let c0_117 : Index := 0#32
  ![v390.toNat, 224, 0]
def k0_off18 (i : grid0.Coords) : Fin 3 → Nat :=
  let arg1 : BitVec 32 := BitVec.ofNat 32 (i 1).val
  let v417 : Index := Scalar.indexCast arg1
  let c240 : Index := 240#32
  let c0_125 : Index := 0#32
  ![v417.toNat, 240, 0]
def k0_off19 (i : grid0.Coords) : Fin 3 → Nat :=
  let arg1 : BitVec 32 := BitVec.ofNat 32 (i 1).val
  let v444 : Index := Scalar.indexCast arg1
  let c256 : Index := 256#32
  let c0_133 : Index := 0#32
  ![v444.toNat, 256, 0]
def k0_off20 (i : grid0.Coords) : Fin 3 → Nat :=
  let arg1 : BitVec 32 := BitVec.ofNat 32 (i 1).val
  let v471 : Index := Scalar.indexCast arg1
  let c272 : Index := 272#32
  let c0_141 : Index := 0#32
  ![v471.toNat, 272, 0]
def k0_off21 (i : grid0.Coords) : Fin 3 → Nat :=
  let arg1 : BitVec 32 := BitVec.ofNat 32 (i 1).val
  let v498 : Index := Scalar.indexCast arg1
  let c288 : Index := 288#32
  let c0_149 : Index := 0#32
  ![v498.toNat, 288, 0]
def k0_off22 (i : grid0.Coords) : Fin 3 → Nat :=
  let arg1 : BitVec 32 := BitVec.ofNat 32 (i 1).val
  let v525 : Index := Scalar.indexCast arg1
  let c304 : Index := 304#32
  let c0_157 : Index := 0#32
  ![v525.toNat, 304, 0]
def k0_off23 (i : grid0.Coords) : Fin 3 → Nat :=
  let arg1 : BitVec 32 := BitVec.ofNat 32 (i 1).val
  let v552 : Index := Scalar.indexCast arg1
  let c320 : Index := 320#32
  let c0_165 : Index := 0#32
  ![v552.toNat, 320, 0]
def k0_off24 (i : grid0.Coords) : Fin 3 → Nat :=
  let arg1 : BitVec 32 := BitVec.ofNat 32 (i 1).val
  let v579 : Index := Scalar.indexCast arg1
  let c336 : Index := 336#32
  let c0_173 : Index := 0#32
  ![v579.toNat, 336, 0]
def k0_off25 (i : grid0.Coords) : Fin 3 → Nat :=
  let arg1 : BitVec 32 := BitVec.ofNat 32 (i 1).val
  let v606 : Index := Scalar.indexCast arg1
  let c352 : Index := 352#32
  let c0_181 : Index := 0#32
  ![v606.toNat, 352, 0]
def k0_off26 (i : grid0.Coords) : Fin 3 → Nat :=
  let arg1 : BitVec 32 := BitVec.ofNat 32 (i 1).val
  let v633 : Index := Scalar.indexCast arg1
  let c368 : Index := 368#32
  let c0_189 : Index := 0#32
  ![v633.toNat, 368, 0]
def k0_off27 (i : grid0.Coords) : Fin 3 → Nat :=
  let arg1 : BitVec 32 := BitVec.ofNat 32 (i 1).val
  let v660 : Index := Scalar.indexCast arg1
  let c384 : Index := 384#32
  let c0_197 : Index := 0#32
  ![v660.toNat, 384, 0]
def k0_off28 (i : grid0.Coords) : Fin 3 → Nat :=
  let arg1 : BitVec 32 := BitVec.ofNat 32 (i 1).val
  let v687 : Index := Scalar.indexCast arg1
  let c400 : Index := 400#32
  let c0_205 : Index := 0#32
  ![v687.toNat, 400, 0]
def k0_off29 (i : grid0.Coords) : Fin 3 → Nat :=
  let arg1 : BitVec 32 := BitVec.ofNat 32 (i 1).val
  let v714 : Index := Scalar.indexCast arg1
  let c416 : Index := 416#32
  let c0_213 : Index := 0#32
  ![v714.toNat, 416, 0]
def k0_off30 (i : grid0.Coords) : Fin 3 → Nat :=
  let arg1 : BitVec 32 := BitVec.ofNat 32 (i 1).val
  let v741 : Index := Scalar.indexCast arg1
  let c432 : Index := 432#32
  let c0_221 : Index := 0#32
  ![v741.toNat, 432, 0]
def k0_off31 (i : grid0.Coords) : Fin 3 → Nat :=
  let arg1 : BitVec 32 := BitVec.ofNat 32 (i 1).val
  let v768 : Index := Scalar.indexCast arg1
  let c448 : Index := 448#32
  let c0_229 : Index := 0#32
  ![v768.toNat, 448, 0]
def k0_off32 (i : grid0.Coords) : Fin 3 → Nat :=
  let arg1 : BitVec 32 := BitVec.ofNat 32 (i 1).val
  let v795 : Index := Scalar.indexCast arg1
  let c464 : Index := 464#32
  let c0_237 : Index := 0#32
  ![v795.toNat, 464, 0]
def k0_off33 (i : grid0.Coords) : Fin 3 → Nat :=
  let arg1 : BitVec 32 := BitVec.ofNat 32 (i 1).val
  let v822 : Index := Scalar.indexCast arg1
  let c480 : Index := 480#32
  let c0_245 : Index := 0#32
  ![v822.toNat, 480, 0]
def k0_off34 (i : grid0.Coords) : Fin 3 → Nat :=
  let arg1 : BitVec 32 := BitVec.ofNat 32 (i 1).val
  let v849 : Index := Scalar.indexCast arg1
  let c496 : Index := 496#32
  let c0_253 : Index := 0#32
  ![v849.toNat, 496, 0]
def k0_off35 (i : grid0.Coords) : Fin 3 → Nat :=
  let arg1 : BitVec 32 := BitVec.ofNat 32 (i 1).val
  let v876 : Index := Scalar.indexCast arg1
  let c512 : Index := 512#32
  let c0_261 : Index := 0#32
  ![v876.toNat, 512, 0]
def k0_off36 (i : grid0.Coords) : Fin 3 → Nat :=
  let arg1 : BitVec 32 := BitVec.ofNat 32 (i 1).val
  let v903 : Index := Scalar.indexCast arg1
  let c528 : Index := 528#32
  let c0_269 : Index := 0#32
  ![v903.toNat, 528, 0]
def k0_off37 (i : grid0.Coords) : Fin 3 → Nat :=
  let arg1 : BitVec 32 := BitVec.ofNat 32 (i 1).val
  let v930 : Index := Scalar.indexCast arg1
  let c544 : Index := 544#32
  let c0_277 : Index := 0#32
  ![v930.toNat, 544, 0]
def k0_off38 (i : grid0.Coords) : Fin 3 → Nat :=
  let arg1 : BitVec 32 := BitVec.ofNat 32 (i 1).val
  let v957 : Index := Scalar.indexCast arg1
  let c560 : Index := 560#32
  let c0_285 : Index := 0#32
  ![v957.toNat, 560, 0]
def k0_off39 (i : grid0.Coords) : Fin 3 → Nat :=
  let arg1 : BitVec 32 := BitVec.ofNat 32 (i 1).val
  let v984 : Index := Scalar.indexCast arg1
  let c576 : Index := 576#32
  let c0_293 : Index := 0#32
  ![v984.toNat, 576, 0]
def k0_off40 (i : grid0.Coords) : Fin 3 → Nat :=
  let arg1 : BitVec 32 := BitVec.ofNat 32 (i 1).val
  let v1011 : Index := Scalar.indexCast arg1
  let c592 : Index := 592#32
  let c0_301 : Index := 0#32
  ![v1011.toNat, 592, 0]
def k0_off41 (i : grid0.Coords) : Fin 3 → Nat :=
  let arg1 : BitVec 32 := BitVec.ofNat 32 (i 1).val
  let v1038 : Index := Scalar.indexCast arg1
  let c608 : Index := 608#32
  let c0_309 : Index := 0#32
  ![v1038.toNat, 608, 0]
def k0_off42 (i : grid0.Coords) : Fin 2 → Nat :=
  let arg0 : BitVec 32 := BitVec.ofNat 32 (i 0).val
  let v1071 : Index := Scalar.indexCast arg0
  let c768_322 : Index := 768#32
  ![v1071.toNat, 768]
def k0_off43 (i : grid0.Coords) : Fin 2 → Nat :=
  let arg0 : BitVec 32 := BitVec.ofNat 32 (i 0).val
  let v1090 : Index := Scalar.indexCast arg0
  let c1024_333 : Index := 1024#32
  ![v1090.toNat, 1024]
def k0_off44 (i : grid0.Coords) : Fin 2 → Nat :=
  let arg0 : BitVec 32 := BitVec.ofNat 32 (i 0).val
  let v1109 : Index := Scalar.indexCast arg0
  let c1280_344 : Index := 1280#32
  ![v1109.toNat, 1280]
def k0_off45 (i : grid0.Coords) : Fin 3 → Nat :=
  let arg1 : BitVec 32 := BitVec.ofNat 32 (i 1).val
  let v1134 : Index := Scalar.indexCast arg1
  let c0_362 : Index := 0#32
  let c0_363 : Index := 0#32
  ![v1134.toNat, 0, 0]
def k0_off46 (i : grid0.Coords) : Fin 2 → Nat :=
  let arg0 : BitVec 32 := BitVec.ofNat 32 (i 0).val
  let v1137 : Index := Scalar.indexCast arg0
  let c0_364 : Index := 0#32
  ![v1137.toNat, 0]
def k0_off47 (i : grid0.Coords) : Fin 3 → Nat :=
  let arg1 : BitVec 32 := BitVec.ofNat 32 (i 1).val
  let v1156 : Index := Scalar.indexCast arg1
  let c0_374 : Index := 0#32
  let c256_375 : Index := 256#32
  ![v1156.toNat, 0, 256]
def k0_off48 (i : grid0.Coords) : Fin 2 → Nat :=
  let arg0 : BitVec 32 := BitVec.ofNat 32 (i 0).val
  let v1159 : Index := Scalar.indexCast arg0
  let c256_376 : Index := 256#32
  ![v1159.toNat, 256]
def k0_off49 (i : grid0.Coords) : Fin 3 → Nat :=
  let arg1 : BitVec 32 := BitVec.ofNat 32 (i 1).val
  let v1178 : Index := Scalar.indexCast arg1
  let c0_386 : Index := 0#32
  let c512_387 : Index := 512#32
  ![v1178.toNat, 0, 512]
def k0_off50 (i : grid0.Coords) : Fin 2 → Nat :=
  let arg0 : BitVec 32 := BitVec.ofNat 32 (i 0).val
  let v1181 : Index := Scalar.indexCast arg0
  let c512_388 : Index := 512#32
  ![v1181.toNat, 512]
def k0_off51 (i : grid0.Coords) : Fin 2 → Nat :=
  let arg0 : BitVec 32 := BitVec.ofNat 32 (i 0).val
  let v2257 : Index := Scalar.indexCast arg0
  let c0_751 : Index := 0#32
  ![v2257.toNat, 0]
def k0_off52 (i : grid0.Coords) : Fin 2 → Nat :=
  let arg0 : BitVec 32 := BitVec.ofNat 32 (i 0).val
  let v2279 : Index := Scalar.indexCast arg0
  let c256_762 : Index := 256#32
  ![v2279.toNat, 256]
def k0_off53 (i : grid0.Coords) : Fin 2 → Nat :=
  let arg0 : BitVec 32 := BitVec.ofNat 32 (i 0).val
  let v2301 : Index := Scalar.indexCast arg0
  let c512_773 : Index := 512#32
  ![v2301.toNat, 512]
def k0_off54 (i : grid0.Coords) : Fin 2 → Nat :=
  let arg0 : BitVec 32 := BitVec.ofNat 32 (i 0).val
  let v2323 : Index := Scalar.indexCast arg0
  let c768_784 : Index := 768#32
  ![v2323.toNat, 768]
def k0_off55 (i : grid0.Coords) : Fin 2 → Nat :=
  let arg0 : BitVec 32 := BitVec.ofNat 32 (i 0).val
  let v2345 : Index := Scalar.indexCast arg0
  let c1024_795 : Index := 1024#32
  ![v2345.toNat, 1024]
def k0_off56 (i : grid0.Coords) : Fin 2 → Nat :=
  let arg0 : BitVec 32 := BitVec.ofNat 32 (i 0).val
  let v2367 : Index := Scalar.indexCast arg0
  let c1280_806 : Index := 1280#32
  ![v2367.toNat, 1280]
def k0_off57 (i : grid0.Coords) : Fin 2 → Nat :=
  let arg0 : BitVec 32 := BitVec.ofNat 32 (i 0).val
  let v2389 : Index := Scalar.indexCast arg0
  let c1536_816 : Index := 1536#32
  ![v2389.toNat, 1536]
def k0_off58 (i : grid0.Coords) : Fin 2 → Nat :=
  let arg0 : BitVec 32 := BitVec.ofNat 32 (i 0).val
  let v2411 : Index := Scalar.indexCast arg0
  let c1792_826 : Index := 1792#32
  ![v2411.toNat, 1792]
def k0_off59 (i : grid0.Coords) : Fin 2 → Nat :=
  let arg0 : BitVec 32 := BitVec.ofNat 32 (i 0).val
  let v2433 : Index := Scalar.indexCast arg0
  let c2048_836 : Index := 2048#32
  ![v2433.toNat, 2048]
def k0_off60 (i : grid0.Coords) : Fin 2 → Nat :=
  let arg0 : BitVec 32 := BitVec.ofNat 32 (i 0).val
  let v2455 : Index := Scalar.indexCast arg0
  let c2304_846 : Index := 2304#32
  ![v2455.toNat, 2304]
def k0_off61 (i : grid0.Coords) : Fin 2 → Nat :=
  let arg0 : BitVec 32 := BitVec.ofNat 32 (i 0).val
  let v2477 : Index := Scalar.indexCast arg0
  let c2560_856 : Index := 2560#32
  ![v2477.toNat, 2560]
def k0_off62 (i : grid0.Coords) : Fin 2 → Nat :=
  let arg0 : BitVec 32 := BitVec.ofNat 32 (i 0).val
  let v2499 : Index := Scalar.indexCast arg0
  let c2816_866 : Index := 2816#32
  ![v2499.toNat, 2816]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S77x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x77x8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S12x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x2304 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S12x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S12x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x768x768 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S12x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S12x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x768x3072 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S12x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S12x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x3072x768 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S12x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S12x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x77x8x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x77x8x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S77x32x768 : Shape := ⟨3, ![77, 32, 768]⟩
abbrev S12x77x32x768 : Shape := ⟨4, ![12, 77, 32, 768]⟩
abbrev S12x768 : Shape := ⟨2, ![12, 768]⟩
abbrev S12x768x2304 : Shape := ⟨3, ![12, 768, 2304]⟩
abbrev S12x2304 : Shape := ⟨2, ![12, 2304]⟩
abbrev S12x768x768 : Shape := ⟨3, ![12, 768, 768]⟩
abbrev S12x768x3072 : Shape := ⟨3, ![12, 768, 3072]⟩
abbrev S12x3072 : Shape := ⟨2, ![12, 3072]⟩
abbrev S12x3072x768 : Shape := ⟨3, ![12, 3072, 768]⟩
abbrev S2464x768 : Shape := ⟨2, ![2464, 768]⟩
abbrev S1x768 : Shape := ⟨2, ![1, 768]⟩
abbrev S768 : Shape := ⟨1, ![768]⟩
abbrev S2464 : Shape := ⟨1, ![2464]⟩
abbrev S2464x1 : Shape := ⟨2, ![2464, 1]⟩
abbrev S1x768x2304 : Shape := ⟨3, ![1, 768, 2304]⟩
abbrev S768x2304 : Shape := ⟨2, ![768, 2304]⟩
abbrev S1x2304 : Shape := ⟨2, ![1, 2304]⟩
abbrev S2304 : Shape := ⟨1, ![2304]⟩
abbrev S2464x2304 : Shape := ⟨2, ![2464, 2304]⟩
abbrev S1x77x32x768 : Shape := ⟨4, ![1, 77, 32, 768]⟩
abbrev S1x768x768 : Shape := ⟨3, ![1, 768, 768]⟩
abbrev S768x768 : Shape := ⟨2, ![768, 768]⟩
abbrev S1x768x3072 : Shape := ⟨3, ![1, 768, 3072]⟩
abbrev S768x3072 : Shape := ⟨2, ![768, 3072]⟩
abbrev S1x3072 : Shape := ⟨2, ![1, 3072]⟩
abbrev S3072 : Shape := ⟨1, ![3072]⟩
abbrev S2464x3072 : Shape := ⟨2, ![2464, 3072]⟩
abbrev S1x3072x768 : Shape := ⟨3, ![1, 3072, 768]⟩
abbrev S3072x768 : Shape := ⟨2, ![3072, 768]⟩

abbrev nBuf : Space → Nat
  | .hbm => 20
  | .vmem => 20
  | .smem => 0
  | _ => 0

abbrev bufTy : (tb : Table) → Fin (tcTables nBuf tb) → BufTy
  | .hbm, ⟨0, _⟩ => ⟨S77x32x768, .f32⟩
  | .hbm, ⟨1, _⟩ => ⟨S12x77x32x768, .bf16⟩
  | .hbm, ⟨2, _⟩ => ⟨S12x768, .f32⟩
  | .hbm, ⟨3, _⟩ => ⟨S12x768, .f32⟩
  | .hbm, ⟨4, _⟩ => ⟨S12x768, .f32⟩
  | .hbm, ⟨5, _⟩ => ⟨S12x768, .f32⟩
  | .hbm, ⟨6, _⟩ => ⟨S12x768x2304, .i8⟩
  | .hbm, ⟨7, _⟩ => ⟨S12x2304, .f32⟩
  | .hbm, ⟨8, _⟩ => ⟨S12x2304, .f32⟩
  | .hbm, ⟨9, _⟩ => ⟨S12x768x768, .i8⟩
  | .hbm, ⟨10, _⟩ => ⟨S12x768, .f32⟩
  | .hbm, ⟨11, _⟩ => ⟨S12x768, .f32⟩
  | .hbm, ⟨12, _⟩ => ⟨S12x768x3072, .i8⟩
  | .hbm, ⟨13, _⟩ => ⟨S12x3072, .f32⟩
  | .hbm, ⟨14, _⟩ => ⟨S12x3072, .f32⟩
  | .hbm, ⟨15, _⟩ => ⟨S12x3072x768, .i8⟩
  | .hbm, ⟨16, _⟩ => ⟨S12x768, .f32⟩
  | .hbm, ⟨17, _⟩ => ⟨S12x768, .f32⟩
  | .hbm, ⟨18, _⟩ => ⟨S12x77x32x768, .f32⟩
  | .hbm, ⟨19, _⟩ => ⟨S12x77x32x768, .bf16⟩
  | .local _ .vmem, ⟨0, _⟩ => ⟨S77x32x768, .f32⟩
  | .local _ .vmem, ⟨1, _⟩ => ⟨S12x77x32x768, .bf16⟩
  | .local _ .vmem, ⟨2, _⟩ => ⟨S12x768, .f32⟩
  | .local _ .vmem, ⟨3, _⟩ => ⟨S12x768, .f32⟩
  | .local _ .vmem, ⟨4, _⟩ => ⟨S12x768, .f32⟩
  | .local _ .vmem, ⟨5, _⟩ => ⟨S12x768, .f32⟩
  | .local _ .vmem, ⟨6, _⟩ => ⟨S12x768x2304, .i8⟩
  | .local _ .vmem, ⟨7, _⟩ => ⟨S12x2304, .f32⟩
  | .local _ .vmem, ⟨8, _⟩ => ⟨S12x2304, .f32⟩
  | .local _ .vmem, ⟨9, _⟩ => ⟨S12x768x768, .i8⟩
  | .local _ .vmem, ⟨10, _⟩ => ⟨S12x768, .f32⟩
  | .local _ .vmem, ⟨11, _⟩ => ⟨S12x768, .f32⟩
  | .local _ .vmem, ⟨12, _⟩ => ⟨S12x768x3072, .i8⟩
  | .local _ .vmem, ⟨13, _⟩ => ⟨S12x3072, .f32⟩
  | .local _ .vmem, ⟨14, _⟩ => ⟨S12x3072, .f32⟩
  | .local _ .vmem, ⟨15, _⟩ => ⟨S12x3072x768, .i8⟩
  | .local _ .vmem, ⟨16, _⟩ => ⟨S12x768, .f32⟩
  | .local _ .vmem, ⟨17, _⟩ => ⟨S12x768, .f32⟩
  | .local _ .vmem, ⟨18, _⟩ => ⟨S12x77x32x768, .f32⟩
  | .local _ .vmem, ⟨19, _⟩ => ⟨S12x77x32x768, .bf16⟩
  | _, _ => ⟨S77x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v2 : BitVec 32 := Scalar.addi c0_i32 c12_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let v4 : Index := Scalar.indexCast arg20
  let c0_3 : Index := 0#32
  ![v4.toNat, 0]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let v32 : Index := Scalar.indexCast arg20
  let c0_9 : Index := 0#32
  let c0_10 : Index := 0#32
  ![v32.toNat, 0, 0]
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let v35 : Index := Scalar.indexCast arg20
  let c0_11 : Index := 0#32
  ![v35.toNat, 0]
def k0_off4 (k0_t1 : Fin k0_t1_loop.trips) : Fin 4 → Nat :=
  let c0_i32 : BitVec 32 := 0#32
  let c1_i32 : BitVec 32 := 1#32
  let arg20 : BitVec 32 := Scf.iv c0_i32 c1_i32 k0_t1
  let v53 : Index := Scalar.indexCast arg20
  let c0_14 : Index := 0#32
  let c0_15 : Index := 0#32
  let c0_16 : Index := 0#32
  ![v53.toNat, 0, 0, 0]
def k0_off5 (k0_t1 : Fin k0_t1_loop.trips) : Fin 3 → Nat :=
  let c0_i32 : BitVec 32 := 0#32
  let c1_i32 : BitVec 32 := 1#32
  let arg20 : BitVec 32 := Scf.iv c0_i32 c1_i32 k0_t1
  let v61 : Index := Scalar.indexCast arg20
  let c0_20 : Index := 0#32
  let c0_21 : Index := 0#32
  ![v61.toNat, 0, 0]
def k0_off6 (k0_t1 : Fin k0_t1_loop.trips) : Fin 3 → Nat :=
  let c0_i32 : BitVec 32 := 0#32
  let c1_i32 : BitVec 32 := 1#32
  let arg20 : BitVec 32 := Scf.iv c0_i32 c1_i32 k0_t1
  let v107 : Index := Scalar.indexCast arg20
  let c0_32 : Index := 0#32
  let c0_33 : Index := 0#32
  ![v107.toNat, 0, 0]
def k0_off7 (k0_t1 : Fin k0_t1_loop.trips) : Fin 2 → Nat :=
  let c0_i32 : BitVec 32 := 0#32
  let c1_i32 : BitVec 32 := 1#32
  let arg20 : BitVec 32 := Scf.iv c0_i32 c1_i32 k0_t1
  let v110 : Index := Scalar.indexCast arg20
  let c0_34 : Index := 0#32
  ![v110.toNat, 0]
def k0_off8 (k0_t1 : Fin k0_t1_loop.trips) : Fin 3 → Nat :=
  let c0_i32 : BitVec 32 := 0#32
  let c1_i32 : BitVec 32 := 1#32
  let arg20 : BitVec 32 := Scf.iv c0_i32 c1_i32 k0_t1
  let v129 : Index := Scalar.indexCast arg20
  let c0_38 : Index := 0#32
  let c0_39 : Index := 0#32
  ![v129.toNat, 0, 0]
abbrev stage0_0 : Fin 1 → Memref sig .tc .vmem S77x32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x77x32x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x768x2304 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x768x768 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x768x3072 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x3072x768 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12x77x32x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S12x77x32x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Outputs.lean ====
abbrev S12x77x32x768 : Shape := ⟨4, ![12, 77, 32, 768]⟩
abbrev S1x768 : Shape := ⟨2, ![1, 768]⟩
abbrev S77x32x768 : Shape := ⟨3, ![77, 32, 768]⟩
abbrev S32x77 : Shape := ⟨2, ![32, 77]⟩
abbrev S1x77x32x768 : Shape := ⟨4, ![1, 77, 32, 768]⟩
abbrev S32x128 : Shape := ⟨2, ![32, 128]⟩
abbrev S1x1x32x768 : Shape := ⟨4, ![1, 1, 32, 768]⟩
abbrev S32x768 : Shape := ⟨2, ![32, 768]⟩
abbrev S32 : Shape := ⟨1, ![32]⟩
abbrev S32x1 : Shape := ⟨2, ![32, 1]⟩
abbrev S1x32x768 : Shape := ⟨3, ![1, 32, 768]⟩

abbrev nBuf : Space → Nat
  | .hbm => 7
  | .vmem => 8
  | .smem => 0
  | _ => 0

abbrev bufTy : (tb : Table) → Fin (tcTables nBuf tb) → BufTy
  | .hbm, ⟨0, _⟩ => ⟨S12x77x32x768, .f32⟩
  | .hbm, ⟨1, _⟩ => ⟨S1x768, .f32⟩
  | .hbm, ⟨2, _⟩ => ⟨S1x768, .f32⟩
  | .hbm, ⟨3, _⟩ => ⟨S77x32x768, .fp8e4m3⟩
  | .hbm, ⟨4, _⟩ => ⟨S32x77, .f32⟩
  | .hbm, ⟨5, _⟩ => ⟨S77x32x768, .fp8e4m3⟩
  | .hbm, ⟨6, _⟩ => ⟨S32x77, .f32⟩
  | .local _ .vmem, ⟨0, _⟩ => ⟨S1x77x32x768, .f32⟩
  | .local _ .vmem, ⟨1, _⟩ => ⟨S1x77x32x768, .f32⟩
  | .local _ .vmem, ⟨2, _⟩ => ⟨S1x768, .f32⟩
  | .local _ .vmem, ⟨3, _⟩ => ⟨S1x768, .f32⟩
  | .local _ .vmem, ⟨4, _⟩ => ⟨S77x32x768, .fp8e4m3⟩
  | .local _ .vmem, ⟨5, _⟩ => ⟨S32x77, .f32⟩
  | .local _ .vmem, ⟨6, _⟩ => ⟨S77x32x768, .fp8e4m3⟩
  | .local _ .vmem, ⟨7, _⟩ => ⟨S32x77, .f32⟩
  | _, _ => ⟨S12x77x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_3 : BitVec 32 := 0#32
  let v3 : BitVec 1 := Scalar.cmpi .eq arg1 c0_i32_3
  let v4 : BitVec 1 := Scalar.andi v2 v3
  let v5 : BitVec 32 := Scalar.extui v4
  let c0_i32_4 : BitVec 32 := 0#32
  let v6 : BitVec 1 := Scalar.cmpi .ne v5 c0_i32_4
  v6

def cc0_transform_0 (i : grid0.Coords) : Fin 4 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  let c0_i32_1 : BitVec 32 := 0#32
  let c0_i32_2 : BitVec 32 := 0#32
  ![c10_i32.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let c0_i32 : BitVec 32 := 0#32
  let c0_i32_0 : BitVec 32 := 0#32
  let c0_i32_1 : BitVec 32 := 0#32
  let c0_i32_2 : BitVec 32 := 0#32
  ![c11_i32.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x77x32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x77x32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S77x32x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x77 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S77x32x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x77 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== OutputsReferenceIdeal.lean ====
abbrev S12x77x32x768 : Shape := ⟨4, ![12, 77, 32, 768]⟩
abbrev S1x768 : Shape := ⟨2, ![1, 768]⟩
abbrev S77x32x768 : Shape := ⟨3, ![77, 32, 768]⟩
abbrev S32x77 : Shape := ⟨2, ![32, 77]⟩
abbrev S1x77x32x768 : Shape := ⟨4, ![1, 77, 32, 768]⟩
abbrev S77x32 : Shape := ⟨2, ![77, 32]⟩
abbrev S77x32x1 : Shape := ⟨3, ![77, 32, 1]⟩
abbrev S1x1x768 : Shape := ⟨3, ![1, 1, 768]⟩

abbrev nBuf : Space → Nat
  | .hbm => 7
  | .vmem => 7
  | .smem => 0
  | _ => 0

abbrev bufTy : (tb : Table) → Fin (tcTables nBuf tb) → BufTy
  | .hbm, ⟨0, _⟩ => ⟨S12x77x32x768, .f32⟩
  | .hbm, ⟨1, _⟩ => ⟨S1x768, .f32⟩
  | .hbm, ⟨2, _⟩ => ⟨S1x768, .f32⟩
  | .hbm, ⟨3, _⟩ => ⟨S77x32x768, .fp8e4m3⟩
  | .hbm, ⟨4, _⟩ => ⟨S32x77, .f32⟩
  | .hbm, ⟨5, _⟩ => ⟨S77x32x768, .fp8e4m3⟩
  | .hbm, ⟨6, _⟩ => ⟨S32x77, .f32⟩
  | .local _ .vmem, ⟨0, _⟩ => ⟨S12x77x32x768, .f32⟩
  | .local _ .vmem, ⟨1, _⟩ => ⟨S1x768, .f32⟩
  | .local _ .vmem, ⟨2, _⟩ => ⟨S1x768, .f32⟩
  | .local _ .vmem, ⟨3, _⟩ => ⟨S77x32x768, .fp8e4m3⟩
  | .local _ .vmem, ⟨4, _⟩ => ⟨S32x77, .f32⟩
  | .local _ .vmem, ⟨5, _⟩ => ⟨S77x32x768, .fp8e4m3⟩
  | .local _ .vmem, ⟨6, _⟩ => ⟨S32x77, .f32⟩
  | _, _ => ⟨S12x77x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x77x32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S77x32x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x77 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S77x32x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x77 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitsRuns.lean ====
/- The frame kit of the printed kernel and what the runs of its body share: the arrays as the region finds them (`Gen.V`), each
   window's block at a grid point (`Gen.iblk`), the two branch conditions of the body in closed form over the points, the
   schedule of the windows, and the memrefs of the scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c)),
      (Pipeline.RDat.FramePost.arr_in h c 16 rfl).trans ((hA c 16).trans (V_main_arg16 m c)),
      (Pipeline.RDat.FramePost.arr_in h c 17 rfl).trans ((hA c 17).trans (V_main_arg17 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-! ## The kernel body on any staging memrefs: a subtype the run finds -/

/-- Each window's current staging memref at point `t`, spelled as the pipeline passes it (`bodyAt0`), and its wholeness. -/
abbrev ms0_0 (t : Fin cfg0.N) : Memref sig .tc .vmem S77x8x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x8x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768x2304 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x2304 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x2304 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768x768 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x768x3072 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x3072 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x3072 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x3072x768 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S12x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S12x768 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x77x8x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x77x8x768 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4x616x768 .f32 := Memref.whole cc0_scratch0
abbrev scM0_1 : Memref sig .tc .vmem S624x768 .bf16 := Memref.whole cc0_scratch1
abbrev scM0_2 : Memref sig .tc .vmem S624x3072 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.BitsRunA.lean ====
/- The run of the printed kernel's body at the first grid point (layer 0, tile 0): the scratch is initialised and the tile
   is loaded from `x0`. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3716000 in
/-- The body's triple IN CASE A (`scf.if` 0 taken, `scf.if` 1 taken: points 0): on whole staging memrefs — the inputs' at their contents,
    the FORGOTTEN outputs' (18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : cond0_0 i) (hc1 : cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.BitsRunB.lean ====
/- The run of the printed kernel's body at the other points of layer 0: the tile is loaded from `x0`. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3692000 in
/-- The body's triple IN CASE B (`scf.if` 0 not taken, `scf.if` 1 taken: points 1, 2, 3): on whole staging memrefs — the inputs' at their contents,
    the FORGOTTEN outputs' (18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : ¬cond0_0 i) (hc1 : cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.BitsRunC.lean ====
/- The run of the printed kernel's body at the points of the later layers: the tile is what the layer before left in the
   scratch. -/
module

public import proofs.«01_k».proof.Proof.BitsRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3672000 in
/-- The body's triple IN CASE C (`scf.if` 0 not taken, `scf.if` 1 not taken: points 4, 5, … 47: 44 of 48): on whole staging memrefs — the inputs' at their contents,
    the FORGOTTEN outputs' (18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : ¬cond0_0 i) (hc1 : ¬cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.BitsFrame.lean ====
/- The frame of the printed kernel: every run of the program ends, leaves its argument arrays as they were and every
   semaphore counter at zero. Nothing is said of what the outputs or the scratch hold. -/
module

public import proofs.«01_k».proof.Proof.BitsRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (18, 19): nothing reads what the kernel leaves in them, so nothing
    of it is named (Lib/Pipeline/Dat.lean `Dat.toRForget`). -/
def forgets0 : Fin 20 → Bool := fun w => w.val == 18 || w.val == 19

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ (∃ d, owns (c : Thread nD τ) (ms0_18 t) fullShare d)
    ∗ (∃ d, owns (c : Thread nD τ) (ms0_19 t) fullShare d))

set_option maxHeartbeats 6000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  have hN : t.val < 48 := lt_of_lt_of_eq t.isLt (show cfg0.N = 48 from N_0)
  by_cases h0 : t.val % 48 = 0
  · by_cases h1 : t.val < 4
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · exfalso; omega
  · by_cases h1 : t.val < 4
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 18, 19) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel.Gen

end
-- ==== Proof.IdealRuns.lean ====
/- The frame kit of the ideal kernel and what the runs of its body share: the arrays as the region finds them (`Gen.V`), each
   window's block at a grid point (`Gen.iblk`), the two branch conditions of the body in closed form over the points, the
   schedule of the windows, and the memrefs of the scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-! ## The kernel body on any staging memrefs: a subtype the run finds -/

/-- One staging buffer of output window 18, through which its contents are stated (`View.read_writes_of_cover`: the
    choice does not matter). -/
abbrev VO0_18 : View sig .tc .vmem S1x77x8x768 .f32 := (Memref.whole cc0_stg18_0 : Memref sig .tc .vmem S1x77x8x768 .f32).view
/-- One staging buffer of output window 19, through which its contents are stated (`View.read_writes_of_cover`: the
    choice does not matter). -/
abbrev VO0_19 : View sig .tc .vmem S1x77x8x768 .bf16 := (Memref.whole cc0_stg19_0 : Memref sig .tc .vmem S1x77x8x768 .bf16).view
/-- Each window's current staging memref at point `t`, spelled as the pipeline passes it (`bodyAt0`), and its wholeness. -/
abbrev ms0_0 (t : Fin cfg0.N) : Memref sig .tc .vmem S77x8x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x8x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768x2304 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x2304 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x2304 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768x768 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x768x3072 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x3072 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x3072 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x3072x768 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S12x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S12x768 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x77x8x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x77x8x768 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4x616x768 .f32 := Memref.whole cc0_scratch0
abbrev scM0_1 : Memref sig .tc .vmem S624x768 .bf16 := Memref.whole cc0_scratch1
abbrev scM0_2 : Memref sig .tc .vmem S624x3072 .bf16 := Memref.whole cc0_scratch2
/-- The scratch `arg22` the kernel carries between points, as a view: what it holds is stated through it. -/
abbrev VS0_0 : View sig .tc .vmem S4x616x768 .f32 := scM0_0.view
/-- The scratch `arg23` the kernel carries between points, as a view: what it holds is stated through it. -/
abbrev VS0_1 : View sig .tc .vmem S624x768 .bf16 := scM0_1.view
/-- The scratch `arg24` the kernel carries between points, as a view: what it holds is stated through it. -/
abbrev VS0_2 : View sig .tc .vmem S624x3072 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.IdealRunA.lean ====
/- The run of the ideal kernel's body at the first grid point (layer 0, tile 0): the scratch is initialised and the tile
   is loaded from `x0`. -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3716000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : cond0_0 i) (hc1 : cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) (xs0 : Vec F S4x616x768 .f32) :
    Σ' (L18 : List (View.Piece (Elt F) S1x77x8x768 .f32)), Σ' (L19 : List (View.Piece (Elt F) S1x77x8x768 .bf16)), Σ' (LS0 : List (View.Piece (Elt F) S4x616x768 .f32)), Σ' (LS1 : List (View.Piece (Elt F) S624x768 .bf16)), { LS2 : List (View.Piece (Elt F) S624x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ owns (c : Thread nD τ) arg22 fullShare xs0 ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} arg22.view.writes (Elt F) (harg22.unread xs0) LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg22.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [HS0]; · iexact HS0
    isplitl [HS1]; · iexists _; iexact HS1
    iexists _; iexact HS2

end Cert.KernelIdeal.Gen

end
-- ==== Proof.RowMath.lean ====
/- The mathematics of one transformer layer on ONE row of the stream, over the extended reals, and the one scalar law the
   two programs differ by: a product with a reciprocal root against a quotient by the root. -/
module

public import Idealize.ShloMosaic.Lib.Pointwise

@[expose] public section

noncomputable section

namespace Cert.Rows

open Idealize.ShloMosaic

/-- The width of a row as both programs write it. -/
def width : EReal := Ideal.ofBits .f32 0x44400000#32

/-- The small constant a layer norm adds to the variance. -/
def eps : EReal := Ideal.ofBits .f32 0x3727C5AC#32

/-- The factor in the gate `h · sigmoid (1.702 · h)`. -/
def gateC : EReal := Ideal.ofBits .f32 0x3FD9DB23#32

/-- A weight: the value of its eight-bit word. -/
def word (x : BitVec 8) : EReal := FloatOps.sitofp (F := Ideal) .bf16 x

/-- The mean of a row. -/
def mean (x : Fin 768 → EReal) : EReal := Ideal.div (∑ k, x k) width

/-- The variance of a row plus the small constant. -/
def spread (x : Fin 768 → EReal) : EReal :=
  Ideal.div (∑ k, (x k - mean x) * (x k - mean x)) width + eps

/-- A layer norm of a row. -/
def ln (g b x : Fin 768 → EReal) (d : Fin 768) : EReal :=
  Ideal.div (x d - mean x) (Ideal.sqrt (spread x)) * g d + b d

/-- A row through a weight matrix, its per-column scale and its bias. -/
def lin {n m : ℕ} (w : Fin n → Fin m → EReal) (s b : Fin m → EReal) (a : Fin n → EReal) (j : Fin m) : EReal :=
  (∑ k, a k * w k j) * s j + b j

/-- The gate of the hidden layer. -/
def gate (h : EReal) : EReal := h * Ideal.logistic (gateC * h)

/-- The parameters of one layer that reach its stream and its keys. -/
structure Layer where
  /-- gain and bias of the two layer norms -/
  g1 : Fin 768 → EReal
  b1 : Fin 768 → EReal
  g2 : Fin 768 → EReal
  b2 : Fin 768 → EReal
  /-- query, key and value projection, with scale and bias -/
  wqkv : Fin 768 → Fin 2304 → EReal
  sqkv : Fin 2304 → EReal
  bqkv : Fin 2304 → EReal
  /-- output projection of the attention -/
  wo : Fin 768 → Fin 768 → EReal
  so : Fin 768 → EReal
  bo : Fin 768 → EReal
  /-- first half of the feed-forward block -/
  w1 : Fin 768 → Fin 3072 → EReal
  s1 : Fin 3072 → EReal
  bb1 : Fin 3072 → EReal
  /-- second half of the feed-forward block -/
  w2 : Fin 3072 → Fin 768 → EReal
  s2 : Fin 768 → EReal
  bb2 : Fin 768 → EReal

/-- Column `d` of the key third of the joint projection. -/
def keyCol (d : Fin 768) : Fin 2304 := ⟨768 + d.val, by omega⟩

/-- The key row of a stream row. -/
def keyRow (P : Layer) (x : Fin 768 → EReal) (d : Fin 768) : EReal :=
  lin P.wqkv P.sqkv P.bqkv (ln P.g1 P.b1 x) (keyCol d)

/-- The stream row after the attention output `a` has come through its projection. -/
def midRow (P : Layer) (x a : Fin 768 → EReal) (d : Fin 768) : EReal := x d + lin P.wo P.so P.bo a d

/-- The hidden row of the feed-forward block. -/
def hidRow (P : Layer) (y : Fin 768 → EReal) (j : Fin 3072) : EReal := gate (lin P.w1 P.s1 P.bb1 (ln P.g2 P.b2 y) j)

/-- The stream row after the feed-forward block. -/
def outRow (P : Layer) (y : Fin 768 → EReal) (d : Fin 768) : EReal := y d + lin P.w2 P.s2 P.bb2 (hidRow P y) d

/-- One layer on one row. -/
def layerRow (P : Layer) (x a : Fin 768 → EReal) : Fin 768 → EReal := outRow P (midRow P x a)

/-- The row before layer `l`, from the row `x` before layer 0 and the attention rows `a`. -/
def stream (P : ℕ → Layer) (a : ℕ → Fin 768 → EReal) (x : Fin 768 → EReal) : ℕ → Fin 768 → EReal
  | 0 => x
  | l + 1 => layerRow (P l) (stream P a x l) (a l)

/-! ## The reciprocal root -/

theorem width_eq : width = ((768 : ℝ) : EReal) := by
  unfold width; simp [Ideal.ofBits, Ideal.ieee]
  rw [← EReal.coe_mul]; norm_num

theorem eps_pos : 0 < eps := by
  unfold eps; simp [Ideal.ofBits, Ideal.ieee]
  rw [← EReal.coe_mul]; exact EReal.coe_pos.2 (by norm_num)

theorem sq_nonneg (x : EReal) : 0 ≤ x * x := by
  rcases le_total 0 x with h | h
  · exact mul_nonneg h h
  · have h' : 0 ≤ -x := EReal.neg_nonneg.2 h
    rw [← neg_mul_neg]; exact mul_nonneg h' h'

theorem div_width_nonneg {x : EReal} (h : 0 ≤ x) : 0 ≤ Ideal.div x width := by
  rw [width_eq, Ideal.div_coe (by norm_num : (768 : ℝ) ≠ 0)]
  exact mul_nonneg h (by exact_mod_cast (by norm_num : (0:ℝ) ≤ 1 / 768))

theorem spread_pos (x : Fin 768 → EReal) : 0 < spread x := by
  unfold spread
  exact lt_of_lt_of_le eps_pos (le_add_of_nonneg_left (div_width_nonneg (Finset.sum_nonneg fun k _ => sq_nonneg _)))

/-- Dividing by the root of a positive value is multiplying by its reciprocal root. -/
theorem div_sqrt {d y : EReal} (hy : 0 < y) : Ideal.div d (Ideal.sqrt y) = d * Ideal.rsqrt y := by
  induction y using EReal.rec with
  | bot => exact absurd hy (by simp)
  | top => simp [Ideal.div]
  | coe r =>
    have hr : 0 < r := by exact_mod_cast hy
    have h0 : Real.sqrt r ≠ 0 := (Real.sqrt_pos.2 hr).ne'
    rw [Ideal.sqrt_coe, Ideal.rsqrt_coe, if_neg hr.le.not_gt, if_neg hr.le.not_gt, if_neg hr.ne',
      Ideal.div_coe h0, one_div]

/-- A layer norm written with the reciprocal root. -/
theorem ln_rsqrt (g b x : Fin 768 → EReal) (d : Fin 768) :
    (x d - mean x) * Ideal.rsqrt (spread x) * g d + b d = ln g b x d := by
  rw [ln, div_sqrt (spread_pos x)]

end Cert.Rows
-- ==== Proof.Buffers.lean ====
/- How the rows a buffer holds change with a store, and what a load of it reads: the carried stream (four tiles of 616 rows),
   the two row buffers of 624 rows of which 616 carry rows, and the output block. Each statement speaks of a buffer's contents
   after a list of stores (newest first), so a proof goes from one list to the next longer one. -/
module

public import Idealize.ShloMosaic.Lib.Pointwise
public import Idealize.ShloMosaic.Lib.WholeRead

@[expose] public section

noncomputable section

namespace Cert.Rows

open Idealize.ShloMosaic

variable {sig : RefSig} {κ : Kind} {sp : Space} {Val : EltTy → Type} {e : EltTy}

/-! ## The carried stream -/

/-- Four tiles of 616 rows. -/
abbrev SX : Shape := ⟨3, ![4, 616, 768]⟩

/-- Tile `t` holds the rows `X`. -/
def TileIs (v : View sig κ sp SX e) (f : v.ty.Contents Val) (t : Fin 4) (X : Fin 616 → Fin 768 → Val e) : Prop :=
  ∀ (r : Fin 616) (d : Fin 768), v.read Val f (ix3 t r d) = X r d

/-- The rows `Y` in the columns below `n`, the rows `X` in the others. -/
def cols {α : Type} (n : ℕ) (X Y : Fin 616 → Fin 768 → α) : Fin 616 → Fin 768 → α := fun r d => if d.val < n then Y r d else X r d

theorem cols_zero {α : Type} (X Y : Fin 616 → Fin 768 → α) : cols 0 X Y = X := by
  funext r d; exact if_neg (by omega)

theorem cols_all {α : Type} (X Y : Fin 616 → Fin 768 → α) : cols 768 X Y = Y := by
  funext r d; exact if_pos d.isLt

theorem cols_ge {α : Type} {n : ℕ} (X Y : Fin 616 → Fin 768 → α) (r : Fin 616) (d : Fin 768) (h : n ≤ d.val) : cols n X Y r d = X r d :=
  if_neg (by omega)

variable {v : View sig κ sp SX e} {f : v.ty.Contents Val} {t : Fin 4} {X Y : Fin 616 → Fin 768 → Val e}

/-- A load of `n` rows from row `o` of the tile. -/
theorem TileIs.load_rows (h : TileIs v f t X) {n o : ℕ} {off : Fin 3 → ℕ} (ho : off = ![t.val, o, 0])
    (inb : ∀ a, off a + (![1, n, 768] : Fin 3 → ℕ) a ≤ (![4, 616, 768] : Fin 3 → ℕ) a) (a : Fin n) (d : Fin 768) (hr : o + a.val < 616) :
    View.readAt Val v (Rect.unit (s := SX) off ![1, n, 768] inb).toLoadRect f (ix3 0 a d) = X ⟨o + a.val, hr⟩ d := by
  subst ho
  refine Eq.trans (congrArg (v.read Val f) (funext fun b => Fin.ext ?_)) (h ⟨o + a.val, hr⟩ d)
  match b with
  | ⟨0, _⟩ => show t.val + 1 * 0 = t.val; omega
  | ⟨1, _⟩ => show o + 1 * a.val = o + a.val; omega
  | ⟨2, _⟩ => show 0 + 1 * d.val = d.val; omega

/-- A load of `n` columns from column `o` of the tile. -/
theorem TileIs.load_cols (h : TileIs v f t X) {n o : ℕ} {off : Fin 3 → ℕ} (ho : off = ![t.val, 0, o])
    (inb : ∀ a, off a + (![1, 616, n] : Fin 3 → ℕ) a ≤ (![4, 616, 768] : Fin 3 → ℕ) a) (r : Fin 616) (j : Fin n) (hd : o + j.val < 768) :
    View.readAt Val v (Rect.unit (s := SX) off ![1, 616, n] inb).toLoadRect f (ix3 0 r j) = X r ⟨o + j.val, hd⟩ := by
  subst ho
  refine Eq.trans (congrArg (v.read Val f) (funext fun b => Fin.ext ?_)) (h r ⟨o + j.val, hd⟩)
  match b with
  | ⟨0, _⟩ => show t.val + 1 * 0 = t.val; omega
  | ⟨1, _⟩ => show 0 + 1 * r.val = r.val; omega
  | ⟨2, _⟩ => show o + 1 * j.val = o + j.val; omega

/-- A store of the whole tile. -/
theorem TileIs.store {off : Fin 3 → ℕ} (ho : off = ![t.val, 0, 0])
    (inb : ∀ a, off a + (![1, 616, 768] : Fin 3 → ℕ) a ≤ (![4, 616, 768] : Fin 3 → ℕ) a)
    {w : (⟨3, ![1, 616, 768]⟩ : Shape).Idx → Val e} {L : List (View.Piece Val SX e)} (hw : ∀ r d, w (ix3 0 r d) = X r d) :
    TileIs v (v.writes Val f (⟨Rect.unit (s := SX) off ![1, 616, 768] inb, w⟩ :: L)) t X := by
  subst ho
  intro r d
  rw [← hw r d]
  refine v.read_writes_cons_hit_of_coords f (Rect.unit (s := SX) ![t.val, 0, 0] ![1, 616, 768] inb) w L (ix3 0 r d) _ fun b => ?_
  match b with
  | ⟨0, _⟩ => show t.val = t.val + 1 * 0; omega
  | ⟨1, _⟩ => show r.val = 0 + 1 * r.val; omega
  | ⟨2, _⟩ => show d.val = 0 + 1 * d.val; omega

/-- A store of the next `n` columns of the tile. -/
theorem TileIs.store_cols {n o : ℕ} {L : List (View.Piece Val SX e)} (h : TileIs v (v.writes Val f L) t (cols o X Y))
    {off : Fin 3 → ℕ} (ho : off = ![t.val, 0, o])
    (inb : ∀ a, off a + (![1, 616, n] : Fin 3 → ℕ) a ≤ (![4, 616, 768] : Fin 3 → ℕ) a)
    {w : (⟨3, ![1, 616, n]⟩ : Shape).Idx → Val e} (hw : ∀ r (j : Fin n) (hd : o + j.val < 768), w (ix3 0 r j) = Y r ⟨o + j.val, hd⟩) :
    TileIs v (v.writes Val f (⟨Rect.unit (s := SX) off ![1, 616, n] inb, w⟩ :: L)) t (cols (o + n) X Y) := by
  subst ho
  intro r d
  by_cases hd : o ≤ d.val ∧ d.val < o + n
  · have e1 : cols (o + n) X Y r d = Y r d := if_pos hd.2
    have h' : o + (d.val - o) < 768 := by omega
    have e2 : (⟨o + (⟨d.val - o, by omega⟩ : Fin n).val, h'⟩ : Fin 768) = d := Fin.ext (by show o + (d.val - o) = d.val; omega)
    rw [e1, ← congrArg (Y r) e2, ← hw r ⟨d.val - o, by omega⟩ h']
    refine v.read_writes_cons_hit_of_coords f (Rect.unit (s := SX) ![t.val, 0, o] ![1, 616, n] inb) w L (ix3 0 r ⟨d.val - o, by omega⟩) _ fun b => ?_
    match b with
    | ⟨0, _⟩ => show t.val = t.val + 1 * 0; omega
    | ⟨1, _⟩ => show r.val = 0 + 1 * r.val; omega
    | ⟨2, _⟩ => show d.val = o + 1 * (d.val - o); omega
  · rw [v.read_writes_cons_miss_of_axis f ⟨Rect.unit (s := SX) ![t.val, 0, o] ![1, 616, n] inb, w⟩ L (ix3 t r d) 2 o n rfl rfl rfl
      (by show d.val < o ∨ o + n ≤ d.val; omega), h r d]
    unfold cols
    by_cases h1 : d.val < o
    · rw [if_pos h1, if_pos (by omega)]
    · rw [if_neg h1, if_neg (by omega)]

/-- A store into another tile. -/
theorem TileIs.other {t' : Fin 4} (ht : t' ≠ t) {L : List (View.Piece Val SX e)} (h : TileIs v (v.writes Val f L) t' X)
    {off size : Fin 3 → ℕ} {a b : ℕ} (ho : off = ![t.val, a, b]) (inb : ∀ a, off a + size a ≤ (![4, 616, 768] : Fin 3 → ℕ) a)
    (hs : size 0 = 1) {w : (⟨3, size⟩ : Shape).Idx → Val e} :
    TileIs v (v.writes Val f (⟨Rect.unit (s := SX) off size inb, w⟩ :: L)) t' X := by
  subst ho
  intro r d
  rw [v.read_writes_cons_miss_of_axis f ⟨Rect.unit (s := SX) ![t.val, a, b] size inb, w⟩ L (ix3 t' r d) 0 t.val 1 rfl rfl hs
    (by show t'.val < t.val ∨ t.val + 1 ≤ t'.val; have := fun h => ht (Fin.ext h); omega), h r d]

/-! ## The row buffers -/

/-- A row of the 616 among the 624. -/
def up (r : Fin 616) : Fin 624 := ⟨r.val, by omega⟩

/-- 624 rows of `p` columns. -/
abbrev SA (p : ℕ) : Shape := ⟨2, ![624, p]⟩

/-- The first `n` rows are those of `A`. -/
def RowsIs {p : ℕ} (u : View sig κ sp (SA p) e) (g : u.ty.Contents Val) (n : ℕ) (A : Fin 616 → Fin p → Val e) : Prop :=
  ∀ (r : Fin 616) (d : Fin p), r.val < n → u.read Val g (ix2 (up r) d) = A r d

/-- The first `n` columns of the 616 rows are those of `A`. -/
def ColsIs {p : ℕ} (u : View sig κ sp (SA p) e) (g : u.ty.Contents Val) (n : ℕ) (A : Fin 616 → Fin p → Val e) : Prop :=
  ∀ (r : Fin 616) (d : Fin p), d.val < n → u.read Val g (ix2 (up r) d) = A r d

variable {p : ℕ} {u : View sig κ sp (SA p) e} {g : u.ty.Contents Val} {A : Fin 616 → Fin p → Val e}

theorem RowsIs.zero : RowsIs u g 0 A := fun _ _ h => absurd h (by omega)
theorem ColsIs.zero : ColsIs u g 0 A := fun _ _ h => absurd h (by omega)

/-- A store of the next `k` rows. -/
theorem RowsIs.store {n k : ℕ} {L : List (View.Piece Val (SA p) e)} (h : RowsIs u (u.writes Val g L) n A)
    (inb : ∀ a, (![n, 0] : Fin 2 → ℕ) a + (![k, p] : Fin 2 → ℕ) a ≤ (![624, p] : Fin 2 → ℕ) a)
    {w : (⟨2, ![k, p]⟩ : Shape).Idx → Val e} (hw : ∀ (a : Fin k) d (hr : n + a.val < 616), w (ix2 a d) = A ⟨n + a.val, hr⟩ d) :
    RowsIs u (u.writes Val g (⟨Rect.unit (s := SA p) ![n, 0] ![k, p] inb, w⟩ :: L)) (n + k) A := by
  intro r d hr
  by_cases hn : r.val < n
  · rw [u.read_writes_cons_miss_of_axis g ⟨Rect.unit (s := SA p) ![n, 0] ![k, p] inb, w⟩ L (ix2 (up r) d) 0 n k rfl rfl rfl
      (Or.inl hn), h r d hn]
  · have h' : n + (r.val - n) < 616 := by omega
    have e2 : (⟨n + (⟨r.val - n, by omega⟩ : Fin k).val, h'⟩ : Fin 616) = r := Fin.ext (by show n + (r.val - n) = r.val; omega)
    rw [← congrArg (fun r => A r d) e2, ← hw ⟨r.val - n, by omega⟩ d h']
    refine u.read_writes_cons_hit_of_coords g (Rect.unit (s := SA p) ![n, 0] ![k, p] inb) w L (ix2 ⟨r.val - n, by omega⟩ d) _ fun b => ?_
    match b with
    | ⟨0, _⟩ => show r.val = n + 1 * (r.val - n); omega
    | ⟨1, _⟩ => show d.val = 0 + 1 * d.val; omega

/-- A store of the next `k` columns of the 616 rows. -/
theorem ColsIs.store {n k : ℕ} {L : List (View.Piece Val (SA p) e)} (h : ColsIs u (u.writes Val g L) n A)
    (inb : ∀ a, (![0, n] : Fin 2 → ℕ) a + (![616, k] : Fin 2 → ℕ) a ≤ (![624, p] : Fin 2 → ℕ) a)
    {w : (⟨2, ![616, k]⟩ : Shape).Idx → Val e} (hw : ∀ r (j : Fin k) (hd : n + j.val < p), w (ix2 r j) = A r ⟨n + j.val, hd⟩) :
    ColsIs u (u.writes Val g (⟨Rect.unit (s := SA p) ![0, n] ![616, k] inb, w⟩ :: L)) (n + k) A := by
  intro r d hd
  by_cases hn : d.val < n
  · rw [u.read_writes_cons_miss_of_axis g ⟨Rect.unit (s := SA p) ![0, n] ![616, k] inb, w⟩ L (ix2 (up r) d) 1 n k rfl rfl rfl
      (Or.inl hn), h r d hn]
  · have h' : n + (d.val - n) < p := by omega
    have e2 : (⟨n + (⟨d.val - n, by omega⟩ : Fin k).val, h'⟩ : Fin p) = d := Fin.ext (by show n + (d.val - n) = d.val; omega)
    rw [← congrArg (A r) e2, ← hw r ⟨d.val - n, by omega⟩ h']
    refine u.read_writes_cons_hit_of_coords g (Rect.unit (s := SA p) ![0, n] ![616, k] inb) w L (ix2 r ⟨d.val - n, by omega⟩) _ fun b => ?_
    match b with
    | ⟨0, _⟩ => show r.val = 0 + 1 * r.val; omega
    | ⟨1, _⟩ => show d.val = n + 1 * (d.val - n); omega

/-- A load of the whole buffer. -/
theorem RowsIs.load (h : RowsIs u g 616 A) (inb : ∀ a, (![0, 0] : Fin 2 → ℕ) a + (![624, p] : Fin 2 → ℕ) a ≤ (![624, p] : Fin 2 → ℕ) a)
    (r : Fin 616) (d : Fin p) :
    View.readAt Val u (Rect.unit (s := SA p) ![0, 0] ![624, p] inb).toLoadRect g (ix2 (up r) d) = A r d := by
  refine Eq.trans (congrArg (u.read Val g) (funext fun b => Fin.ext ?_)) (h r d r.isLt)
  match b with
  | ⟨0, _⟩ => show 0 + 1 * r.val = r.val; omega
  | ⟨1, _⟩ => show 0 + 1 * d.val = d.val; omega

theorem ColsIs.rows (h : ColsIs u g p A) : RowsIs u g 616 A := fun r d _ => h r d d.isLt

/-! ## The output block -/

/-- One layer's block of a tile's rows. -/
abbrev SO : Shape := ⟨4, ![1, 77, 8, 768]⟩

/-- Row number of position `s`, batch row `b` of the tile. -/
def row (s : Fin 77) (b : Fin 8) : Fin 616 := ⟨s.val * 8 + b.val, by omega⟩

/-- The columns below `n` are those of the rows `Y`. -/
def OutIs (o : View sig κ sp SO e) (g : o.ty.Contents Val) (n : ℕ) (Y : Fin 616 → Fin 768 → Val e) : Prop :=
  ∀ (s : Fin 77) (b : Fin 8) (d : Fin 768), d.val < n → o.read Val g (ix4 0 s b d) = Y (row s b) d

variable {o : View sig κ sp SO e} {g' : o.ty.Contents Val}

theorem OutIs.zero : OutIs o g' 0 Y := fun _ _ _ h => absurd h (by omega)

/-- A store of the next `k` columns. -/
theorem OutIs.store {n k : ℕ} {L : List (View.Piece Val SO e)} (h : OutIs o (o.writes Val g' L) n Y)
    (inb : ∀ a, (![0, 0, 0, n] : Fin 4 → ℕ) a + (![1, 77, 8, k] : Fin 4 → ℕ) a ≤ (![1, 77, 8, 768] : Fin 4 → ℕ) a)
    {w : (⟨4, ![1, 77, 8, k]⟩ : Shape).Idx → Val e} (hw : ∀ s b (j : Fin k) (hd : n + j.val < 768), w (ix4 0 s b j) = Y (row s b) ⟨n + j.val, hd⟩) :
    OutIs o (o.writes Val g' (⟨Rect.unit (s := SO) ![0, 0, 0, n] ![1, 77, 8, k] inb, w⟩ :: L)) (n + k) Y := by
  intro s b d hd
  by_cases hn : d.val < n
  · rw [o.read_writes_cons_miss_of_axis g' ⟨Rect.unit (s := SO) ![0, 0, 0, n] ![1, 77, 8, k] inb, w⟩ L (ix4 0 s b d) 3 n k rfl rfl rfl
      (Or.inl hn), h s b d hn]
  · have h' : n + (d.val - n) < 768 := by omega
    have e2 : (⟨n + (⟨d.val - n, by omega⟩ : Fin k).val, h'⟩ : Fin 768) = d := Fin.ext (by show n + (d.val - n) = d.val; omega)
    rw [← congrArg (Y (row s b)) e2, ← hw s b ⟨d.val - n, by omega⟩ h']
    refine o.read_writes_cons_hit_of_coords g' (Rect.unit (s := SO) ![0, 0, 0, n] ![1, 77, 8, k] inb) w L (ix4 0 s b ⟨d.val - n, by omega⟩) _ fun a => ?_
    match a with
    | ⟨0, _⟩ => show 0 = 0 + 1 * 0; omega
    | ⟨1, _⟩ => show s.val = 0 + 1 * s.val; omega
    | ⟨2, _⟩ => show b.val = 0 + 1 * b.val; omega
    | ⟨3, _⟩ => show d.val = n + 1 * (d.val - n); omega

end Cert.Rows
-- ==== Proof.KernelRows.lean ====
/- What each store of the layer body writes, read row by row. The body norms its rows sixteen at a time, and how one such
   group is cut into printed payloads differs from group to group: every cut is the same function of the gain, the bias and the
   rows, by unfolding, and that function is a layer norm. -/
module

public import proofs.«01_k».proof.Proof.Gen.KernelIdeal.Skeleton
public import proofs.«01_k».proof.Proof.RowMath
public import proofs.«01_k».proof.Proof.Buffers

@[expose] public section

set_option maxRecDepth 16384

noncomputable section

namespace Cert.KernelIdeal.Rows

open Cert.KernelIdeal Cert.KernelIdeal.Gen Cert.Rows Idealize.ShloMosaic

/-- Sixteen rows normed. -/
theorem ln16 (g b : Vec Ideal S1x768 .f32) (v : Vec Ideal S1x16x768 .f32) (a : Fin 16) (d : Fin 768) :
    k0_pay6 (F := Ideal) g b v (ix2 a d)
      = ln (fun k => g (ix2 0 k)) (fun k => b (ix2 0 k)) (fun k => v (ix3 0 a k)) d := by
  rw [← ln_rsqrt]
  pointwise [k0_pay6]
  rfl

theorem ln16_86 (g b : Vec Ideal S1x768 .f32) (v : Vec Ideal S1x16x768 .f32) :
    k0_pay86 (F := Ideal) g b v = k0_pay6 g b v := rfl

theorem ln16_5 (g b : Vec Ideal S1x768 .f32) (v : Vec Ideal S1x16x768 .f32) :
    k0_pay5 (F := Ideal) g b v = k0_pay6 g b v := rfl

theorem ln16_9 (g b : Vec Ideal S1x768 .f32) (v : Vec Ideal S1x16x768 .f32) :
    k0_pay9 (F := Ideal) g b (k0_pay7 (F := Ideal) v) (k0_pay8 (F := Ideal) v) = k0_pay6 g b v := rfl

theorem ln16_10 (g b : Vec Ideal S1x768 .f32) (v : Vec Ideal S1x16x768 .f32) :
    k0_pay10 (F := Ideal) g b v = k0_pay6 g b v := rfl

theorem ln16_13 (g b : Vec Ideal S1x768 .f32) (v : Vec Ideal S1x16x768 .f32) :
    k0_pay13 (F := Ideal) g b (k0_pay11 (F := Ideal) v) (k0_pay12 (F := Ideal) v) (FloatOps.ofBits FTy.f32 1145044992#32) = k0_pay6 g b v := rfl

theorem ln16_15 (g b : Vec Ideal S1x768 .f32) (v : Vec Ideal S1x16x768 .f32) :
    k0_pay15 (F := Ideal) (k0_pay14 (F := Ideal) g b v) = k0_pay6 g b v := rfl

theorem ln16_16 (g b : Vec Ideal S1x768 .f32) (v : Vec Ideal S1x16x768 .f32) :
    k0_pay16 (F := Ideal) g b v = k0_pay6 g b v := rfl

theorem ln16_19 (g b : Vec Ideal S1x768 .f32) (v : Vec Ideal S1x16x768 .f32) :
    k0_pay19 (F := Ideal) g b (k0_pay17 (F := Ideal) v) (k0_pay18 (F := Ideal) v) (FloatOps.ofBits FTy.f32 1145044992#32) = k0_pay6 g b v := rfl

theorem ln16_20 (g b : Vec Ideal S1x768 .f32) (v : Vec Ideal S1x16x768 .f32) :
    k0_pay20 (F := Ideal) g b v = k0_pay6 g b v := rfl

theorem ln16_21 (g b : Vec Ideal S1x768 .f32) (v : Vec Ideal S1x16x768 .f32) :
    k0_pay21 (F := Ideal) g b v = k0_pay6 g b v := rfl

theorem ln16_24 (g b : Vec Ideal S1x768 .f32) (v : Vec Ideal S1x16x768 .f32) :
    k0_pay24 (F := Ideal) b (k0_pay22 (F := Ideal) v) (k0_pay23 (F := Ideal) g) = k0_pay6 g b v := rfl

theorem ln16_25 (g b : Vec Ideal S1x768 .f32) (v : Vec Ideal S1x16x768 .f32) :
    k0_pay25 (F := Ideal) g b v = k0_pay6 g b v := rfl

theorem ln16_27 (g b : Vec Ideal S1x768 .f32) (v : Vec Ideal S1x16x768 .f32) :
    k0_pay27 (F := Ideal) g b (k0_pay26 (F := Ideal) v) = k0_pay6 g b v := rfl

theorem ln16_28 (g b : Vec Ideal S1x768 .f32) (v : Vec Ideal S1x16x768 .f32) :
    k0_pay28 (F := Ideal) g b v = k0_pay6 g b v := rfl

theorem ln16_29 (g b : Vec Ideal S1x768 .f32) (v : Vec Ideal S1x16x768 .f32) :
    k0_pay29 (F := Ideal) g b v = k0_pay6 g b v := rfl

theorem ln16_33 (g b : Vec Ideal S1x768 .f32) (v : Vec Ideal S1x16x768 .f32) :
    k0_pay33 (F := Ideal) g b (k0_pay30 (F := Ideal) v) (k0_pay31 (F := Ideal) v) (k0_pay32 (F := Ideal)) = k0_pay6 g b v := rfl

theorem ln16_34 (g b : Vec Ideal S1x768 .f32) (v : Vec Ideal S1x16x768 .f32) :
    k0_pay34 (F := Ideal) g b v = k0_pay6 g b v := rfl

theorem ln16_37 (g b : Vec Ideal S1x768 .f32) (v : Vec Ideal S1x16x768 .f32) :
    k0_pay37 (F := Ideal) g b (k0_pay35 (F := Ideal) v) (k0_pay36 (F := Ideal) v) = k0_pay6 g b v := rfl

theorem ln16_39 (g b : Vec Ideal S1x768 .f32) (v : Vec Ideal S1x16x768 .f32) :
    k0_pay39 (F := Ideal) (k0_pay38 (F := Ideal) g b v) = k0_pay6 g b v := rfl

theorem ln16_40 (g b : Vec Ideal S1x768 .f32) (v : Vec Ideal S1x16x768 .f32) :
    k0_pay40 (F := Ideal) g b v = k0_pay6 g b v := rfl

theorem ln16_43 (g b : Vec Ideal S1x768 .f32) (v : Vec Ideal S1x16x768 .f32) :
    k0_pay43 (F := Ideal) g b (k0_pay41 (F := Ideal) v) (k0_pay42 (F := Ideal) v) = k0_pay6 g b v := rfl

theorem ln16_44 (g b : Vec Ideal S1x768 .f32) (v : Vec Ideal S1x16x768 .f32) :
    k0_pay44 (F := Ideal) g b v = k0_pay6 g b v := rfl

theorem ln16_45 (g b : Vec Ideal S1x768 .f32) (v : Vec Ideal S1x16x768 .f32) :
    k0_pay45 (F := Ideal) g b v = k0_pay6 g b v := rfl

theorem ln16_47 (g b : Vec Ideal S1x768 .f32) (v : Vec Ideal S1x16x768 .f32) :
    k0_pay47 (F := Ideal) g b (k0_pay46 (F := Ideal) v) = k0_pay6 g b v := rfl

theorem ln16_48 (g b : Vec Ideal S1x768 .f32) (v : Vec Ideal S1x16x768 .f32) :
    k0_pay48 (F := Ideal) g b v = k0_pay6 g b v := rfl

theorem ln16_51 (g b : Vec Ideal S1x768 .f32) (v : Vec Ideal S1x16x768 .f32) :
    k0_pay51 (F := Ideal) g b (k0_pay49 (F := Ideal) v) (k0_pay50 (F := Ideal) v) = k0_pay6 g b v := rfl

theorem ln16_53 (g b : Vec Ideal S1x768 .f32) (v : Vec Ideal S1x16x768 .f32) :
    k0_pay53 (F := Ideal) (k0_pay52 (F := Ideal) g b v) = k0_pay6 g b v := rfl

theorem ln16_54 (g b : Vec Ideal S1x768 .f32) (v : Vec Ideal S1x16x768 .f32) :
    k0_pay54 (F := Ideal) g b v = k0_pay6 g b v := rfl

theorem ln16_57 (g b : Vec Ideal S1x768 .f32) (v : Vec Ideal S1x16x768 .f32) :
    k0_pay57 (F := Ideal) g b (k0_pay55 (F := Ideal) v) (k0_pay56 (F := Ideal) v) (FloatOps.ofBits FTy.f32 925353388#32) = k0_pay6 g b v := rfl

theorem ln16_58 (g b : Vec Ideal S1x768 .f32) (v : Vec Ideal S1x16x768 .f32) :
    k0_pay58 (F := Ideal) g b v = k0_pay6 g b v := rfl

theorem ln16_61 (g b : Vec Ideal S1x768 .f32) (v : Vec Ideal S1x16x768 .f32) :
    k0_pay61 (F := Ideal) g b (k0_pay59 (F := Ideal) v) (k0_pay60 (F := Ideal) v) = k0_pay6 g b v := rfl

theorem ln16_63 (g b : Vec Ideal S1x768 .f32) (v : Vec Ideal S1x16x768 .f32) :
    k0_pay63 (F := Ideal) (k0_pay62 (F := Ideal) g b v) = k0_pay6 g b v := rfl

theorem ln16_64 (g b : Vec Ideal S1x768 .f32) (v : Vec Ideal S1x16x768 .f32) :
    k0_pay64 (F := Ideal) g b v = k0_pay6 g b v := rfl

theorem ln16_67 (g b : Vec Ideal S1x768 .f32) (v : Vec Ideal S1x16x768 .f32) :
    k0_pay67 (F := Ideal) g b (k0_pay65 (F := Ideal) v) (k0_pay66 (F := Ideal) v) = k0_pay6 g b v := rfl

theorem ln16_68 (g b : Vec Ideal S1x768 .f32) (v : Vec Ideal S1x16x768 .f32) :
    k0_pay68 (F := Ideal) g b v = k0_pay6 g b v := rfl

theorem ln16_69 (g b : Vec Ideal S1x768 .f32) (v : Vec Ideal S1x16x768 .f32) :
    k0_pay69 (F := Ideal) g b v = k0_pay6 g b v := rfl

theorem ln16_72 (g b : Vec Ideal S1x768 .f32) (v : Vec Ideal S1x16x768 .f32) :
    k0_pay72 (F := Ideal) g b (k0_pay70 (F := Ideal) v) (k0_pay71 (F := Ideal) v) = k0_pay6 g b v := rfl

theorem ln16_73 (g b : Vec Ideal S1x768 .f32) (v : Vec Ideal S1x16x768 .f32) :
    k0_pay73 (F := Ideal) g b v = k0_pay6 g b v := rfl

theorem ln16_89 (g b : Vec Ideal S1x768 .f32) (v : Vec Ideal S1x16x768 .f32) :
    k0_pay89 (F := Ideal) g b (k0_pay87 (F := Ideal) v) (k0_pay88 (F := Ideal) v) = k0_pay6 g b v := rfl

theorem ln16_90 (g b : Vec Ideal S1x768 .f32) (v : Vec Ideal S1x16x768 .f32) :
    k0_pay90 (F := Ideal) g b v = k0_pay6 g b v := rfl

theorem ln16_91 (g b : Vec Ideal S1x768 .f32) (v : Vec Ideal S1x16x768 .f32) :
    k0_pay91 (F := Ideal) g b v = k0_pay6 g b v := rfl

theorem ln16_93 (g b : Vec Ideal S1x768 .f32) (v : Vec Ideal S1x16x768 .f32) :
    k0_pay93 (F := Ideal) g b (k0_pay92 (F := Ideal) v) = k0_pay6 g b v := rfl

theorem ln16_94 (g b : Vec Ideal S1x768 .f32) (v : Vec Ideal S1x16x768 .f32) :
    k0_pay94 (F := Ideal) g b v = k0_pay6 g b v := rfl

theorem ln16_97 (g b : Vec Ideal S1x768 .f32) (v : Vec Ideal S1x16x768 .f32) :
    k0_pay97 (F := Ideal) g b (k0_pay95 (F := Ideal) v) (k0_pay96 (F := Ideal) v) = k0_pay6 g b v := rfl

theorem ln16_99 (g b : Vec Ideal S1x768 .f32) (v : Vec Ideal S1x16x768 .f32) :
    k0_pay99 (F := Ideal) (k0_pay98 (F := Ideal) g b v) = k0_pay6 g b v := rfl

theorem ln16_100 (g b : Vec Ideal S1x768 .f32) (v : Vec Ideal S1x16x768 .f32) :
    k0_pay100 (F := Ideal) g b v = k0_pay6 g b v := rfl

theorem ln16_103 (g b : Vec Ideal S1x768 .f32) (v : Vec Ideal S1x16x768 .f32) :
    k0_pay103 (F := Ideal) g b (k0_pay101 (F := Ideal) v) (k0_pay102 (F := Ideal) v) (FloatOps.ofBits FTy.f32 925353388#32) = k0_pay6 g b v := rfl

theorem ln16_104 (g b : Vec Ideal S1x768 .f32) (v : Vec Ideal S1x16x768 .f32) :
    k0_pay104 (F := Ideal) g b v = k0_pay6 g b v := rfl

theorem ln16_107 (g b : Vec Ideal S1x768 .f32) (v : Vec Ideal S1x16x768 .f32) :
    k0_pay107 (F := Ideal) g b (k0_pay105 (F := Ideal) v) (k0_pay106 (F := Ideal) v) = k0_pay6 g b v := rfl

theorem ln16_109 (g b : Vec Ideal S1x768 .f32) (v : Vec Ideal S1x16x768 .f32) :
    k0_pay109 (F := Ideal) (k0_pay108 (F := Ideal) g b v) = k0_pay6 g b v := rfl

theorem ln16_110 (g b : Vec Ideal S1x768 .f32) (v : Vec Ideal S1x16x768 .f32) :
    k0_pay110 (F := Ideal) g b v = k0_pay6 g b v := rfl

theorem ln16_113 (g b : Vec Ideal S1x768 .f32) (v : Vec Ideal S1x16x768 .f32) :
    k0_pay113 (F := Ideal) g b (k0_pay111 (F := Ideal) v) (k0_pay112 (F := Ideal) v) = k0_pay6 g b v := rfl

theorem ln16_114 (g b : Vec Ideal S1x768 .f32) (v : Vec Ideal S1x16x768 .f32) :
    k0_pay114 (F := Ideal) g b v = k0_pay6 g b v := rfl

theorem ln16_115 (g b : Vec Ideal S1x768 .f32) (v : Vec Ideal S1x16x768 .f32) :
    k0_pay115 (F := Ideal) g b v = k0_pay6 g b v := rfl

theorem ln16_118 (g b : Vec Ideal S1x768 .f32) (v : Vec Ideal S1x16x768 .f32) :
    k0_pay118 (F := Ideal) g b (k0_pay116 (F := Ideal) v) (k0_pay117 (F := Ideal) v) = k0_pay6 g b v := rfl

theorem ln16_119 (g b : Vec Ideal S1x768 .f32) (v : Vec Ideal S1x16x768 .f32) :
    k0_pay119 (F := Ideal) g b v = k0_pay6 g b v := rfl

theorem ln16_122 (g b : Vec Ideal S1x768 .f32) (v : Vec Ideal S1x16x768 .f32) :
    k0_pay122 (F := Ideal) g b (k0_pay120 (F := Ideal) v) (k0_pay121 (F := Ideal) v) = k0_pay6 g b v := rfl

theorem ln16_124 (g b : Vec Ideal S1x768 .f32) (v : Vec Ideal S1x16x768 .f32) :
    k0_pay124 (F := Ideal) (k0_pay123 (F := Ideal) g b v) = k0_pay6 g b v := rfl

theorem ln16_125 (g b : Vec Ideal S1x768 .f32) (v : Vec Ideal S1x16x768 .f32) :
    k0_pay125 (F := Ideal) g b v = k0_pay6 g b v := rfl

theorem ln16_128 (g b : Vec Ideal S1x768 .f32) (v : Vec Ideal S1x16x768 .f32) :
    k0_pay128 (F := Ideal) g b (k0_pay126 (F := Ideal) v) (k0_pay127 (F := Ideal) v) = k0_pay6 g b v := rfl

theorem ln16_129 (g b : Vec Ideal S1x768 .f32) (v : Vec Ideal S1x16x768 .f32) :
    k0_pay129 (F := Ideal) g b v = k0_pay6 g b v := rfl

theorem ln16_131 (g b : Vec Ideal S1x768 .f32) (v : Vec Ideal S1x16x768 .f32) :
    k0_pay131 (F := Ideal) g b (k0_pay130 (F := Ideal) v) = k0_pay6 g b v := rfl

theorem ln16_134 (g b : Vec Ideal S1x768 .f32) (v : Vec Ideal S1x16x768 .f32) :
    k0_pay134 (F := Ideal) (k0_pay132 (F := Ideal) g v) (k0_pay133 (F := Ideal) b) = k0_pay6 g b v := rfl

theorem ln16_135 (g b : Vec Ideal S1x768 .f32) (v : Vec Ideal S1x16x768 .f32) :
    k0_pay135 (F := Ideal) g b v = k0_pay6 g b v := rfl

theorem ln16_138 (g b : Vec Ideal S1x768 .f32) (v : Vec Ideal S1x16x768 .f32) :
    k0_pay138 (F := Ideal) g b (k0_pay136 (F := Ideal) v) (k0_pay137 (F := Ideal) v) = k0_pay6 g b v := rfl

theorem ln16_139 (g b : Vec Ideal S1x768 .f32) (v : Vec Ideal S1x16x768 .f32) :
    k0_pay139 (F := Ideal) g b v = k0_pay6 g b v := rfl

theorem ln16_140 (g b : Vec Ideal S1x768 .f32) (v : Vec Ideal S1x16x768 .f32) :
    k0_pay140 (F := Ideal) g b v = k0_pay6 g b v := rfl

theorem ln16_143 (g b : Vec Ideal S1x768 .f32) (v : Vec Ideal S1x16x768 .f32) :
    k0_pay143 (F := Ideal) g b (k0_pay141 (F := Ideal) v) (k0_pay142 (F := Ideal) v) = k0_pay6 g b v := rfl

theorem ln16_144 (g b : Vec Ideal S1x768 .f32) (v : Vec Ideal S1x16x768 .f32) :
    k0_pay144 (F := Ideal) g b v = k0_pay6 g b v := rfl

theorem ln16_148 (g b : Vec Ideal S1x768 .f32) (v : Vec Ideal S1x16x768 .f32) :
    k0_pay148 (F := Ideal) g b (k0_pay145 (F := Ideal) v) (k0_pay146 (F := Ideal) v) (k0_pay147 (F := Ideal)) = k0_pay6 g b v := rfl

theorem ln16_150 (g b : Vec Ideal S1x768 .f32) (v : Vec Ideal S1x16x768 .f32) :
    k0_pay150 (F := Ideal) (k0_pay149 (F := Ideal) g b v) = k0_pay6 g b v := rfl

theorem ln16_151 (g b : Vec Ideal S1x768 .f32) (v : Vec Ideal S1x16x768 .f32) :
    k0_pay151 (F := Ideal) g b v = k0_pay6 g b v := rfl

theorem ln16_155 (g b : Vec Ideal S1x768 .f32) (v : Vec Ideal S1x16x768 .f32) :
    k0_pay155 (F := Ideal) g b (k0_pay152 (F := Ideal) v) (k0_pay153 (F := Ideal) v) (k0_pay154 (F := Ideal)) = k0_pay6 g b v := rfl

theorem ln16_156 (g b : Vec Ideal S1x768 .f32) (v : Vec Ideal S1x16x768 .f32) :
    k0_pay156 (F := Ideal) g b v = k0_pay6 g b v := rfl

theorem ln16_158 (g b : Vec Ideal S1x768 .f32) (v : Vec Ideal S1x16x768 .f32) :
    k0_pay158 (F := Ideal) g b (k0_pay157 (F := Ideal) v) = k0_pay6 g b v := rfl

/-- Eight rows normed (the last group). -/
theorem ln8 (g b : Vec Ideal S1x768 .f32) (v : Vec Ideal S1x8x768 .f32) (a : Fin 8) (d : Fin 768) :
    k0_pay76 (F := Ideal) g b (k0_pay74 v) (k0_pay75 v) (ix2 a d)
      = ln (fun k => g (ix2 0 k)) (fun k => b (ix2 0 k)) (fun k => v (ix3 0 a k)) d := by
  rw [← ln_rsqrt]
  pointwise [k0_pay76, k0_pay74, k0_pay75]
  rfl

theorem ln8_160 (g b : Vec Ideal S1x768 .f32) (v : Vec Ideal S1x8x768 .f32) :
    k0_pay160 (F := Ideal) b (k0_pay159 g v) = k0_pay76 g b (k0_pay74 v) (k0_pay75 v) := rfl

/-- The stream as the first layer takes it: row `8 s + b` of the tile is row `(s, b)` of the block. -/
theorem init_tile (v : Vec Ideal S77x8x768 .f32) (r : Fin 616) (d : Fin 768) :
    k0_pay4 (F := Ideal) v (ix3 0 r d) = v (ix3 ⟨r.val / 8, by omega⟩ ⟨r.val % 8, by omega⟩ d) := by
  pointwise [k0_pay4]

/-- The attention output as rows. -/
theorem attn_rows (v : Vec Ideal S1x77x8x768 .bf16) (r : Fin 616) (d : Fin 768) :
    k0_pay81 (F := Ideal) v (ix2 r d) = v (ix4 0 ⟨r.val / 8, by omega⟩ ⟨r.val % 8, by omega⟩ d) := by
  pointwise [k0_pay81]

/-- A weight block, its scales and its biases as a linear map on the 624 rows of `a`. -/
def through {n : ℕ} (a : (SA n).Idx → EReal) (w : (⟨3, ![1, n, 256]⟩ : Shape).Idx → BitVec 8)
    (s b : (⟨2, ![1, 256]⟩ : Shape).Idx → EReal) (r : Fin 616) (j : Fin 256) : EReal :=
  lin (fun k j => word (w (ix3 0 k j))) (fun j => s (ix2 0 j)) (fun j => b (ix2 0 j)) (fun k => a (ix2 (up r) k)) j

/-- A chunk of the keys. -/
theorem key_chunk (a : Vec Ideal S624x768 .bf16) (w : Vec Ideal S1x768x256 .i8) (s b : Vec Ideal S1x256 .f32)
    (p : Fin 77) (q : Fin 8) (j : Fin 256) :
    k0_pay77 (F := Ideal) a w s b (ix4 0 p q j) = through a w s b (row p q) j := by
  pointwise [k0_pay77]
  rfl

theorem key_chunk_78 (a : Vec Ideal S624x768 .bf16) (w : Vec Ideal S1x768x256 .i8) (s b : Vec Ideal S1x256 .f32) :
    k0_pay78 (F := Ideal) a w s b = k0_pay77 a w s b := rfl

theorem key_chunk_80 (a : Vec Ideal S624x768 .bf16) (w : Vec Ideal S1x768x256 .i8) (s b : Vec Ideal S1x256 .f32) :
    k0_pay80 (F := Ideal) (k0_pay79 a w s b) = k0_pay77 a w s b := rfl

/-- A chunk of the stream after the attention's projection. -/
theorem mid_chunk (a : Vec Ideal S624x768 .bf16) (w : Vec Ideal S1x768x256 .i8) (x : Vec Ideal S1x616x256 .f32)
    (s b : Vec Ideal S1x256 .f32) (r : Fin 616) (j : Fin 256) :
    k0_pay82 (F := Ideal) a w x s b (ix3 0 r j) = x (ix3 0 r j) + through a w s b r j := by
  pointwise [k0_pay82]
  rfl

theorem mid_chunk_84 (a : Vec Ideal S624x768 .bf16) (w : Vec Ideal S1x768x256 .i8) (x : Vec Ideal S1x616x256 .f32)
    (s b : Vec Ideal S1x256 .f32) :
    k0_pay84 (F := Ideal) a (k0_pay83 w) (constant S624x256 .f32 0#32) x s b = k0_pay82 a w x s b := rfl

theorem mid_chunk_85 (a : Vec Ideal S624x768 .bf16) (w : Vec Ideal S1x768x256 .i8) (x : Vec Ideal S1x616x256 .f32)
    (s b : Vec Ideal S1x256 .f32) : k0_pay85 (F := Ideal) a w x s b = k0_pay82 a w x s b := rfl

/-- A chunk of the hidden rows. -/
theorem hid_chunk (a : Vec Ideal S624x768 .bf16) (w : Vec Ideal S1x768x256 .i8) (s b : Vec Ideal S1x256 .f32)
    (r : Fin 616) (j : Fin 256) :
    k0_pay161 (F := Ideal) a w s b (ix2 r j) = gate (through a w s b r j) := by
  pointwise [k0_pay161]
  rfl

theorem hid_chunk_163 (a : Vec Ideal S624x768 .bf16) (w : Vec Ideal S1x768x256 .i8) (s b : Vec Ideal S1x256 .f32) :
    k0_pay163 (F := Ideal) (k0_pay162 (F := Ideal) a w s) b = k0_pay161 a w s b := rfl

theorem hid_chunk_164 (a : Vec Ideal S624x768 .bf16) (w : Vec Ideal S1x768x256 .i8) (s b : Vec Ideal S1x256 .f32) :
    k0_pay164 (F := Ideal) a w s b = k0_pay161 a w s b := rfl

theorem hid_chunk_166 (a : Vec Ideal S624x768 .bf16) (w : Vec Ideal S1x768x256 .i8) (s b : Vec Ideal S1x256 .f32) :
    k0_pay166 (F := Ideal) a (k0_pay165 (F := Ideal) w) s b = k0_pay161 a w s b := rfl

theorem hid_chunk_167 (a : Vec Ideal S624x768 .bf16) (w : Vec Ideal S1x768x256 .i8) (s b : Vec Ideal S1x256 .f32) :
    k0_pay167 (F := Ideal) a w s b = k0_pay161 a w s b := rfl

theorem hid_chunk_168 (a : Vec Ideal S624x768 .bf16) (w : Vec Ideal S1x768x256 .i8) (s b : Vec Ideal S1x256 .f32) :
    k0_pay168 (F := Ideal) a w s b = k0_pay161 a w s b := rfl

theorem hid_chunk_170 (a : Vec Ideal S624x768 .bf16) (w : Vec Ideal S1x768x256 .i8) (s b : Vec Ideal S1x256 .f32) :
    k0_pay170 (F := Ideal) (k0_pay169 (F := Ideal) a w s b) = k0_pay161 a w s b := rfl

theorem hid_chunk_171 (a : Vec Ideal S624x768 .bf16) (w : Vec Ideal S1x768x256 .i8) (s b : Vec Ideal S1x256 .f32) :
    k0_pay171 (F := Ideal) a w s b = k0_pay161 a w s b := rfl

theorem hid_chunk_173 (a : Vec Ideal S624x768 .bf16) (w : Vec Ideal S1x768x256 .i8) (s b : Vec Ideal S1x256 .f32) :
    k0_pay173 (F := Ideal) (k0_pay172 (F := Ideal) a w s) b = k0_pay161 a w s b := rfl

theorem hid_chunk_174 (a : Vec Ideal S624x768 .bf16) (w : Vec Ideal S1x768x256 .i8) (s b : Vec Ideal S1x256 .f32) :
    k0_pay174 (F := Ideal) a w s b = k0_pay161 a w s b := rfl

theorem hid_chunk_176 (a : Vec Ideal S624x768 .bf16) (w : Vec Ideal S1x768x256 .i8) (s b : Vec Ideal S1x256 .f32) :
    k0_pay176 (F := Ideal) (k0_pay175 (F := Ideal) a w) s b = k0_pay161 a w s b := rfl

theorem hid_chunk_177 (a : Vec Ideal S624x768 .bf16) (w : Vec Ideal S1x768x256 .i8) (s b : Vec Ideal S1x256 .f32) :
    k0_pay177 (F := Ideal) a w s b = k0_pay161 a w s b := rfl

/-- A chunk of the stream after the feed-forward block, as carried. -/
theorem out_chunk (h : Vec Ideal S624x3072 .bf16) (w : Vec Ideal S1x3072x256 .i8) (x : Vec Ideal S1x616x256 .f32)
    (s b : Vec Ideal S1x256 .f32) (r : Fin 616) (j : Fin 256) :
    k0_pay179 (F := Ideal) h w x s b (ix3 0 r j) = x (ix3 0 r j) + through h w s b r j := by
  pointwise [k0_pay179, k0_pay178]
  rfl

theorem out_chunk_184 (h : Vec Ideal S624x3072 .bf16) (w : Vec Ideal S1x3072x256 .i8) (x : Vec Ideal S1x616x256 .f32)
    (s b : Vec Ideal S1x256 .f32) :
    k0_pay184 (F := Ideal) (k0_pay181 h w) (k0_pay182 x) s b = k0_pay179 h w x s b := rfl

theorem out_chunk_187 (h : Vec Ideal S624x3072 .bf16) (w : Vec Ideal S1x3072x256 .i8) (x : Vec Ideal S1x616x256 .f32)
    (s b : Vec Ideal S1x256 .f32) :
    k0_pay187 (F := Ideal) h w x s b = k0_pay179 h w x s b := rfl

/-- The same chunk as stored in the output block. -/
theorem st_chunk (h : Vec Ideal S624x3072 .bf16) (w : Vec Ideal S1x3072x256 .i8) (x : Vec Ideal S1x616x256 .f32)
    (s b : Vec Ideal S1x256 .f32) (p : Fin 77) (q : Fin 8) (j : Fin 256) :
    k0_pay180 (F := Ideal) h w x s b (ix4 0 p q j) = x (ix3 0 (row p q) j) + through h w s b (row p q) j := by
  pointwise [k0_pay180, k0_pay178]
  rfl

theorem st_chunk_185 (h : Vec Ideal S624x3072 .bf16) (w : Vec Ideal S1x3072x256 .i8) (x : Vec Ideal S1x616x256 .f32)
    (s b : Vec Ideal S1x256 .f32) :
    k0_pay185 (F := Ideal) (k0_pay181 h w) (k0_pay182 x) s b = k0_pay180 h w x s b := rfl

theorem st_chunk_1 (h : Vec Ideal S624x3072 .bf16) (w : Vec Ideal S1x3072x256 .i8) (x : Vec Ideal S1x616x256 .f32)
    (s b : Vec Ideal S1x256 .f32) :
    k0_pay1 (F := Ideal) (k0_pay186 h w x s b) = k0_pay180 h w x s b := rfl

end Cert.KernelIdeal.Rows
-- ==== Proof.Loads.lean ====
/- The ideal kernel's loads of one grid point, entry by entry, and its stores against the rows they hold: the pieces the three
   cases of the body share. -/
module

public import proofs.«01_k».proof.Proof.KernelRows
public import proofs.«01_k».proof.Proof.Buffers

@[expose] public section

set_option maxRecDepth 16384

noncomputable section

namespace Cert.KernelIdeal.Rows

open Cert.KernelIdeal Cert.KernelIdeal.Gen Cert.Rows Idealize.ShloMosaic

/-! ## Loads -/

variable {sp : Space} {e : EltTy}

/-- Row `l`, columns from `o`, of a whole two-axis buffer. -/
theorem load_vec {n p k o l : ℕ} {m : Memref sig .tc sp ⟨2, ![n, p]⟩ e} (hm : m.IsWhole) {off : Fin 2 → ℕ} (ho : off = ![l, o])
    (inb : ∀ a, off a + (![1, k] : Fin 2 → ℕ) a ≤ (![n, p] : Fin 2 → ℕ) a) (x : Vec Ideal ⟨2, ![n, p]⟩ e)
    (L : Fin n) (hl : L.val = l) (j : Fin k) (hj : o + j.val < p) :
    View.readAt (Elt Ideal) m.view (Rect.unit (s := ⟨2, ![n, p]⟩) off ![1, k] inb).toLoadRect (hm.unread x) (ix2 0 j) = x (ix2 L ⟨o + j.val, hj⟩) := by
  subst ho
  rw [hm.readAt_unread]
  refine congrArg x (funext fun b => Fin.ext ?_)
  match b with
  | ⟨0, _⟩ => show l + 1 * 0 = L.val; omega
  | ⟨1, _⟩ => show o + 1 * j.val = o + j.val; omega

/-- Columns from `o` of a whole weight block. -/
theorem load_mat {n p k o : ℕ} {m : Memref sig .tc sp ⟨3, ![1, n, p]⟩ e} (hm : m.IsWhole)
    (inb : ∀ a, (![0, 0, o] : Fin 3 → ℕ) a + (![1, n, k] : Fin 3 → ℕ) a ≤ (![1, n, p] : Fin 3 → ℕ) a) (x : Vec Ideal ⟨3, ![1, n, p]⟩ e)
    (r : Fin n) (j : Fin k) (hj : o + j.val < p) :
    View.readAt (Elt Ideal) m.view (Rect.unit (s := ⟨3, ![1, n, p]⟩) ![0, 0, o] ![1, n, k] inb).toLoadRect (hm.unread x) (ix3 0 r j)
      = x (ix3 0 r ⟨o + j.val, hj⟩) := by
  rw [hm.readAt_unread]
  refine congrArg x (funext fun b => Fin.ext ?_)
  match b with
  | ⟨0, _⟩ => show 0 + 1 * 0 = 0; omega
  | ⟨1, _⟩ => show 0 + 1 * r.val = r.val; omega
  | ⟨2, _⟩ => show o + 1 * j.val = o + j.val; omega

/-- A whole three-axis block. -/
theorem load_all3 {n p q : ℕ} {m : Memref sig .tc sp ⟨3, ![n, p, q]⟩ e} (hm : m.IsWhole)
    (inb : ∀ a, (![0, 0, 0] : Fin 3 → ℕ) a + (![n, p, q] : Fin 3 → ℕ) a ≤ (![n, p, q] : Fin 3 → ℕ) a) (x : Vec Ideal ⟨3, ![n, p, q]⟩ e)
    (a : Fin n) (b : Fin p) (d : Fin q) :
    View.readAt (Elt Ideal) m.view (Rect.unit (s := ⟨3, ![n, p, q]⟩) ![0, 0, 0] ![n, p, q] inb).toLoadRect (hm.unread x) (ix3 a b d) = x (ix3 a b d) := by
  rw [hm.readAt_unread]
  refine congrArg x (funext fun k => Fin.ext ?_)
  match k with
  | ⟨0, _⟩ => show 0 + 1 * a.val = a.val; omega
  | ⟨1, _⟩ => show 0 + 1 * b.val = b.val; omega
  | ⟨2, _⟩ => show 0 + 1 * d.val = d.val; omega

/-- A whole four-axis block. -/
theorem load_all4 {n p q s : ℕ} {m : Memref sig .tc sp ⟨4, ![n, p, q, s]⟩ e} (hm : m.IsWhole)
    (inb : ∀ a, (![0, 0, 0, 0] : Fin 4 → ℕ) a + (![n, p, q, s] : Fin 4 → ℕ) a ≤ (![n, p, q, s] : Fin 4 → ℕ) a) (x : Vec Ideal ⟨4, ![n, p, q, s]⟩ e)
    (a : Fin n) (b : Fin p) (c : Fin q) (d : Fin s) :
    View.readAt (Elt Ideal) m.view (Rect.unit (s := ⟨4, ![n, p, q, s]⟩) ![0, 0, 0, 0] ![n, p, q, s] inb).toLoadRect (hm.unread x) (ix4 a b c d)
      = x (ix4 a b c d) := by
  rw [hm.readAt_unread]
  refine congrArg x (funext fun k => Fin.ext ?_)
  match k with
  | ⟨0, _⟩ => show 0 + 1 * a.val = a.val; omega
  | ⟨1, _⟩ => show 0 + 1 * b.val = b.val; omega
  | ⟨2, _⟩ => show 0 + 1 * c.val = c.val; omega
  | ⟨3, _⟩ => show 0 + 1 * d.val = d.val; omega

/-! ## One layer's parameters as a point finds them -/

/-- The blocks of a grid point of layer `l` hold the parameters `P`. -/
structure Holds (P : Layer) (l : Fin 12) (x2 x3 x4 x5 : Vec Ideal S12x768 .f32) (x6 : Vec Ideal S1x768x2304 .i8)
    (x7 x8 : Vec Ideal S12x2304 .f32) (x9 : Vec Ideal S1x768x768 .i8) (x10 x11 : Vec Ideal S12x768 .f32)
    (x12 : Vec Ideal S1x768x3072 .i8) (x13 x14 : Vec Ideal S12x3072 .f32) (x15 : Vec Ideal S1x3072x768 .i8)
    (x16 x17 : Vec Ideal S12x768 .f32) : Prop where
  g1 : ∀ d, x2 (ix2 l d) = P.g1 d
  b1 : ∀ d, x3 (ix2 l d) = P.b1 d
  g2 : ∀ d, x4 (ix2 l d) = P.g2 d
  b2 : ∀ d, x5 (ix2 l d) = P.b2 d
  wqkv : ∀ k j, word (x6 (ix3 0 k j)) = P.wqkv k j
  sqkv : ∀ j, x7 (ix2 l j) = P.sqkv j
  bqkv : ∀ j, x8 (ix2 l j) = P.bqkv j
  wo : ∀ k j, word (x9 (ix3 0 k j)) = P.wo k j
  so : ∀ j, x10 (ix2 l j) = P.so j
  bo : ∀ j, x11 (ix2 l j) = P.bo j
  w1 : ∀ k j, word (x12 (ix3 0 k j)) = P.w1 k j
  s1 : ∀ j, x13 (ix2 l j) = P.s1 j
  bb1 : ∀ j, x14 (ix2 l j) = P.bb1 j
  w2 : ∀ k j, word (x15 (ix3 0 k j)) = P.w2 k j
  s2 : ∀ j, x16 (ix2 l j) = P.s2 j
  bb2 : ∀ j, x17 (ix2 l j) = P.bb2 j

/-- The gain or bias row of a layer. -/
theorem load_row {l : ℕ} {m : Memref sig .tc sp S12x768 .f32} (hm : m.IsWhole) {off : Fin 2 → ℕ} (ho : off = ![l, 0])
    (inb : ∀ a, off a + (![1, 768] : Fin 2 → ℕ) a ≤ (![12, 768] : Fin 2 → ℕ) a) {x : Vec Ideal S12x768 .f32} {L : Fin 12} (hl : L.val = l)
    {G : Fin 768 → EReal} (h : ∀ d, x (ix2 L d) = G d) (d : Fin 768) :
    View.readAt (Elt Ideal) m.view (Rect.unit (s := S12x768) off ![1, 768] inb).toLoadRect (hm.unread x) (ix2 0 d) = G d := by
  refine (load_vec hm ho inb x L hl d (by omega)).trans (Eq.trans (congrArg (fun d => x (ix2 L d)) (Fin.ext ?_)) (h d))
  show 0 + d.val = d.val
  omega

/-! ## What a store holds -/

/-- Sixteen rows normed, from row `o`. -/
theorem piece16 {g b : Vec Ideal S1x768 .f32} {v : Vec Ideal S1x16x768 .f32} {w : Vec Ideal S16x768 .bf16}
    (hw : w = k0_pay6 (F := Ideal) g b v) {G B : Fin 768 → EReal} (hg : ∀ d, g (ix2 0 d) = G d) (hb : ∀ d, b (ix2 0 d) = B d)
    {X : Fin 616 → Fin 768 → EReal} {o : ℕ} (hv : ∀ (a : Fin 16) d (hr : o + a.val < 616), v (ix3 0 a d) = X ⟨o + a.val, hr⟩ d)
    (a : Fin 16) (d : Fin 768) (hr : o + a.val < 616) : w (ix2 a d) = ln G B (X ⟨o + a.val, hr⟩) d := by
  subst hw
  rw [ln16, show (fun k => g (ix2 0 k)) = G from funext hg, show (fun k => b (ix2 0 k)) = B from funext hb,
    show (fun k => v (ix3 0 a k)) = X ⟨o + a.val, hr⟩ from funext fun k => hv a k hr]

/-- The last eight rows normed. -/
theorem piece8 {g b : Vec Ideal S1x768 .f32} {v : Vec Ideal S1x8x768 .f32} {w : Vec Ideal S8x768 .bf16}
    (hw : w = k0_pay76 (F := Ideal) g b (k0_pay74 v) (k0_pay75 v)) {G B : Fin 768 → EReal} (hg : ∀ d, g (ix2 0 d) = G d)
    (hb : ∀ d, b (ix2 0 d) = B d) {X : Fin 616 → Fin 768 → EReal} {o : ℕ}
    (hv : ∀ (a : Fin 8) d (hr : o + a.val < 616), v (ix3 0 a d) = X ⟨o + a.val, hr⟩ d)
    (a : Fin 8) (d : Fin 768) (hr : o + a.val < 616) : w (ix2 a d) = ln G B (X ⟨o + a.val, hr⟩) d := by
  subst hw
  rw [ln8, show (fun k => g (ix2 0 k)) = G from funext hg, show (fun k => b (ix2 0 k)) = B from funext hb,
    show (fun k => v (ix3 0 a k)) = X ⟨o + a.val, hr⟩ from funext fun k => hv a k hr]

/-- A chunk of columns of a linear map. -/
theorem through_eq {n m : ℕ} {a : (SA n).Idx → EReal} {w : (⟨3, ![1, n, 256]⟩ : Shape).Idx → BitVec 8}
    {s b : (⟨2, ![1, 256]⟩ : Shape).Idx → EReal} {A : Fin 616 → Fin n → EReal} {W : Fin n → Fin m → EReal} {S B : Fin m → EReal}
    (ha : ∀ r k, a (ix2 (up r) k) = A r k) (c : Fin 256 → Fin m) (hw : ∀ k j, word (w (ix3 0 k j)) = W k (c j))
    (hs : ∀ j, s (ix2 0 j) = S (c j)) (hb : ∀ j, b (ix2 0 j) = B (c j)) (r : Fin 616) (j : Fin 256) :
    through a w s b r j = lin W S B (A r) (c j) := by
  simp only [through, lin, ha, hw, hs, hb]

/-- Column `j` of the chunk from column `o`. -/
def col (o m : ℕ) (h : o + 256 ≤ m) (j : Fin 256) : Fin m := ⟨o + j.val, by omega⟩

end Cert.KernelIdeal.Rows
-- ==== Proof.ValueA.lean ====
/- What the ideal kernel's body leaves at the first point (layer 0, tile 0), row by row: each stage's buffer holds the rows the layer's mathematics names. -/
module

public import proofs.«01_k».proof.Proof.IdealRunA
public import proofs.«01_k».proof.Proof.Loads

@[expose] public section

set_option maxRecDepth 16384

noncomputable section

namespace Cert.KernelIdeal.Rows

open Cert.KernelIdeal Cert.KernelIdeal.Gen Cert.Rows Idealize.ShloMosaic Idealize.ShloMosaic.TcCoe

variable {c : Dev nD} {i : grid0.Coords} {arg2 : Memref sig .tc .vmem S77x8x768 .f32} {harg2 : arg2.IsWhole} {arg3 : Memref sig .tc .vmem S1x77x8x768 .bf16} {harg3 : arg3.IsWhole} {arg4 : Memref sig .tc .vmem S12x768 .f32} {harg4 : arg4.IsWhole} {arg5 : Memref sig .tc .vmem S12x768 .f32} {harg5 : arg5.IsWhole} {arg6 : Memref sig .tc .vmem S12x768 .f32} {harg6 : arg6.IsWhole} {arg7 : Memref sig .tc .vmem S12x768 .f32} {harg7 : arg7.IsWhole} {arg8 : Memref sig .tc .vmem S1x768x2304 .i8} {harg8 : arg8.IsWhole} {arg9 : Memref sig .tc .vmem S12x2304 .f32} {harg9 : arg9.IsWhole} {arg10 : Memref sig .tc .vmem S12x2304 .f32} {harg10 : arg10.IsWhole} {arg11 : Memref sig .tc .vmem S1x768x768 .i8} {harg11 : arg11.IsWhole} {arg12 : Memref sig .tc .vmem S12x768 .f32} {harg12 : arg12.IsWhole} {arg13 : Memref sig .tc .vmem S12x768 .f32} {harg13 : arg13.IsWhole} {arg14 : Memref sig .tc .vmem S1x768x3072 .i8} {harg14 : arg14.IsWhole} {arg15 : Memref sig .tc .vmem S12x3072 .f32} {harg15 : arg15.IsWhole} {arg16 : Memref sig .tc .vmem S12x3072 .f32} {harg16 : arg16.IsWhole} {arg17 : Memref sig .tc .vmem S1x3072x768 .i8} {harg17 : arg17.IsWhole} {arg18 : Memref sig .tc .vmem S12x768 .f32} {harg18 : arg18.IsWhole} {arg19 : Memref sig .tc .vmem S12x768 .f32} {harg19 : arg19.IsWhole} {arg20 : Memref sig .tc .vmem S1x77x8x768 .f32} {harg20 : arg20.IsWhole} {arg21 : Memref sig .tc .vmem S1x77x8x768 .bf16} {harg21 : arg21.IsWhole} {arg22 : Memref sig .tc .vmem S4x616x768 .f32} {harg22 : arg22.IsWhole} {arg23 : Memref sig .tc .vmem S624x768 .bf16} {harg23 : arg23.IsWhole} {arg24 : Memref sig .tc .vmem S624x3072 .bf16} {harg24 : arg24.IsWhole}
  {x0 : Vec Ideal S77x8x768 .f32} {x1 : Vec Ideal S1x77x8x768 .bf16} {x2 : Vec Ideal S12x768 .f32} {x3 : Vec Ideal S12x768 .f32} {x4 : Vec Ideal S12x768 .f32} {x5 : Vec Ideal S12x768 .f32} {x6 : Vec Ideal S1x768x2304 .i8} {x7 : Vec Ideal S12x2304 .f32} {x8 : Vec Ideal S12x2304 .f32} {x9 : Vec Ideal S1x768x768 .i8} {x10 : Vec Ideal S12x768 .f32} {x11 : Vec Ideal S12x768 .f32} {x12 : Vec Ideal S1x768x3072 .i8} {x13 : Vec Ideal S12x3072 .f32} {x14 : Vec Ideal S12x3072 .f32} {x15 : Vec Ideal S1x3072x768 .i8} {x16 : Vec Ideal S12x768 .f32} {x17 : Vec Ideal S12x768 .f32} {xs0 : Vec Ideal S4x616x768 .f32} {xs1 : Vec Ideal S624x768 .bf16} {xs2 : Vec Ideal S624x3072 .bf16}
  {hc0 : cond0_0 i} {hc1 : cond0_1 i}
  {P : Layer} {X At M : Fin 616 → Fin 768 → EReal}

/-- The tile as loaded from the embedded tokens. -/
theorem A_tile (hX : ∀ (r : Fin 616) d, x0 (ix3 ⟨r.val / 8, by omega⟩ ⟨r.val % 8, by omega⟩ d) = X r d) : ∀ f, TileIs arg22.view (arg22.view.writes (Elt Ideal) f (kernelRun0_A.sl.HS0_1 (F := Ideal) c i arg2 harg2 hc1 x0)) (i 1) X := by
  intro f
  unfold kernelRun0_A.sl.HS0_1
  refine TileIs.store (k0_off1_eq i) _ fun r d => ?_
  rw [init_tile, load_all3]
  exact hX r d

/-- The rows normed for the keys. -/
theorem A_ln1 (hP : Holds P (i 0) x2 x3 x4 x5 x6 x7 x8 x9 x10 x11 x12 x13 x14 x15 x16 x17)
    (hT : ∀ f, TileIs arg22.view (arg22.view.writes (Elt Ideal) f (kernelRun0_A.sl.HS0_1 (F := Ideal) c i arg2 harg2 hc1 x0)) (i 1) X) :
    ∀ g, RowsIs arg23.view (arg23.view.writes (Elt Ideal) g (kernelRun0_A.sl.HS1_40 (F := Ideal) c i arg2 harg2 arg4 harg4 arg5 harg5 arg22 hc1 x0 x2 x3)) 616 (fun r => ln P.g1 P.b1 (X r)) := by
  intro g
  unfold kernelRun0_A.sl.HS1_40
  refine RowsIs.store (n := 608) (k := 8) ?_ _ (piece8 rfl (load_row harg4 (k0_off2_eq i) _ rfl hP.g1) (load_row harg5 (k0_off2_eq i) _ rfl hP.b1) ((hT _).load_rows (k0_off41_eq i) _))
  refine RowsIs.store (n := 592) (k := 16) ?_ _ (piece16 (ln16_73 _ _ _) (load_row harg4 (k0_off2_eq i) _ rfl hP.g1) (load_row harg5 (k0_off2_eq i) _ rfl hP.b1) ((hT _).load_rows (k0_off40_eq i) _))
  refine RowsIs.store (n := 576) (k := 16) ?_ _ (piece16 (ln16_72 _ _ _) (load_row harg4 (k0_off2_eq i) _ rfl hP.g1) (load_row harg5 (k0_off2_eq i) _ rfl hP.b1) ((hT _).load_rows (k0_off39_eq i) _))
  refine RowsIs.store (n := 560) (k := 16) ?_ _ (piece16 (ln16_69 _ _ _) (load_row harg4 (k0_off2_eq i) _ rfl hP.g1) (load_row harg5 (k0_off2_eq i) _ rfl hP.b1) ((hT _).load_rows (k0_off38_eq i) _))
  refine RowsIs.store (n := 544) (k := 16) ?_ _ (piece16 (ln16_68 _ _ _) (load_row harg4 (k0_off2_eq i) _ rfl hP.g1) (load_row harg5 (k0_off2_eq i) _ rfl hP.b1) ((hT _).load_rows (k0_off37_eq i) _))
  refine RowsIs.store (n := 528) (k := 16) ?_ _ (piece16 (ln16_67 _ _ _) (load_row harg4 (k0_off2_eq i) _ rfl hP.g1) (load_row harg5 (k0_off2_eq i) _ rfl hP.b1) ((hT _).load_rows (k0_off36_eq i) _))
  refine RowsIs.store (n := 512) (k := 16) ?_ _ (piece16 (ln16_64 _ _ _) (load_row harg4 (k0_off2_eq i) _ rfl hP.g1) (load_row harg5 (k0_off2_eq i) _ rfl hP.b1) ((hT _).load_rows (k0_off35_eq i) _))
  refine RowsIs.store (n := 496) (k := 16) ?_ _ (piece16 (ln16_63 _ _ _) (load_row harg4 (k0_off2_eq i) _ rfl hP.g1) (load_row harg5 (k0_off2_eq i) _ rfl hP.b1) ((hT _).load_rows (k0_off34_eq i) _))
  refine RowsIs.store (n := 480) (k := 16) ?_ _ (piece16 (ln16_61 _ _ _) (load_row harg4 (k0_off2_eq i) _ rfl hP.g1) (load_row harg5 (k0_off2_eq i) _ rfl hP.b1) ((hT _).load_rows (k0_off33_eq i) _))
  refine RowsIs.store (n := 464) (k := 16) ?_ _ (piece16 (ln16_58 _ _ _) (load_row harg4 (k0_off2_eq i) _ rfl hP.g1) (load_row harg5 (k0_off2_eq i) _ rfl hP.b1) ((hT _).load_rows (k0_off32_eq i) _))
  refine RowsIs.store (n := 448) (k := 16) ?_ _ (piece16 (ln16_57 _ _ _) (load_row harg4 (k0_off2_eq i) _ rfl hP.g1) (load_row harg5 (k0_off2_eq i) _ rfl hP.b1) ((hT _).load_rows (k0_off31_eq i) _))
  refine RowsIs.store (n := 432) (k := 16) ?_ _ (piece16 (ln16_54 _ _ _) (load_row harg4 (k0_off2_eq i) _ rfl hP.g1) (load_row harg5 (k0_off2_eq i) _ rfl hP.b1) ((hT _).load_rows (k0_off30_eq i) _))
  refine RowsIs.store (n := 416) (k := 16) ?_ _ (piece16 (ln16_53 _ _ _) (load_row harg4 (k0_off2_eq i) _ rfl hP.g1) (load_row harg5 (k0_off2_eq i) _ rfl hP.b1) ((hT _).load_rows (k0_off29_eq i) _))
  refine RowsIs.store (n := 400) (k := 16) ?_ _ (piece16 (ln16_51 _ _ _) (load_row harg4 (k0_off2_eq i) _ rfl hP.g1) (load_row harg5 (k0_off2_eq i) _ rfl hP.b1) ((hT _).load_rows (k0_off28_eq i) _))
  refine RowsIs.store (n := 384) (k := 16) ?_ _ (piece16 (ln16_48 _ _ _) (load_row harg4 (k0_off2_eq i) _ rfl hP.g1) (load_row harg5 (k0_off2_eq i) _ rfl hP.b1) ((hT _).load_rows (k0_off27_eq i) _))
  refine RowsIs.store (n := 368) (k := 16) ?_ _ (piece16 (ln16_47 _ _ _) (load_row harg4 (k0_off2_eq i) _ rfl hP.g1) (load_row harg5 (k0_off2_eq i) _ rfl hP.b1) ((hT _).load_rows (k0_off26_eq i) _))
  refine RowsIs.store (n := 352) (k := 16) ?_ _ (piece16 (ln16_45 _ _ _) (load_row harg4 (k0_off2_eq i) _ rfl hP.g1) (load_row harg5 (k0_off2_eq i) _ rfl hP.b1) ((hT _).load_rows (k0_off25_eq i) _))
  refine RowsIs.store (n := 336) (k := 16) ?_ _ (piece16 (ln16_44 _ _ _) (load_row harg4 (k0_off2_eq i) _ rfl hP.g1) (load_row harg5 (k0_off2_eq i) _ rfl hP.b1) ((hT _).load_rows (k0_off24_eq i) _))
  refine RowsIs.store (n := 320) (k := 16) ?_ _ (piece16 (ln16_43 _ _ _) (load_row harg4 (k0_off2_eq i) _ rfl hP.g1) (load_row harg5 (k0_off2_eq i) _ rfl hP.b1) ((hT _).load_rows (k0_off23_eq i) _))
  refine RowsIs.store (n := 304) (k := 16) ?_ _ (piece16 (ln16_40 _ _ _) (load_row harg4 (k0_off2_eq i) _ rfl hP.g1) (load_row harg5 (k0_off2_eq i) _ rfl hP.b1) ((hT _).load_rows (k0_off22_eq i) _))
  refine RowsIs.store (n := 288) (k := 16) ?_ _ (piece16 (ln16_39 _ _ _) (load_row harg4 (k0_off2_eq i) _ rfl hP.g1) (load_row harg5 (k0_off2_eq i) _ rfl hP.b1) ((hT _).load_rows (k0_off21_eq i) _))
  refine RowsIs.store (n := 272) (k := 16) ?_ _ (piece16 (ln16_37 _ _ _) (load_row harg4 (k0_off2_eq i) _ rfl hP.g1) (load_row harg5 (k0_off2_eq i) _ rfl hP.b1) ((hT _).load_rows (k0_off20_eq i) _))
  refine RowsIs.store (n := 256) (k := 16) ?_ _ (piece16 (ln16_34 _ _ _) (load_row harg4 (k0_off2_eq i) _ rfl hP.g1) (load_row harg5 (k0_off2_eq i) _ rfl hP.b1) ((hT _).load_rows (k0_off19_eq i) _))
  refine RowsIs.store (n := 240) (k := 16) ?_ _ (piece16 (ln16_33 _ _ _) (load_row harg4 (k0_off2_eq i) _ rfl hP.g1) (load_row harg5 (k0_off2_eq i) _ rfl hP.b1) ((hT _).load_rows (k0_off18_eq i) _))
  refine RowsIs.store (n := 224) (k := 16) ?_ _ (piece16 (ln16_29 _ _ _) (load_row harg4 (k0_off2_eq i) _ rfl hP.g1) (load_row harg5 (k0_off2_eq i) _ rfl hP.b1) ((hT _).load_rows (k0_off17_eq i) _))
  refine RowsIs.store (n := 208) (k := 16) ?_ _ (piece16 (ln16_28 _ _ _) (load_row harg4 (k0_off2_eq i) _ rfl hP.g1) (load_row harg5 (k0_off2_eq i) _ rfl hP.b1) ((hT _).load_rows (k0_off16_eq i) _))
  refine RowsIs.store (n := 192) (k := 16) ?_ _ (piece16 (ln16_27 _ _ _) (load_row harg4 (k0_off2_eq i) _ rfl hP.g1) (load_row harg5 (k0_off2_eq i) _ rfl hP.b1) ((hT _).load_rows (k0_off15_eq i) _))
  refine RowsIs.store (n := 176) (k := 16) ?_ _ (piece16 (ln16_25 _ _ _) (load_row harg4 (k0_off2_eq i) _ rfl hP.g1) (load_row harg5 (k0_off2_eq i) _ rfl hP.b1) ((hT _).load_rows (k0_off14_eq i) _))
  refine RowsIs.store (n := 160) (k := 16) ?_ _ (piece16 (ln16_24 _ _ _) (load_row harg4 (k0_off2_eq i) _ rfl hP.g1) (load_row harg5 (k0_off2_eq i) _ rfl hP.b1) ((hT _).load_rows (k0_off13_eq i) _))
  refine RowsIs.store (n := 144) (k := 16) ?_ _ (piece16 (ln16_21 _ _ _) (load_row harg4 (k0_off2_eq i) _ rfl hP.g1) (load_row harg5 (k0_off2_eq i) _ rfl hP.b1) ((hT _).load_rows (k0_off12_eq i) _))
  refine RowsIs.store (n := 128) (k := 16) ?_ _ (piece16 (ln16_20 _ _ _) (load_row harg4 (k0_off2_eq i) _ rfl hP.g1) (load_row harg5 (k0_off2_eq i) _ rfl hP.b1) ((hT _).load_rows (k0_off11_eq i) _))
  refine RowsIs.store (n := 112) (k := 16) ?_ _ (piece16 (ln16_19 _ _ _) (load_row harg4 (k0_off2_eq i) _ rfl hP.g1) (load_row harg5 (k0_off2_eq i) _ rfl hP.b1) ((hT _).load_rows (k0_off10_eq i) _))
  refine RowsIs.store (n := 96) (k := 16) ?_ _ (piece16 (ln16_16 _ _ _) (load_row harg4 (k0_off2_eq i) _ rfl hP.g1) (load_row harg5 (k0_off2_eq i) _ rfl hP.b1) ((hT _).load_rows (k0_off9_eq i) _))
  refine RowsIs.store (n := 80) (k := 16) ?_ _ (piece16 (ln16_15 _ _ _) (load_row harg4 (k0_off2_eq i) _ rfl hP.g1) (load_row harg5 (k0_off2_eq i) _ rfl hP.b1) ((hT _).load_rows (k0_off8_eq i) _))
  refine RowsIs.store (n := 64) (k := 16) ?_ _ (piece16 (ln16_13 _ _ _) (load_row harg4 (k0_off2_eq i) _ rfl hP.g1) (load_row harg5 (k0_off2_eq i) _ rfl hP.b1) ((hT _).load_rows (k0_off7_eq i) _))
  refine RowsIs.store (n := 48) (k := 16) ?_ _ (piece16 (ln16_10 _ _ _) (load_row harg4 (k0_off2_eq i) _ rfl hP.g1) (load_row harg5 (k0_off2_eq i) _ rfl hP.b1) ((hT _).load_rows (k0_off6_eq i) _))
  refine RowsIs.store (n := 32) (k := 16) ?_ _ (piece16 (ln16_9 _ _ _) (load_row harg4 (k0_off2_eq i) _ rfl hP.g1) (load_row harg5 (k0_off2_eq i) _ rfl hP.b1) ((hT _).load_rows (k0_off5_eq i) _))
  refine RowsIs.store (n := 16) (k := 16) ?_ _ (piece16 rfl (load_row harg4 (k0_off2_eq i) _ rfl hP.g1) (load_row harg5 (k0_off2_eq i) _ rfl hP.b1) ((hT _).load_rows (k0_off4_eq i) _))
  refine RowsIs.store (n := 0) (k := 16) ?_ _ (piece16 (ln16_5 _ _ _) (load_row harg4 (k0_off2_eq i) _ rfl hP.g1) (load_row harg5 (k0_off2_eq i) _ rfl hP.b1) ((hT _).load_rows (k0_off3_eq i) _))
  exact RowsIs.zero

/-- The attention's rows. -/
theorem A_attn (hA : ∀ (r : Fin 616) d, x1 (ix4 0 ⟨r.val / 8, by omega⟩ ⟨r.val % 8, by omega⟩ d) = At r d) :
    ∀ g, RowsIs arg23.view (arg23.view.writes (Elt Ideal) g (kernelRun0_A.sl.HS1_41 (F := Ideal) c i arg2 harg2 arg3 harg3 arg4 harg4 arg5 harg5 arg22 hc1 x0 x1 x2 x3)) 616 At := by
  intro g
  unfold kernelRun0_A.sl.HS1_41
  refine RowsIs.store (n := 0) (k := 616) RowsIs.zero _ fun r d hr => ?_
  rw [attn_rows, load_all4, hA]
  exact congrArg (fun r => At r d) (Fin.ext (Nat.zero_add _).symm)

/-- The rows normed for the feed-forward block. -/
theorem A_ln2 (hP : Holds P (i 0) x2 x3 x4 x5 x6 x7 x8 x9 x10 x11 x12 x13 x14 x15 x16 x17)
    (hT : ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) M) :
    ∀ g, RowsIs arg23.view (arg23.view.writes (Elt Ideal) g (kernelRun0_A.sl.HS1_80 (F := Ideal) c i arg2 harg2 arg3 harg3 arg4 harg4 arg5 harg5 arg6 harg6 arg7 harg7 arg11 harg11 arg12 harg12 arg13 harg13 arg22 arg23 hc1 x0 x1 x2 x3 x4 x5 x9 x10 x11)) 616 (fun r => ln P.g2 P.b2 (M r)) := by
  intro g
  unfold kernelRun0_A.sl.HS1_80
  refine RowsIs.store (n := 608) (k := 8) ?_ _ (piece8 (ln8_160 _ _ _) (load_row harg6 (k0_off2_eq i) _ rfl hP.g2) (load_row harg7 (k0_off2_eq i) _ rfl hP.b2) ((hT _).load_rows (k0_off41_eq i) _))
  refine RowsIs.store (n := 592) (k := 16) ?_ _ (piece16 (ln16_158 _ _ _) (load_row harg6 (k0_off2_eq i) _ rfl hP.g2) (load_row harg7 (k0_off2_eq i) _ rfl hP.b2) ((hT _).load_rows (k0_off40_eq i) _))
  refine RowsIs.store (n := 576) (k := 16) ?_ _ (piece16 (ln16_156 _ _ _) (load_row harg6 (k0_off2_eq i) _ rfl hP.g2) (load_row harg7 (k0_off2_eq i) _ rfl hP.b2) ((hT _).load_rows (k0_off39_eq i) _))
  refine RowsIs.store (n := 560) (k := 16) ?_ _ (piece16 (ln16_155 _ _ _) (load_row harg6 (k0_off2_eq i) _ rfl hP.g2) (load_row harg7 (k0_off2_eq i) _ rfl hP.b2) ((hT _).load_rows (k0_off38_eq i) _))
  refine RowsIs.store (n := 544) (k := 16) ?_ _ (piece16 (ln16_151 _ _ _) (load_row harg6 (k0_off2_eq i) _ rfl hP.g2) (load_row harg7 (k0_off2_eq i) _ rfl hP.b2) ((hT _).load_rows (k0_off37_eq i) _))
  refine RowsIs.store (n := 528) (k := 16) ?_ _ (piece16 (ln16_150 _ _ _) (load_row harg6 (k0_off2_eq i) _ rfl hP.g2) (load_row harg7 (k0_off2_eq i) _ rfl hP.b2) ((hT _).load_rows (k0_off36_eq i) _))
  refine RowsIs.store (n := 512) (k := 16) ?_ _ (piece16 (ln16_148 _ _ _) (load_row harg6 (k0_off2_eq i) _ rfl hP.g2) (load_row harg7 (k0_off2_eq i) _ rfl hP.b2) ((hT _).load_rows (k0_off35_eq i) _))
  refine RowsIs.store (n := 496) (k := 16) ?_ _ (piece16 (ln16_144 _ _ _) (load_row harg6 (k0_off2_eq i) _ rfl hP.g2) (load_row harg7 (k0_off2_eq i) _ rfl hP.b2) ((hT _).load_rows (k0_off34_eq i) _))
  refine RowsIs.store (n := 480) (k := 16) ?_ _ (piece16 (ln16_143 _ _ _) (load_row harg6 (k0_off2_eq i) _ rfl hP.g2) (load_row harg7 (k0_off2_eq i) _ rfl hP.b2) ((hT _).load_rows (k0_off33_eq i) _))
  refine RowsIs.store (n := 464) (k := 16) ?_ _ (piece16 (ln16_140 _ _ _) (load_row harg6 (k0_off2_eq i) _ rfl hP.g2) (load_row harg7 (k0_off2_eq i) _ rfl hP.b2) ((hT _).load_rows (k0_off32_eq i) _))
  refine RowsIs.store (n := 448) (k := 16) ?_ _ (piece16 (ln16_139 _ _ _) (load_row harg6 (k0_off2_eq i) _ rfl hP.g2) (load_row harg7 (k0_off2_eq i) _ rfl hP.b2) ((hT _).load_rows (k0_off31_eq i) _))
  refine RowsIs.store (n := 432) (k := 16) ?_ _ (piece16 (ln16_138 _ _ _) (load_row harg6 (k0_off2_eq i) _ rfl hP.g2) (load_row harg7 (k0_off2_eq i) _ rfl hP.b2) ((hT _).load_rows (k0_off30_eq i) _))
  refine RowsIs.store (n := 416) (k := 16) ?_ _ (piece16 (ln16_135 _ _ _) (load_row harg6 (k0_off2_eq i) _ rfl hP.g2) (load_row harg7 (k0_off2_eq i) _ rfl hP.b2) ((hT _).load_rows (k0_off29_eq i) _))
  refine RowsIs.store (n := 400) (k := 16) ?_ _ (piece16 (ln16_134 _ _ _) (load_row harg6 (k0_off2_eq i) _ rfl hP.g2) (load_row harg7 (k0_off2_eq i) _ rfl hP.b2) ((hT _).load_rows (k0_off28_eq i) _))
  refine RowsIs.store (n := 384) (k := 16) ?_ _ (piece16 (ln16_131 _ _ _) (load_row harg6 (k0_off2_eq i) _ rfl hP.g2) (load_row harg7 (k0_off2_eq i) _ rfl hP.b2) ((hT _).load_rows (k0_off27_eq i) _))
  refine RowsIs.store (n := 368) (k := 16) ?_ _ (piece16 (ln16_129 _ _ _) (load_row harg6 (k0_off2_eq i) _ rfl hP.g2) (load_row harg7 (k0_off2_eq i) _ rfl hP.b2) ((hT _).load_rows (k0_off26_eq i) _))
  refine RowsIs.store (n := 352) (k := 16) ?_ _ (piece16 (ln16_128 _ _ _) (load_row harg6 (k0_off2_eq i) _ rfl hP.g2) (load_row harg7 (k0_off2_eq i) _ rfl hP.b2) ((hT _).load_rows (k0_off25_eq i) _))
  refine RowsIs.store (n := 336) (k := 16) ?_ _ (piece16 (ln16_125 _ _ _) (load_row harg6 (k0_off2_eq i) _ rfl hP.g2) (load_row harg7 (k0_off2_eq i) _ rfl hP.b2) ((hT _).load_rows (k0_off24_eq i) _))
  refine RowsIs.store (n := 320) (k := 16) ?_ _ (piece16 (ln16_124 _ _ _) (load_row harg6 (k0_off2_eq i) _ rfl hP.g2) (load_row harg7 (k0_off2_eq i) _ rfl hP.b2) ((hT _).load_rows (k0_off23_eq i) _))
  unfold kernelRun0_A.sl.HS1_61
  refine RowsIs.store (n := 304) (k := 16) ?_ _ (piece16 (ln16_122 _ _ _) (load_row harg6 (k0_off2_eq i) _ rfl hP.g2) (load_row harg7 (k0_off2_eq i) _ rfl hP.b2) ((hT _).load_rows (k0_off22_eq i) _))
  refine RowsIs.store (n := 288) (k := 16) ?_ _ (piece16 (ln16_119 _ _ _) (load_row harg6 (k0_off2_eq i) _ rfl hP.g2) (load_row harg7 (k0_off2_eq i) _ rfl hP.b2) ((hT _).load_rows (k0_off21_eq i) _))
  refine RowsIs.store (n := 272) (k := 16) ?_ _ (piece16 (ln16_118 _ _ _) (load_row harg6 (k0_off2_eq i) _ rfl hP.g2) (load_row harg7 (k0_off2_eq i) _ rfl hP.b2) ((hT _).load_rows (k0_off20_eq i) _))
  refine RowsIs.store (n := 256) (k := 16) ?_ _ (piece16 (ln16_115 _ _ _) (load_row harg6 (k0_off2_eq i) _ rfl hP.g2) (load_row harg7 (k0_off2_eq i) _ rfl hP.b2) ((hT _).load_rows (k0_off19_eq i) _))
  refine RowsIs.store (n := 240) (k := 16) ?_ _ (piece16 (ln16_114 _ _ _) (load_row harg6 (k0_off2_eq i) _ rfl hP.g2) (load_row harg7 (k0_off2_eq i) _ rfl hP.b2) ((hT _).load_rows (k0_off18_eq i) _))
  refine RowsIs.store (n := 224) (k := 16) ?_ _ (piece16 (ln16_113 _ _ _) (load_row harg6 (k0_off2_eq i) _ rfl hP.g2) (load_row harg7 (k0_off2_eq i) _ rfl hP.b2) ((hT _).load_rows (k0_off17_eq i) _))
  refine RowsIs.store (n := 208) (k := 16) ?_ _ (piece16 (ln16_110 _ _ _) (load_row harg6 (k0_off2_eq i) _ rfl hP.g2) (load_row harg7 (k0_off2_eq i) _ rfl hP.b2) ((hT _).load_rows (k0_off16_eq i) _))
  refine RowsIs.store (n := 192) (k := 16) ?_ _ (piece16 (ln16_109 _ _ _) (load_row harg6 (k0_off2_eq i) _ rfl hP.g2) (load_row harg7 (k0_off2_eq i) _ rfl hP.b2) ((hT _).load_rows (k0_off15_eq i) _))
  refine RowsIs.store (n := 176) (k := 16) ?_ _ (piece16 (ln16_107 _ _ _) (load_row harg6 (k0_off2_eq i) _ rfl hP.g2) (load_row harg7 (k0_off2_eq i) _ rfl hP.b2) ((hT _).load_rows (k0_off14_eq i) _))
  refine RowsIs.store (n := 160) (k := 16) ?_ _ (piece16 (ln16_104 _ _ _) (load_row harg6 (k0_off2_eq i) _ rfl hP.g2) (load_row harg7 (k0_off2_eq i) _ rfl hP.b2) ((hT _).load_rows (k0_off13_eq i) _))
  refine RowsIs.store (n := 144) (k := 16) ?_ _ (piece16 (ln16_103 _ _ _) (load_row harg6 (k0_off2_eq i) _ rfl hP.g2) (load_row harg7 (k0_off2_eq i) _ rfl hP.b2) ((hT _).load_rows (k0_off12_eq i) _))
  refine RowsIs.store (n := 128) (k := 16) ?_ _ (piece16 (ln16_100 _ _ _) (load_row harg6 (k0_off2_eq i) _ rfl hP.g2) (load_row harg7 (k0_off2_eq i) _ rfl hP.b2) ((hT _).load_rows (k0_off11_eq i) _))
  refine RowsIs.store (n := 112) (k := 16) ?_ _ (piece16 (ln16_99 _ _ _) (load_row harg6 (k0_off2_eq i) _ rfl hP.g2) (load_row harg7 (k0_off2_eq i) _ rfl hP.b2) ((hT _).load_rows (k0_off10_eq i) _))
  refine RowsIs.store (n := 96) (k := 16) ?_ _ (piece16 (ln16_97 _ _ _) (load_row harg6 (k0_off2_eq i) _ rfl hP.g2) (load_row harg7 (k0_off2_eq i) _ rfl hP.b2) ((hT _).load_rows (k0_off9_eq i) _))
  refine RowsIs.store (n := 80) (k := 16) ?_ _ (piece16 (ln16_94 _ _ _) (load_row harg6 (k0_off2_eq i) _ rfl hP.g2) (load_row harg7 (k0_off2_eq i) _ rfl hP.b2) ((hT _).load_rows (k0_off8_eq i) _))
  refine RowsIs.store (n := 64) (k := 16) ?_ _ (piece16 (ln16_93 _ _ _) (load_row harg6 (k0_off2_eq i) _ rfl hP.g2) (load_row harg7 (k0_off2_eq i) _ rfl hP.b2) ((hT _).load_rows (k0_off7_eq i) _))
  refine RowsIs.store (n := 48) (k := 16) ?_ _ (piece16 (ln16_91 _ _ _) (load_row harg6 (k0_off2_eq i) _ rfl hP.g2) (load_row harg7 (k0_off2_eq i) _ rfl hP.b2) ((hT _).load_rows (k0_off6_eq i) _))
  refine RowsIs.store (n := 32) (k := 16) ?_ _ (piece16 (ln16_90 _ _ _) (load_row harg6 (k0_off2_eq i) _ rfl hP.g2) (load_row harg7 (k0_off2_eq i) _ rfl hP.b2) ((hT _).load_rows (k0_off5_eq i) _))
  refine RowsIs.store (n := 16) (k := 16) ?_ _ (piece16 (ln16_89 _ _ _) (load_row harg6 (k0_off2_eq i) _ rfl hP.g2) (load_row harg7 (k0_off2_eq i) _ rfl hP.b2) ((hT _).load_rows (k0_off4_eq i) _))
  refine RowsIs.store (n := 0) (k := 16) ?_ _ (piece16 (ln16_86 _ _ _) (load_row harg6 (k0_off2_eq i) _ rfl hP.g2) (load_row harg7 (k0_off2_eq i) _ rfl hP.b2) ((hT _).load_rows (k0_off3_eq i) _))
  exact RowsIs.zero

/-- The tile after chunk 0 of the attention's projection. -/
theorem A_mid0 (hP : Holds P (i 0) x2 x3 x4 x5 x6 x7 x8 x9 x10 x11 x12 x13 x14 x15 x16 x17)
    (hT : ∀ f, TileIs arg22.view (arg22.view.writes (Elt Ideal) f (kernelRun0_A.sl.HS0_1 (F := Ideal) c i arg2 harg2 hc1 x0)) (i 1) X)
    (hR : ∀ g, RowsIs arg23.view (arg23.view.writes (Elt Ideal) g (kernelRun0_A.sl.HS1_41 (F := Ideal) c i arg2 harg2 arg3 harg3 arg4 harg4 arg5 harg5 arg22 hc1 x0 x1 x2 x3)) 616 At) :
    ∀ f, TileIs arg22.view (arg22.view.writes (Elt Ideal) f (kernelRun0_A.sl.HS0_2 (F := Ideal) c i arg2 harg2 arg3 harg3 arg4 harg4 arg5 harg5 arg11 harg11 arg12 harg12 arg13 harg13 arg22 arg23 hc1 x0 x1 x2 x3 x9 x10 x11)) (i 1) (cols 256 X (fun r => midRow P (X r) (At r))) := by
  intro f
  unfold kernelRun0_A.sl.HS0_2
  refine TileIs.store_cols (n := 256) (o := 0) ?_ (k0_off45_eq i) _ ?_
  rotate_left
  · intro r j hd
    refine ((mid_chunk _ _ _ _ _ r j)).trans ?_
    exact congr (congrArg (fun a b : EReal => a + b) ((hT _).load_cols (k0_off45_eq i) _ r j (by omega))) (through_eq (fun r k => (hR _).load _ r k) (col 0 768 (by norm_num)) (fun k j => (congrArg word (load_mat harg11 _ _ k j (by omega))).trans (hP.wo k _)) (fun j => (load_vec harg12 (k0_off46_eq i) _ _ (i 0) rfl j (by omega)).trans (hP.so _)) (fun j => (load_vec harg13 (k0_off46_eq i) _ _ (i 0) rfl j (by omega)).trans (hP.bo _)) r j)
  rw [cols_zero]
  exact hT f

/-- The tile after chunk 1 of the attention's projection. -/
theorem A_mid1 (hP : Holds P (i 0) x2 x3 x4 x5 x6 x7 x8 x9 x10 x11 x12 x13 x14 x15 x16 x17)
    (hT : ∀ f, TileIs arg22.view (arg22.view.writes (Elt Ideal) f (kernelRun0_A.sl.HS0_2 (F := Ideal) c i arg2 harg2 arg3 harg3 arg4 harg4 arg5 harg5 arg11 harg11 arg12 harg12 arg13 harg13 arg22 arg23 hc1 x0 x1 x2 x3 x9 x10 x11)) (i 1) (cols 256 X (fun r => midRow P (X r) (At r))))
    (hR : ∀ g, RowsIs arg23.view (arg23.view.writes (Elt Ideal) g (kernelRun0_A.sl.HS1_41 (F := Ideal) c i arg2 harg2 arg3 harg3 arg4 harg4 arg5 harg5 arg22 hc1 x0 x1 x2 x3)) 616 At) :
    ∀ f, TileIs arg22.view (arg22.view.writes (Elt Ideal) f (kernelRun0_A.sl.HS0_3 (F := Ideal) c i arg2 harg2 arg3 harg3 arg4 harg4 arg5 harg5 arg11 harg11 arg12 harg12 arg13 harg13 arg22 arg23 hc1 x0 x1 x2 x3 x9 x10 x11)) (i 1) (cols 512 X (fun r => midRow P (X r) (At r))) := by
  intro f
  unfold kernelRun0_A.sl.HS0_3
  refine TileIs.store_cols (n := 256) (o := 256) ?_ (k0_off47_eq i) _ ?_
  rotate_left
  · intro r j hd
    refine ((congrFun (mid_chunk_84 _ _ _ _ _) _).trans (mid_chunk _ _ _ _ _ r j)).trans ?_
    exact congr (congrArg (fun a b : EReal => a + b) (((hT _).load_cols (k0_off47_eq i) _ r j (by omega)).trans (cols_ge _ _ r _ (by show _ ≤ 256 + j.val; omega)))) (through_eq (fun r k => (hR _).load _ r k) (col 256 768 (by norm_num)) (fun k j => (congrArg word (load_mat harg11 _ _ k j (by omega))).trans (hP.wo k _)) (fun j => (load_vec harg12 (k0_off48_eq i) _ _ (i 0) rfl j (by omega)).trans (hP.so _)) (fun j => (load_vec harg13 (k0_off48_eq i) _ _ (i 0) rfl j (by omega)).trans (hP.bo _)) r j)
  exact hT f

/-- The tile after chunk 2 of the attention's projection. -/
theorem A_mid2 (hP : Holds P (i 0) x2 x3 x4 x5 x6 x7 x8 x9 x10 x11 x12 x13 x14 x15 x16 x17)
    (hT : ∀ f, TileIs arg22.view (arg22.view.writes (Elt Ideal) f (kernelRun0_A.sl.HS0_3 (F := Ideal) c i arg2 harg2 arg3 harg3 arg4 harg4 arg5 harg5 arg11 harg11 arg12 harg12 arg13 harg13 arg22 arg23 hc1 x0 x1 x2 x3 x9 x10 x11)) (i 1) (cols 512 X (fun r => midRow P (X r) (At r))))
    (hR : ∀ g, RowsIs arg23.view (arg23.view.writes (Elt Ideal) g (kernelRun0_A.sl.HS1_41 (F := Ideal) c i arg2 harg2 arg3 harg3 arg4 harg4 arg5 harg5 arg22 hc1 x0 x1 x2 x3)) 616 At) :
    ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) (fun r => midRow P (X r) (At r)) := by
  intro f
  rw [← cols_all X (fun r => midRow P (X r) (At r))]
  unfold kernelRun0_A.sl.HS0_4
  refine TileIs.store_cols (n := 256) (o := 512) ?_ (k0_off49_eq i) _ ?_
  rotate_left
  · intro r j hd
    refine ((congrFun (mid_chunk_85 _ _ _ _ _) _).trans (mid_chunk _ _ _ _ _ r j)).trans ?_
    exact congr (congrArg (fun a b : EReal => a + b) (((hT _).load_cols (k0_off49_eq i) _ r j (by omega)).trans (cols_ge _ _ r _ (by show _ ≤ 512 + j.val; omega)))) (through_eq (fun r k => (hR _).load _ r k) (col 512 768 (by norm_num)) (fun k j => (congrArg word (load_mat harg11 _ _ k j (by omega))).trans (hP.wo k _)) (fun j => (load_vec harg12 (k0_off50_eq i) _ _ (i 0) rfl j (by omega)).trans (hP.so _)) (fun j => (load_vec harg13 (k0_off50_eq i) _ _ (i 0) rfl j (by omega)).trans (hP.bo _)) r j)
  exact hT f

/-- The tile after the attention's projection. -/
theorem A_mid (hP : Holds P (i 0) x2 x3 x4 x5 x6 x7 x8 x9 x10 x11 x12 x13 x14 x15 x16 x17)
    (hT : ∀ f, TileIs arg22.view (arg22.view.writes (Elt Ideal) f (kernelRun0_A.sl.HS0_1 (F := Ideal) c i arg2 harg2 hc1 x0)) (i 1) X)
    (hR : ∀ g, RowsIs arg23.view (arg23.view.writes (Elt Ideal) g (kernelRun0_A.sl.HS1_41 (F := Ideal) c i arg2 harg2 arg3 harg3 arg4 harg4 arg5 harg5 arg22 hc1 x0 x1 x2 x3)) 616 At) :
    ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) (fun r => midRow P (X r) (At r)) :=
  A_mid2 hP (A_mid1 hP (A_mid0 hP hT hR) hR) hR

/-- The keys. -/
theorem A_keys (hP : Holds P (i 0) x2 x3 x4 x5 x6 x7 x8 x9 x10 x11 x12 x13 x14 x15 x16 x17)
    (hR : ∀ g, RowsIs arg23.view (arg23.view.writes (Elt Ideal) g (kernelRun0_A.sl.HS1_40 (F := Ideal) c i arg2 harg2 arg4 harg4 arg5 harg5 arg22 hc1 x0 x2 x3)) 616 (fun r => ln P.g1 P.b1 (X r))) :
    ∀ g, OutIs arg21.view (arg21.view.writes (Elt Ideal) g (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).2.1) 768 (fun r => keyRow P (X r)) := by
  intro g
  unfold kernelRun0_A
  dsimp only
  refine OutIs.store (n := 512) (k := 256) ?_ _ fun s b j hd => ((congrFun (key_chunk_80 _ _ _ _) _).trans (key_chunk _ _ _ _ s b j)).trans ((through_eq (fun r k => (hR _).load _ r k) (col 1280 2304 (by norm_num)) (fun k j => (congrArg word (load_mat harg8 _ _ k j (by omega))).trans (hP.wqkv k _)) (fun j => (load_vec harg9 (k0_off44_eq i) _ _ (i 0) rfl j (by omega)).trans (hP.sqkv _)) (fun j => (load_vec harg10 (k0_off44_eq i) _ _ (i 0) rfl j (by omega)).trans (hP.bqkv _)) (row s b) j).trans ?_)
  rotate_left
  · exact congrArg (lin _ _ _ _) (Fin.ext (by show 1280 + j.val = 768 + (512 + j.val); omega))
  refine OutIs.store (n := 256) (k := 256) ?_ _ fun s b j hd => ((congrFun (key_chunk_78 _ _ _ _) _).trans (key_chunk _ _ _ _ s b j)).trans ((through_eq (fun r k => (hR _).load _ r k) (col 1024 2304 (by norm_num)) (fun k j => (congrArg word (load_mat harg8 _ _ k j (by omega))).trans (hP.wqkv k _)) (fun j => (load_vec harg9 (k0_off43_eq i) _ _ (i 0) rfl j (by omega)).trans (hP.sqkv _)) (fun j => (load_vec harg10 (k0_off43_eq i) _ _ (i 0) rfl j (by omega)).trans (hP.bqkv _)) (row s b) j).trans ?_)
  rotate_left
  · exact congrArg (lin _ _ _ _) (Fin.ext (by show 1024 + j.val = 768 + (256 + j.val); omega))
  refine OutIs.store (n := 0) (k := 256) ?_ _ fun s b j hd => (key_chunk _ _ _ _ s b j).trans ((through_eq (fun r k => (hR _).load _ r k) (col 768 2304 (by norm_num)) (fun k j => (congrArg word (load_mat harg8 _ _ k j (by omega))).trans (hP.wqkv k _)) (fun j => (load_vec harg9 (k0_off42_eq i) _ _ (i 0) rfl j (by omega)).trans (hP.sqkv _)) (fun j => (load_vec harg10 (k0_off42_eq i) _ _ (i 0) rfl j (by omega)).trans (hP.bqkv _)) (row s b) j).trans ?_)
  rotate_left
  · exact congrArg (lin _ _ _ _) (Fin.ext (by show 768 + j.val = 768 + (0 + j.val); omega))
  exact OutIs.zero

/-- The hidden rows of the feed-forward block. -/
theorem A_hid (hP : Holds P (i 0) x2 x3 x4 x5 x6 x7 x8 x9 x10 x11 x12 x13 x14 x15 x16 x17)
    (hR : ∀ g, RowsIs arg23.view (arg23.view.writes (Elt Ideal) g (kernelRun0_A.sl.HS1_80 (F := Ideal) c i arg2 harg2 arg3 harg3 arg4 harg4 arg5 harg5 arg6 harg6 arg7 harg7 arg11 harg11 arg12 harg12 arg13 harg13 arg22 arg23 hc1 x0 x1 x2 x3 x4 x5 x9 x10 x11)) 616 (fun r => ln P.g2 P.b2 (M r))) :
    ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P (M r)) := by
  intro g
  unfold kernelRun0_A.sl.HS2_13
  refine ColsIs.store (n := 2816) (k := 256) ?_ _ fun r j hd => ((congrFun (hid_chunk_177 _ _ _ _) _).trans (hid_chunk _ _ _ _ r j)).trans (congrArg gate (through_eq (fun r k => (hR _).load _ r k) (col 2816 3072 (by norm_num)) (fun k j => (congrArg word (load_mat harg14 _ _ k j (by omega))).trans (hP.w1 k _)) (fun j => (load_vec harg15 (k0_off62_eq i) _ _ (i 0) rfl j (by omega)).trans (hP.s1 _)) (fun j => (load_vec harg16 (k0_off62_eq i) _ _ (i 0) rfl j (by omega)).trans (hP.bb1 _)) r j))
  refine ColsIs.store (n := 2560) (k := 256) ?_ _ fun r j hd => ((congrFun (hid_chunk_176 _ _ _ _) _).trans (hid_chunk _ _ _ _ r j)).trans (congrArg gate (through_eq (fun r k => (hR _).load _ r k) (col 2560 3072 (by norm_num)) (fun k j => (congrArg word (load_mat harg14 _ _ k j (by omega))).trans (hP.w1 k _)) (fun j => (load_vec harg15 (k0_off61_eq i) _ _ (i 0) rfl j (by omega)).trans (hP.s1 _)) (fun j => (load_vec harg16 (k0_off61_eq i) _ _ (i 0) rfl j (by omega)).trans (hP.bb1 _)) r j))
  refine ColsIs.store (n := 2304) (k := 256) ?_ _ fun r j hd => ((congrFun (hid_chunk_174 _ _ _ _) _).trans (hid_chunk _ _ _ _ r j)).trans (congrArg gate (through_eq (fun r k => (hR _).load _ r k) (col 2304 3072 (by norm_num)) (fun k j => (congrArg word (load_mat harg14 _ _ k j (by omega))).trans (hP.w1 k _)) (fun j => (load_vec harg15 (k0_off60_eq i) _ _ (i 0) rfl j (by omega)).trans (hP.s1 _)) (fun j => (load_vec harg16 (k0_off60_eq i) _ _ (i 0) rfl j (by omega)).trans (hP.bb1 _)) r j))
  refine ColsIs.store (n := 2048) (k := 256) ?_ _ fun r j hd => ((congrFun (hid_chunk_173 _ _ _ _) _).trans (hid_chunk _ _ _ _ r j)).trans (congrArg gate (through_eq (fun r k => (hR _).load _ r k) (col 2048 3072 (by norm_num)) (fun k j => (congrArg word (load_mat harg14 _ _ k j (by omega))).trans (hP.w1 k _)) (fun j => (load_vec harg15 (k0_off59_eq i) _ _ (i 0) rfl j (by omega)).trans (hP.s1 _)) (fun j => (load_vec harg16 (k0_off59_eq i) _ _ (i 0) rfl j (by omega)).trans (hP.bb1 _)) r j))
  refine ColsIs.store (n := 1792) (k := 256) ?_ _ fun r j hd => ((congrFun (hid_chunk_171 _ _ _ _) _).trans (hid_chunk _ _ _ _ r j)).trans (congrArg gate (through_eq (fun r k => (hR _).load _ r k) (col 1792 3072 (by norm_num)) (fun k j => (congrArg word (load_mat harg14 _ _ k j (by omega))).trans (hP.w1 k _)) (fun j => (load_vec harg15 (k0_off58_eq i) _ _ (i 0) rfl j (by omega)).trans (hP.s1 _)) (fun j => (load_vec harg16 (k0_off58_eq i) _ _ (i 0) rfl j (by omega)).trans (hP.bb1 _)) r j))
  refine ColsIs.store (n := 1536) (k := 256) ?_ _ fun r j hd => ((congrFun (hid_chunk_170 _ _ _ _) _).trans (hid_chunk _ _ _ _ r j)).trans (congrArg gate (through_eq (fun r k => (hR _).load _ r k) (col 1536 3072 (by norm_num)) (fun k j => (congrArg word (load_mat harg14 _ _ k j (by omega))).trans (hP.w1 k _)) (fun j => (load_vec harg15 (k0_off57_eq i) _ _ (i 0) rfl j (by omega)).trans (hP.s1 _)) (fun j => (load_vec harg16 (k0_off57_eq i) _ _ (i 0) rfl j (by omega)).trans (hP.bb1 _)) r j))
  refine ColsIs.store (n := 1280) (k := 256) ?_ _ fun r j hd => ((congrFun (hid_chunk_168 _ _ _ _) _).trans (hid_chunk _ _ _ _ r j)).trans (congrArg gate (through_eq (fun r k => (hR _).load _ r k) (col 1280 3072 (by norm_num)) (fun k j => (congrArg word (load_mat harg14 _ _ k j (by omega))).trans (hP.w1 k _)) (fun j => (load_vec harg15 (k0_off56_eq i) _ _ (i 0) rfl j (by omega)).trans (hP.s1 _)) (fun j => (load_vec harg16 (k0_off56_eq i) _ _ (i 0) rfl j (by omega)).trans (hP.bb1 _)) r j))
  refine ColsIs.store (n := 1024) (k := 256) ?_ _ fun r j hd => ((congrFun (hid_chunk_167 _ _ _ _) _).trans (hid_chunk _ _ _ _ r j)).trans (congrArg gate (through_eq (fun r k => (hR _).load _ r k) (col 1024 3072 (by norm_num)) (fun k j => (congrArg word (load_mat harg14 _ _ k j (by omega))).trans (hP.w1 k _)) (fun j => (load_vec harg15 (k0_off55_eq i) _ _ (i 0) rfl j (by omega)).trans (hP.s1 _)) (fun j => (load_vec harg16 (k0_off55_eq i) _ _ (i 0) rfl j (by omega)).trans (hP.bb1 _)) r j))
  refine ColsIs.store (n := 768) (k := 256) ?_ _ fun r j hd => ((congrFun (hid_chunk_166 _ _ _ _) _).trans (hid_chunk _ _ _ _ r j)).trans (congrArg gate (through_eq (fun r k => (hR _).load _ r k) (col 768 3072 (by norm_num)) (fun k j => (congrArg word (load_mat harg14 _ _ k j (by omega))).trans (hP.w1 k _)) (fun j => (load_vec harg15 (k0_off54_eq i) _ _ (i 0) rfl j (by omega)).trans (hP.s1 _)) (fun j => (load_vec harg16 (k0_off54_eq i) _ _ (i 0) rfl j (by omega)).trans (hP.bb1 _)) r j))
  refine ColsIs.store (n := 512) (k := 256) ?_ _ fun r j hd => ((congrFun (hid_chunk_164 _ _ _ _) _).trans (hid_chunk _ _ _ _ r j)).trans (congrArg gate (through_eq (fun r k => (hR _).load _ r k) (col 512 3072 (by norm_num)) (fun k j => (congrArg word (load_mat harg14 _ _ k j (by omega))).trans (hP.w1 k _)) (fun j => (load_vec harg15 (k0_off53_eq i) _ _ (i 0) rfl j (by omega)).trans (hP.s1 _)) (fun j => (load_vec harg16 (k0_off53_eq i) _ _ (i 0) rfl j (by omega)).trans (hP.bb1 _)) r j))
  refine ColsIs.store (n := 256) (k := 256) ?_ _ fun r j hd => ((congrFun (hid_chunk_163 _ _ _ _) _).trans (hid_chunk _ _ _ _ r j)).trans (congrArg gate (through_eq (fun r k => (hR _).load _ r k) (col 256 3072 (by norm_num)) (fun k j => (congrArg word (load_mat harg14 _ _ k j (by omega))).trans (hP.w1 k _)) (fun j => (load_vec harg15 (k0_off52_eq i) _ _ (i 0) rfl j (by omega)).trans (hP.s1 _)) (fun j => (load_vec harg16 (k0_off52_eq i) _ _ (i 0) rfl j (by omega)).trans (hP.bb1 _)) r j))
  refine ColsIs.store (n := 0) (k := 256) ?_ _ fun r j hd => (hid_chunk _ _ _ _ r j).trans (congrArg gate (through_eq (fun r k => (hR _).load _ r k) (col 0 3072 (by norm_num)) (fun k j => (congrArg word (load_mat harg14 _ _ k j (by omega))).trans (hP.w1 k _)) (fun j => (load_vec harg15 (k0_off51_eq i) _ _ (i 0) rfl j (by omega)).trans (hP.s1 _)) (fun j => (load_vec harg16 (k0_off51_eq i) _ _ (i 0) rfl j (by omega)).trans (hP.bb1 _)) r j))
  exact ColsIs.zero

/-- The tile after chunk 0 of the feed-forward block. -/
theorem A_out0 (hP : Holds P (i 0) x2 x3 x4 x5 x6 x7 x8 x9 x10 x11 x12 x13 x14 x15 x16 x17)
    (hT : ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) M)
    (hH : ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P (M r))) :
    ∀ f, TileIs arg22.view (arg22.view.writes (Elt Ideal) f (kernelRun0_A.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 256 M (fun r => outRow P (M r))) := by
  intro f
  unfold kernelRun0_A.sl.HS0_5
  refine TileIs.store_cols (n := 256) (o := 0) ?_ (k0_off45_eq i) _ ?_
  rotate_left
  · intro r j hd
    refine ((out_chunk _ _ _ _ _ r j)).trans ?_
    exact congr (congrArg (fun a b : EReal => a + b) ((hT _).load_cols (k0_off45_eq i) _ r j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) r j)
  rw [cols_zero]
  exact hT f

/-- The tile after chunk 1 of the feed-forward block. -/
theorem A_out1 (hP : Holds P (i 0) x2 x3 x4 x5 x6 x7 x8 x9 x10 x11 x12 x13 x14 x15 x16 x17)
    (hT : ∀ f, TileIs arg22.view (arg22.view.writes (Elt Ideal) f (kernelRun0_A.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 256 M (fun r => outRow P (M r))))
    (hH : ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P (M r))) :
    ∀ f, TileIs arg22.view (arg22.view.writes (Elt Ideal) f (kernelRun0_A.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 512 M (fun r => outRow P (M r))) := by
  intro f
  unfold kernelRun0_A.sl.HS0_6
  refine TileIs.store_cols (n := 256) (o := 256) ?_ (k0_off47_eq i) _ ?_
  rotate_left
  · intro r j hd
    refine ((congrFun (out_chunk_184 _ _ _ _ _) _).trans (out_chunk _ _ _ _ _ r j)).trans ?_
    exact congr (congrArg (fun a b : EReal => a + b) (((hT _).load_cols (k0_off47_eq i) _ r j (by omega)).trans (cols_ge _ _ r _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) r j)
  exact hT f

/-- The tile after chunk 2 of the feed-forward block. -/
theorem A_out2 (hP : Holds P (i 0) x2 x3 x4 x5 x6 x7 x8 x9 x10 x11 x12 x13 x14 x15 x16 x17)
    (hT : ∀ f, TileIs arg22.view (arg22.view.writes (Elt Ideal) f (kernelRun0_A.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 512 M (fun r => outRow P (M r))))
    (hH : ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P (M r))) :
    ∀ f, TileIs arg22.view (arg22.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).2.2.1) (i 1) (fun r => outRow P (M r)) := by
  intro f
  rw [← cols_all M (fun r => outRow P (M r))]
  unfold kernelRun0_A
  dsimp only
  refine TileIs.store_cols (n := 256) (o := 512) ?_ (k0_off49_eq i) _ ?_
  rotate_left
  · intro r j hd
    refine ((congrFun (out_chunk_187 _ _ _ _ _) _).trans (out_chunk _ _ _ _ _ r j)).trans ?_
    exact congr (congrArg (fun a b : EReal => a + b) (((hT _).load_cols (k0_off49_eq i) _ r j (by omega)).trans (cols_ge _ _ r _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) r j)
  exact hT f

/-- The stream as put out. -/
theorem A_stream (hP : Holds P (i 0) x2 x3 x4 x5 x6 x7 x8 x9 x10 x11 x12 x13 x14 x15 x16 x17)
    (hT0 : ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) M)
    (hT1 : ∀ f, TileIs arg22.view (arg22.view.writes (Elt Ideal) f (kernelRun0_A.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 256 M (fun r => outRow P (M r))))
    (hT2 : ∀ f, TileIs arg22.view (arg22.view.writes (Elt Ideal) f (kernelRun0_A.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 512 M (fun r => outRow P (M r))))
    (hH : ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P (M r))) :
    ∀ g, OutIs arg20.view (arg20.view.writes (Elt Ideal) g (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).1) 768 (fun r => outRow P (M r)) := by
  intro g
  unfold kernelRun0_A
  dsimp only
  refine OutIs.store (n := 512) (k := 256) ?_ _ fun s b j hd => ((congrFun (st_chunk_1 _ _ _ _ _) _).trans (st_chunk _ _ _ _ _ s b j)).trans (congr (congrArg (fun a b : EReal => a + b) (((hT2 _).load_cols (k0_off49_eq i) _ (row s b) j (by omega)).trans (cols_ge _ _ (row s b) _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) (row s b) j))
  refine OutIs.store (n := 256) (k := 256) ?_ _ fun s b j hd => ((congrFun (st_chunk_185 _ _ _ _ _) _).trans (st_chunk _ _ _ _ _ s b j)).trans (congr (congrArg (fun a b : EReal => a + b) (((hT1 _).load_cols (k0_off47_eq i) _ (row s b) j (by omega)).trans (cols_ge _ _ (row s b) _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) (row s b) j))
  refine OutIs.store (n := 0) (k := 256) ?_ _ fun s b j hd => (st_chunk _ _ _ _ _ s b j).trans (congr (congrArg (fun a b : EReal => a + b) ((hT0 _).load_cols (k0_off45_eq i) _ (row s b) j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) (row s b) j))
  exact OutIs.zero

/-- The other tiles stay. -/
theorem A_other (f : arg22.view.ty.Contents (Elt Ideal)) (t' : Fin 4) (ht : t' ≠ i 1) {Z : Fin 616 → Fin 768 → EReal} (hZ : TileIs arg22.view f t' Z) :
    TileIs arg22.view (arg22.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).2.2.1) t' Z := by
  unfold kernelRun0_A
  dsimp only
  refine TileIs.other ht ?_ (k0_off49_eq i) _ rfl
  unfold kernelRun0_A.sl.HS0_6
  refine TileIs.other ht ?_ (k0_off47_eq i) _ rfl
  unfold kernelRun0_A.sl.HS0_5
  refine TileIs.other ht ?_ (k0_off45_eq i) _ rfl
  unfold kernelRun0_A.sl.HS0_4
  refine TileIs.other ht ?_ (k0_off49_eq i) _ rfl
  unfold kernelRun0_A.sl.HS0_3
  refine TileIs.other ht ?_ (k0_off47_eq i) _ rfl
  unfold kernelRun0_A.sl.HS0_2
  refine TileIs.other ht ?_ (k0_off45_eq i) _ rfl
  unfold kernelRun0_A.sl.HS0_1
  refine TileIs.other ht ?_ (k0_off1_eq i) _ rfl
  exact hZ

/-- One grid point: the keys and the stream of its tile, and the tile it carries on. -/
theorem A_point (hP : Holds P (i 0) x2 x3 x4 x5 x6 x7 x8 x9 x10 x11 x12 x13 x14 x15 x16 x17) (hX : ∀ (r : Fin 616) d, x0 (ix3 ⟨r.val / 8, by omega⟩ ⟨r.val % 8, by omega⟩ d) = X r d)
    (hA : ∀ (r : Fin 616) d, x1 (ix4 0 ⟨r.val / 8, by omega⟩ ⟨r.val % 8, by omega⟩ d) = At r d) :
    (∀ g, OutIs arg20.view (arg20.view.writes (Elt Ideal) g (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).1) 768 (fun r => layerRow P (X r) (At r)))
    ∧ (∀ g, OutIs arg21.view (arg21.view.writes (Elt Ideal) g (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).2.1) 768 (fun r => keyRow P (X r)))
    ∧ (∀ f, TileIs arg22.view (arg22.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0).2.2.1) (i 1) (fun r => layerRow P (X r) (At r))) := by
  have h1 : ∀ f, TileIs arg22.view (arg22.view.writes (Elt Ideal) f (kernelRun0_A.sl.HS0_1 (F := Ideal) c i arg2 harg2 hc1 x0)) (i 1) X := A_tile hX
  have h2 : ∀ g, RowsIs arg23.view (arg23.view.writes (Elt Ideal) g (kernelRun0_A.sl.HS1_40 (F := Ideal) c i arg2 harg2 arg4 harg4 arg5 harg5 arg22 hc1 x0 x2 x3)) 616 (fun r => ln P.g1 P.b1 (X r)) := A_ln1 hP h1
  have h3 : ∀ g, RowsIs arg23.view (arg23.view.writes (Elt Ideal) g (kernelRun0_A.sl.HS1_41 (F := Ideal) c i arg2 harg2 arg3 harg3 arg4 harg4 arg5 harg5 arg22 hc1 x0 x1 x2 x3)) 616 At := A_attn hA
  have h4 : ∀ f, TileIs arg22.view (arg22.view.writes (Elt Ideal) f (kernelRun0_A.sl.HS0_4 (F := Ideal) c i arg2 harg2 arg3 harg3 arg4 harg4 arg5 harg5 arg11 harg11 arg12 harg12 arg13 harg13 arg22 arg23 hc1 x0 x1 x2 x3 x9 x10 x11)) (i 1) (fun r => midRow P (X r) (At r)) := A_mid hP h1 h3
  have h5 : ∀ g, RowsIs arg23.view (arg23.view.writes (Elt Ideal) g (kernelRun0_A.sl.HS1_80 (F := Ideal) c i arg2 harg2 arg3 harg3 arg4 harg4 arg5 harg5 arg6 harg6 arg7 harg7 arg11 harg11 arg12 harg12 arg13 harg13 arg22 arg23 hc1 x0 x1 x2 x3 x4 x5 x9 x10 x11)) 616 (fun r => ln P.g2 P.b2 ((fun r => midRow P (X r) (At r)) r)) := A_ln2 hP h4
  have h6 : ∀ g, ColsIs arg24.view (arg24.view.writes (Elt Ideal) g (kernelRun0_A.sl.HS2_13 (F := Ideal) c i arg2 harg2 arg3 harg3 arg4 harg4 arg5 harg5 arg6 harg6 arg7 harg7 arg11 harg11 arg12 harg12 arg13 harg13 arg14 harg14 arg15 harg15 arg16 harg16 arg22 arg23 hc1 x0 x1 x2 x3 x4 x5 x9 x10 x11 x12 x13 x14)) 3072 (fun r => hidRow P ((fun r => midRow P (X r) (At r)) r)) := A_hid hP h5
  have h7 : ∀ f, TileIs arg22.view (arg22.view.writes (Elt Ideal) f (kernelRun0_A.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 256 (fun r => midRow P (X r) (At r)) (fun r => outRow P ((fun r => midRow P (X r) (At r)) r))) := A_out0 hP h4 h6
  have h8 : ∀ f, TileIs arg22.view (arg22.view.writes (Elt Ideal) f (kernelRun0_A.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 arg24 hc1 x0 x1 x2 x3 x4 x5 x9 x10 x11 x12 x13 x14 x15 x16 x17)) (i 1) (cols 512 (fun r => midRow P (X r) (At r)) (fun r => outRow P ((fun r => midRow P (X r) (At r)) r))) := A_out1 hP h7 h6
  exact ⟨A_stream hP h4 h7 h8 h6, A_keys hP h2, A_out2 hP h8 h6⟩

end Cert.KernelIdeal.Rows
-- ==== Proof.IdealRunB.lean ====
/- The run of the ideal kernel's body at the other points of layer 0: the tile is loaded from `x0`. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3692000 in
/-- What the body's stores leave in each output's staging memref, as pieces (last first) IN CASE B (`scf.if` 0 not taken, `scf.if` 1 taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : ¬cond0_0 i) (hc1 : cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) (xs0 : Vec F S4x616x768 .f32) (xs1 : Vec F S624x768 .bf16) (xs2 : Vec F S624x3072 .bf16) :
    Σ' (L18 : List (View.Piece (Elt F) S1x77x8x768 .f32)), Σ' (L19 : List (View.Piece (Elt F) S1x77x8x768 .bf16)), Σ' (LS0 : List (View.Piece (Elt F) S4x616x768 .f32)), Σ' (LS1 : List (View.Piece (Elt F) S624x768 .bf16)), { LS2 : List (View.Piece (Elt F) S624x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} arg22.view.writes (Elt F) (harg22.unread xs0) LS0) ∗ (arg23.view.loc (c : Thread nD τ) ↦[arg23.view.set]{fullShare} arg23.view.writes (Elt F) (harg23.unread xs1) LS1) ∗ (arg24.view.loc (c : Thread nD τ) ↦[arg24.view.set]{fullShare} arg24.view.writes (Elt F) (harg24.unread xs2) LS2)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg22.eq_unread hfs0; obtain rfl := harg23.eq_unread hfs1; obtain rfl := harg24.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [HS0]; · iexact HS0
    isplitl [HS1]; · iexact HS1
    iexact HS2

end Cert.KernelIdeal.Gen

end
-- ==== Proof.ValueB.lean ====
/- What the ideal kernel's body leaves at the other points of layer 0, row by row: each stage's buffer holds the rows the layer's mathematics names. -/
module

public import proofs.«01_k».proof.Proof.IdealRunB
public import proofs.«01_k».proof.Proof.Loads

@[expose] public section

set_option maxRecDepth 16384

noncomputable section

namespace Cert.KernelIdeal.Rows

open Cert.KernelIdeal Cert.KernelIdeal.Gen Cert.Rows Idealize.ShloMosaic Idealize.ShloMosaic.TcCoe

variable {c : Dev nD} {i : grid0.Coords} {arg2 : Memref sig .tc .vmem S77x8x768 .f32} {harg2 : arg2.IsWhole} {arg3 : Memref sig .tc .vmem S1x77x8x768 .bf16} {harg3 : arg3.IsWhole} {arg4 : Memref sig .tc .vmem S12x768 .f32} {harg4 : arg4.IsWhole} {arg5 : Memref sig .tc .vmem S12x768 .f32} {harg5 : arg5.IsWhole} {arg6 : Memref sig .tc .vmem S12x768 .f32} {harg6 : arg6.IsWhole} {arg7 : Memref sig .tc .vmem S12x768 .f32} {harg7 : arg7.IsWhole} {arg8 : Memref sig .tc .vmem S1x768x2304 .i8} {harg8 : arg8.IsWhole} {arg9 : Memref sig .tc .vmem S12x2304 .f32} {harg9 : arg9.IsWhole} {arg10 : Memref sig .tc .vmem S12x2304 .f32} {harg10 : arg10.IsWhole} {arg11 : Memref sig .tc .vmem S1x768x768 .i8} {harg11 : arg11.IsWhole} {arg12 : Memref sig .tc .vmem S12x768 .f32} {harg12 : arg12.IsWhole} {arg13 : Memref sig .tc .vmem S12x768 .f32} {harg13 : arg13.IsWhole} {arg14 : Memref sig .tc .vmem S1x768x3072 .i8} {harg14 : arg14.IsWhole} {arg15 : Memref sig .tc .vmem S12x3072 .f32} {harg15 : arg15.IsWhole} {arg16 : Memref sig .tc .vmem S12x3072 .f32} {harg16 : arg16.IsWhole} {arg17 : Memref sig .tc .vmem S1x3072x768 .i8} {harg17 : arg17.IsWhole} {arg18 : Memref sig .tc .vmem S12x768 .f32} {harg18 : arg18.IsWhole} {arg19 : Memref sig .tc .vmem S12x768 .f32} {harg19 : arg19.IsWhole} {arg20 : Memref sig .tc .vmem S1x77x8x768 .f32} {harg20 : arg20.IsWhole} {arg21 : Memref sig .tc .vmem S1x77x8x768 .bf16} {harg21 : arg21.IsWhole} {arg22 : Memref sig .tc .vmem S4x616x768 .f32} {harg22 : arg22.IsWhole} {arg23 : Memref sig .tc .vmem S624x768 .bf16} {harg23 : arg23.IsWhole} {arg24 : Memref sig .tc .vmem S624x3072 .bf16} {harg24 : arg24.IsWhole}
  {x0 : Vec Ideal S77x8x768 .f32} {x1 : Vec Ideal S1x77x8x768 .bf16} {x2 : Vec Ideal S12x768 .f32} {x3 : Vec Ideal S12x768 .f32} {x4 : Vec Ideal S12x768 .f32} {x5 : Vec Ideal S12x768 .f32} {x6 : Vec Ideal S1x768x2304 .i8} {x7 : Vec Ideal S12x2304 .f32} {x8 : Vec Ideal S12x2304 .f32} {x9 : Vec Ideal S1x768x768 .i8} {x10 : Vec Ideal S12x768 .f32} {x11 : Vec Ideal S12x768 .f32} {x12 : Vec Ideal S1x768x3072 .i8} {x13 : Vec Ideal S12x3072 .f32} {x14 : Vec Ideal S12x3072 .f32} {x15 : Vec Ideal S1x3072x768 .i8} {x16 : Vec Ideal S12x768 .f32} {x17 : Vec Ideal S12x768 .f32} {xs0 : Vec Ideal S4x616x768 .f32} {xs1 : Vec Ideal S624x768 .bf16} {xs2 : Vec Ideal S624x3072 .bf16}
  {hc0 : ¬cond0_0 i} {hc1 : cond0_1 i}
  {P : Layer} {X At M : Fin 616 → Fin 768 → EReal}

/-- The tile as loaded from the embedded tokens. -/
theorem B_tile (hX : ∀ (r : Fin 616) d, x0 (ix3 ⟨r.val / 8, by omega⟩ ⟨r.val % 8, by omega⟩ d) = X r d) : ∀ f, TileIs arg22.view (arg22.view.writes (Elt Ideal) f (kernelRun0_B.sl.HS0_1 (F := Ideal) c i arg2 harg2 hc1 x0)) (i 1) X := by
  intro f
  unfold kernelRun0_B.sl.HS0_1
  refine TileIs.store (k0_off1_eq i) _ fun r d => ?_
  rw [init_tile, load_all3]
  exact hX r d

/-- The rows normed for the keys. -/
theorem B_ln1 (hP : Holds P (i 0) x2 x3 x4 x5 x6 x7 x8 x9 x10 x11 x12 x13 x14 x15 x16 x17)
    (hT : ∀ f, TileIs arg22.view (arg22.view.writes (Elt Ideal) f (kernelRun0_B.sl.HS0_1 (F := Ideal) c i arg2 harg2 hc1 x0)) (i 1) X) :
    ∀ g, RowsIs arg23.view (arg23.view.writes (Elt Ideal) g (kernelRun0_B.sl.HS1_39 (F := Ideal) c i arg2 harg2 arg4 harg4 arg5 harg5 arg22 hc1 x0 x2 x3)) 616 (fun r => ln P.g1 P.b1 (X r)) := by
  intro g
  unfold kernelRun0_B.sl.HS1_39
  refine RowsIs.store (n := 608) (k := 8) ?_ _ (piece8 rfl (load_row harg4 (k0_off2_eq i) _ rfl hP.g1) (load_row harg5 (k0_off2_eq i) _ rfl hP.b1) ((hT _).load_rows (k0_off41_eq i) _))
  refine RowsIs.store (n := 592) (k := 16) ?_ _ (piece16 (ln16_73 _ _ _) (load_row harg4 (k0_off2_eq i) _ rfl hP.g1) (load_row harg5 (k0_off2_eq i) _ rfl hP.b1) ((hT _).load_rows (k0_off40_eq i) _))
  refine RowsIs.store (n := 576) (k := 16) ?_ _ (piece16 (ln16_72 _ _ _) (load_row harg4 (k0_off2_eq i) _ rfl hP.g1) (load_row harg5 (k0_off2_eq i) _ rfl hP.b1) ((hT _).load_rows (k0_off39_eq i) _))
  refine RowsIs.store (n := 560) (k := 16) ?_ _ (piece16 (ln16_69 _ _ _) (load_row harg4 (k0_off2_eq i) _ rfl hP.g1) (load_row harg5 (k0_off2_eq i) _ rfl hP.b1) ((hT _).load_rows (k0_off38_eq i) _))
  refine RowsIs.store (n := 544) (k := 16) ?_ _ (piece16 (ln16_68 _ _ _) (load_row harg4 (k0_off2_eq i) _ rfl hP.g1) (load_row harg5 (k0_off2_eq i) _ rfl hP.b1) ((hT _).load_rows (k0_off37_eq i) _))
  refine RowsIs.store (n := 528) (k := 16) ?_ _ (piece16 (ln16_67 _ _ _) (load_row harg4 (k0_off2_eq i) _ rfl hP.g1) (load_row harg5 (k0_off2_eq i) _ rfl hP.b1) ((hT _).load_rows (k0_off36_eq i) _))
  refine RowsIs.store (n := 512) (k := 16) ?_ _ (piece16 (ln16_64 _ _ _) (load_row harg4 (k0_off2_eq i) _ rfl hP.g1) (load_row harg5 (k0_off2_eq i) _ rfl hP.b1) ((hT _).load_rows (k0_off35_eq i) _))
  refine RowsIs.store (n := 496) (k := 16) ?_ _ (piece16 (ln16_63 _ _ _) (load_row harg4 (k0_off2_eq i) _ rfl hP.g1) (load_row harg5 (k0_off2_eq i) _ rfl hP.b1) ((hT _).load_rows (k0_off34_eq i) _))
  refine RowsIs.store (n := 480) (k := 16) ?_ _ (piece16 (ln16_61 _ _ _) (load_row harg4 (k0_off2_eq i) _ rfl hP.g1) (load_row harg5 (k0_off2_eq i) _ rfl hP.b1) ((hT _).load_rows (k0_off33_eq i) _))
  refine RowsIs.store (n := 464) (k := 16) ?_ _ (piece16 (ln16_58 _ _ _) (load_row harg4 (k0_off2_eq i) _ rfl hP.g1) (load_row harg5 (k0_off2_eq i) _ rfl hP.b1) ((hT _).load_rows (k0_off32_eq i) _))
  refine RowsIs.store (n := 448) (k := 16) ?_ _ (piece16 (ln16_57 _ _ _) (load_row harg4 (k0_off2_eq i) _ rfl hP.g1) (load_row harg5 (k0_off2_eq i) _ rfl hP.b1) ((hT _).load_rows (k0_off31_eq i) _))
  refine RowsIs.store (n := 432) (k := 16) ?_ _ (piece16 (ln16_54 _ _ _) (load_row harg4 (k0_off2_eq i) _ rfl hP.g1) (load_row harg5 (k0_off2_eq i) _ rfl hP.b1) ((hT _).load_rows (k0_off30_eq i) _))
  refine RowsIs.store (n := 416) (k := 16) ?_ _ (piece16 (ln16_53 _ _ _) (load_row harg4 (k0_off2_eq i) _ rfl hP.g1) (load_row harg5 (k0_off2_eq i) _ rfl hP.b1) ((hT _).load_rows (k0_off29_eq i) _))
  refine RowsIs.store (n := 400) (k := 16) ?_ _ (piece16 (ln16_51 _ _ _) (load_row harg4 (k0_off2_eq i) _ rfl hP.g1) (load_row harg5 (k0_off2_eq i) _ rfl hP.b1) ((hT _).load_rows (k0_off28_eq i) _))
  refine RowsIs.store (n := 384) (k := 16) ?_ _ (piece16 (ln16_48 _ _ _) (load_row harg4 (k0_off2_eq i) _ rfl hP.g1) (load_row harg5 (k0_off2_eq i) _ rfl hP.b1) ((hT _).load_rows (k0_off27_eq i) _))
  refine RowsIs.store (n := 368) (k := 16) ?_ _ (piece16 (ln16_47 _ _ _) (load_row harg4 (k0_off2_eq i) _ rfl hP.g1) (load_row harg5 (k0_off2_eq i) _ rfl hP.b1) ((hT _).load_rows (k0_off26_eq i) _))
  refine RowsIs.store (n := 352) (k := 16) ?_ _ (piece16 (ln16_45 _ _ _) (load_row harg4 (k0_off2_eq i) _ rfl hP.g1) (load_row harg5 (k0_off2_eq i) _ rfl hP.b1) ((hT _).load_rows (k0_off25_eq i) _))
  refine RowsIs.store (n := 336) (k := 16) ?_ _ (piece16 (ln16_44 _ _ _) (load_row harg4 (k0_off2_eq i) _ rfl hP.g1) (load_row harg5 (k0_off2_eq i) _ rfl hP.b1) ((hT _).load_rows (k0_off24_eq i) _))
  refine RowsIs.store (n := 320) (k := 16) ?_ _ (piece16 (ln16_43 _ _ _) (load_row harg4 (k0_off2_eq i) _ rfl hP.g1) (load_row harg5 (k0_off2_eq i) _ rfl hP.b1) ((hT _).load_rows (k0_off23_eq i) _))
  refine RowsIs.store (n := 304) (k := 16) ?_ _ (piece16 (ln16_40 _ _ _) (load_row harg4 (k0_off2_eq i) _ rfl hP.g1) (load_row harg5 (k0_off2_eq i) _ rfl hP.b1) ((hT _).load_rows (k0_off22_eq i) _))
  refine RowsIs.store (n := 288) (k := 16) ?_ _ (piece16 (ln16_39 _ _ _) (load_row harg4 (k0_off2_eq i) _ rfl hP.g1) (load_row harg5 (k0_off2_eq i) _ rfl hP.b1) ((hT _).load_rows (k0_off21_eq i) _))
  refine RowsIs.store (n := 272) (k := 16) ?_ _ (piece16 (ln16_37 _ _ _) (load_row harg4 (k0_off2_eq i) _ rfl hP.g1) (load_row harg5 (k0_off2_eq i) _ rfl hP.b1) ((hT _).load_rows (k0_off20_eq i) _))
  refine RowsIs.store (n := 256) (k := 16) ?_ _ (piece16 (ln16_34 _ _ _) (load_row harg4 (k0_off2_eq i) _ rfl hP.g1) (load_row harg5 (k0_off2_eq i) _ rfl hP.b1) ((hT _).load_rows (k0_off19_eq i) _))
  refine RowsIs.store (n := 240) (k := 16) ?_ _ (piece16 (ln16_33 _ _ _) (load_row harg4 (k0_off2_eq i) _ rfl hP.g1) (load_row harg5 (k0_off2_eq i) _ rfl hP.b1) ((hT _).load_rows (k0_off18_eq i) _))
  refine RowsIs.store (n := 224) (k := 16) ?_ _ (piece16 (ln16_29 _ _ _) (load_row harg4 (k0_off2_eq i) _ rfl hP.g1) (load_row harg5 (k0_off2_eq i) _ rfl hP.b1) ((hT _).load_rows (k0_off17_eq i) _))
  refine RowsIs.store (n := 208) (k := 16) ?_ _ (piece16 (ln16_28 _ _ _) (load_row harg4 (k0_off2_eq i) _ rfl hP.g1) (load_row harg5 (k0_off2_eq i) _ rfl hP.b1) ((hT _).load_rows (k0_off16_eq i) _))
  refine RowsIs.store (n := 192) (k := 16) ?_ _ (piece16 (ln16_27 _ _ _) (load_row harg4 (k0_off2_eq i) _ rfl hP.g1) (load_row harg5 (k0_off2_eq i) _ rfl hP.b1) ((hT _).load_rows (k0_off15_eq i) _))
  refine RowsIs.store (n := 176) (k := 16) ?_ _ (piece16 (ln16_25 _ _ _) (load_row harg4 (k0_off2_eq i) _ rfl hP.g1) (load_row harg5 (k0_off2_eq i) _ rfl hP.b1) ((hT _).load_rows (k0_off14_eq i) _))
  refine RowsIs.store (n := 160) (k := 16) ?_ _ (piece16 (ln16_24 _ _ _) (load_row harg4 (k0_off2_eq i) _ rfl hP.g1) (load_row harg5 (k0_off2_eq i) _ rfl hP.b1) ((hT _).load_rows (k0_off13_eq i) _))
  refine RowsIs.store (n := 144) (k := 16) ?_ _ (piece16 (ln16_21 _ _ _) (load_row harg4 (k0_off2_eq i) _ rfl hP.g1) (load_row harg5 (k0_off2_eq i) _ rfl hP.b1) ((hT _).load_rows (k0_off12_eq i) _))
  refine RowsIs.store (n := 128) (k := 16) ?_ _ (piece16 (ln16_20 _ _ _) (load_row harg4 (k0_off2_eq i) _ rfl hP.g1) (load_row harg5 (k0_off2_eq i) _ rfl hP.b1) ((hT _).load_rows (k0_off11_eq i) _))
  refine RowsIs.store (n := 112) (k := 16) ?_ _ (piece16 (ln16_19 _ _ _) (load_row harg4 (k0_off2_eq i) _ rfl hP.g1) (load_row harg5 (k0_off2_eq i) _ rfl hP.b1) ((hT _).load_rows (k0_off10_eq i) _))
  refine RowsIs.store (n := 96) (k := 16) ?_ _ (piece16 (ln16_16 _ _ _) (load_row harg4 (k0_off2_eq i) _ rfl hP.g1) (load_row harg5 (k0_off2_eq i) _ rfl hP.b1) ((hT _).load_rows (k0_off9_eq i) _))
  refine RowsIs.store (n := 80) (k := 16) ?_ _ (piece16 (ln16_15 _ _ _) (load_row harg4 (k0_off2_eq i) _ rfl hP.g1) (load_row harg5 (k0_off2_eq i) _ rfl hP.b1) ((hT _).load_rows (k0_off8_eq i) _))
  refine RowsIs.store (n := 64) (k := 16) ?_ _ (piece16 (ln16_13 _ _ _) (load_row harg4 (k0_off2_eq i) _ rfl hP.g1) (load_row harg5 (k0_off2_eq i) _ rfl hP.b1) ((hT _).load_rows (k0_off7_eq i) _))
  refine RowsIs.store (n := 48) (k := 16) ?_ _ (piece16 (ln16_10 _ _ _) (load_row harg4 (k0_off2_eq i) _ rfl hP.g1) (load_row harg5 (k0_off2_eq i) _ rfl hP.b1) ((hT _).load_rows (k0_off6_eq i) _))
  refine RowsIs.store (n := 32) (k := 16) ?_ _ (piece16 (ln16_9 _ _ _) (load_row harg4 (k0_off2_eq i) _ rfl hP.g1) (load_row harg5 (k0_off2_eq i) _ rfl hP.b1) ((hT _).load_rows (k0_off5_eq i) _))
  refine RowsIs.store (n := 16) (k := 16) ?_ _ (piece16 rfl (load_row harg4 (k0_off2_eq i) _ rfl hP.g1) (load_row harg5 (k0_off2_eq i) _ rfl hP.b1) ((hT _).load_rows (k0_off4_eq i) _))
  refine RowsIs.store (n := 0) (k := 16) ?_ _ (piece16 (ln16_5 _ _ _) (load_row harg4 (k0_off2_eq i) _ rfl hP.g1) (load_row harg5 (k0_off2_eq i) _ rfl hP.b1) ((hT _).load_rows (k0_off3_eq i) _))
  exact RowsIs.zero

/-- The attention's rows. -/
theorem B_attn (hA : ∀ (r : Fin 616) d, x1 (ix4 0 ⟨r.val / 8, by omega⟩ ⟨r.val % 8, by omega⟩ d) = At r d) :
    ∀ g, RowsIs arg23.view (arg23.view.writes (Elt Ideal) g (kernelRun0_B.sl.HS1_40 (F := Ideal) c i arg2 harg2 arg3 harg3 arg4 harg4 arg5 harg5 arg22 hc1 x0 x1 x2 x3)) 616 At := by
  intro g
  unfold kernelRun0_B.sl.HS1_40
  refine RowsIs.store (n := 0) (k := 616) RowsIs.zero _ fun r d hr => ?_
  rw [attn_rows, load_all4, hA]
  exact congrArg (fun r => At r d) (Fin.ext (Nat.zero_add _).symm)

/-- The rows normed for the feed-forward block. -/
theorem B_ln2 (hP : Holds P (i 0) x2 x3 x4 x5 x6 x7 x8 x9 x10 x11 x12 x13 x14 x15 x16 x17)
    (hT : ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) M) :
    ∀ g, RowsIs arg23.view (arg23.view.writes (Elt Ideal) g (kernelRun0_B.sl.HS1_79 (F := Ideal) c i arg2 harg2 arg3 harg3 arg4 harg4 arg5 harg5 arg6 harg6 arg7 harg7 arg11 harg11 arg12 harg12 arg13 harg13 arg22 arg23 harg23 hc1 x0 x1 x2 x3 x4 x5 x9 x10 x11 xs1)) 616 (fun r => ln P.g2 P.b2 (M r)) := by
  intro g
  unfold kernelRun0_B.sl.HS1_79
  refine RowsIs.store (n := 608) (k := 8) ?_ _ (piece8 (ln8_160 _ _ _) (load_row harg6 (k0_off2_eq i) _ rfl hP.g2) (load_row harg7 (k0_off2_eq i) _ rfl hP.b2) ((hT _).load_rows (k0_off41_eq i) _))
  refine RowsIs.store (n := 592) (k := 16) ?_ _ (piece16 (ln16_158 _ _ _) (load_row harg6 (k0_off2_eq i) _ rfl hP.g2) (load_row harg7 (k0_off2_eq i) _ rfl hP.b2) ((hT _).load_rows (k0_off40_eq i) _))
  refine RowsIs.store (n := 576) (k := 16) ?_ _ (piece16 (ln16_156 _ _ _) (load_row harg6 (k0_off2_eq i) _ rfl hP.g2) (load_row harg7 (k0_off2_eq i) _ rfl hP.b2) ((hT _).load_rows (k0_off39_eq i) _))
  refine RowsIs.store (n := 560) (k := 16) ?_ _ (piece16 (ln16_155 _ _ _) (load_row harg6 (k0_off2_eq i) _ rfl hP.g2) (load_row harg7 (k0_off2_eq i) _ rfl hP.b2) ((hT _).load_rows (k0_off38_eq i) _))
  refine RowsIs.store (n := 544) (k := 16) ?_ _ (piece16 (ln16_151 _ _ _) (load_row harg6 (k0_off2_eq i) _ rfl hP.g2) (load_row harg7 (k0_off2_eq i) _ rfl hP.b2) ((hT _).load_rows (k0_off37_eq i) _))
  refine RowsIs.store (n := 528) (k := 16) ?_ _ (piece16 (ln16_150 _ _ _) (load_row harg6 (k0_off2_eq i) _ rfl hP.g2) (load_row harg7 (k0_off2_eq i) _ rfl hP.b2) ((hT _).load_rows (k0_off36_eq i) _))
  refine RowsIs.store (n := 512) (k := 16) ?_ _ (piece16 (ln16_148 _ _ _) (load_row harg6 (k0_off2_eq i) _ rfl hP.g2) (load_row harg7 (k0_off2_eq i) _ rfl hP.b2) ((hT _).load_rows (k0_off35_eq i) _))
  refine RowsIs.store (n := 496) (k := 16) ?_ _ (piece16 (ln16_144 _ _ _) (load_row harg6 (k0_off2_eq i) _ rfl hP.g2) (load_row harg7 (k0_off2_eq i) _ rfl hP.b2) ((hT _).load_rows (k0_off34_eq i) _))
  refine RowsIs.store (n := 480) (k := 16) ?_ _ (piece16 (ln16_143 _ _ _) (load_row harg6 (k0_off2_eq i) _ rfl hP.g2) (load_row harg7 (k0_off2_eq i) _ rfl hP.b2) ((hT _).load_rows (k0_off33_eq i) _))
  refine RowsIs.store (n := 464) (k := 16) ?_ _ (piece16 (ln16_140 _ _ _) (load_row harg6 (k0_off2_eq i) _ rfl hP.g2) (load_row harg7 (k0_off2_eq i) _ rfl hP.b2) ((hT _).load_rows (k0_off32_eq i) _))
  refine RowsIs.store (n := 448) (k := 16) ?_ _ (piece16 (ln16_139 _ _ _) (load_row harg6 (k0_off2_eq i) _ rfl hP.g2) (load_row harg7 (k0_off2_eq i) _ rfl hP.b2) ((hT _).load_rows (k0_off31_eq i) _))
  refine RowsIs.store (n := 432) (k := 16) ?_ _ (piece16 (ln16_138 _ _ _) (load_row harg6 (k0_off2_eq i) _ rfl hP.g2) (load_row harg7 (k0_off2_eq i) _ rfl hP.b2) ((hT _).load_rows (k0_off30_eq i) _))
  refine RowsIs.store (n := 416) (k := 16) ?_ _ (piece16 (ln16_135 _ _ _) (load_row harg6 (k0_off2_eq i) _ rfl hP.g2) (load_row harg7 (k0_off2_eq i) _ rfl hP.b2) ((hT _).load_rows (k0_off29_eq i) _))
  refine RowsIs.store (n := 400) (k := 16) ?_ _ (piece16 (ln16_134 _ _ _) (load_row harg6 (k0_off2_eq i) _ rfl hP.g2) (load_row harg7 (k0_off2_eq i) _ rfl hP.b2) ((hT _).load_rows (k0_off28_eq i) _))
  refine RowsIs.store (n := 384) (k := 16) ?_ _ (piece16 (ln16_131 _ _ _) (load_row harg6 (k0_off2_eq i) _ rfl hP.g2) (load_row harg7 (k0_off2_eq i) _ rfl hP.b2) ((hT _).load_rows (k0_off27_eq i) _))
  refine RowsIs.store (n := 368) (k := 16) ?_ _ (piece16 (ln16_129 _ _ _) (load_row harg6 (k0_off2_eq i) _ rfl hP.g2) (load_row harg7 (k0_off2_eq i) _ rfl hP.b2) ((hT _).load_rows (k0_off26_eq i) _))
  refine RowsIs.store (n := 352) (k := 16) ?_ _ (piece16 (ln16_128 _ _ _) (load_row harg6 (k0_off2_eq i) _ rfl hP.g2) (load_row harg7 (k0_off2_eq i) _ rfl hP.b2) ((hT _).load_rows (k0_off25_eq i) _))
  refine RowsIs.store (n := 336) (k := 16) ?_ _ (piece16 (ln16_125 _ _ _) (load_row harg6 (k0_off2_eq i) _ rfl hP.g2) (load_row harg7 (k0_off2_eq i) _ rfl hP.b2) ((hT _).load_rows (k0_off24_eq i) _))
  refine RowsIs.store (n := 320) (k := 16) ?_ _ (piece16 (ln16_124 _ _ _) (load_row harg6 (k0_off2_eq i) _ rfl hP.g2) (load_row harg7 (k0_off2_eq i) _ rfl hP.b2) ((hT _).load_rows (k0_off23_eq i) _))
  unfold kernelRun0_B.sl.HS1_60
  refine RowsIs.store (n := 304) (k := 16) ?_ _ (piece16 (ln16_122 _ _ _) (load_row harg6 (k0_off2_eq i) _ rfl hP.g2) (load_row harg7 (k0_off2_eq i) _ rfl hP.b2) ((hT _).load_rows (k0_off22_eq i) _))
  refine RowsIs.store (n := 288) (k := 16) ?_ _ (piece16 (ln16_119 _ _ _) (load_row harg6 (k0_off2_eq i) _ rfl hP.g2) (load_row harg7 (k0_off2_eq i) _ rfl hP.b2) ((hT _).load_rows (k0_off21_eq i) _))
  refine RowsIs.store (n := 272) (k := 16) ?_ _ (piece16 (ln16_118 _ _ _) (load_row harg6 (k0_off2_eq i) _ rfl hP.g2) (load_row harg7 (k0_off2_eq i) _ rfl hP.b2) ((hT _).load_rows (k0_off20_eq i) _))
  refine RowsIs.store (n := 256) (k := 16) ?_ _ (piece16 (ln16_115 _ _ _) (load_row harg6 (k0_off2_eq i) _ rfl hP.g2) (load_row harg7 (k0_off2_eq i) _ rfl hP.b2) ((hT _).load_rows (k0_off19_eq i) _))
  refine RowsIs.store (n := 240) (k := 16) ?_ _ (piece16 (ln16_114 _ _ _) (load_row harg6 (k0_off2_eq i) _ rfl hP.g2) (load_row harg7 (k0_off2_eq i) _ rfl hP.b2) ((hT _).load_rows (k0_off18_eq i) _))
  refine RowsIs.store (n := 224) (k := 16) ?_ _ (piece16 (ln16_113 _ _ _) (load_row harg6 (k0_off2_eq i) _ rfl hP.g2) (load_row harg7 (k0_off2_eq i) _ rfl hP.b2) ((hT _).load_rows (k0_off17_eq i) _))
  refine RowsIs.store (n := 208) (k := 16) ?_ _ (piece16 (ln16_110 _ _ _) (load_row harg6 (k0_off2_eq i) _ rfl hP.g2) (load_row harg7 (k0_off2_eq i) _ rfl hP.b2) ((hT _).load_rows (k0_off16_eq i) _))
  refine RowsIs.store (n := 192) (k := 16) ?_ _ (piece16 (ln16_109 _ _ _) (load_row harg6 (k0_off2_eq i) _ rfl hP.g2) (load_row harg7 (k0_off2_eq i) _ rfl hP.b2) ((hT _).load_rows (k0_off15_eq i) _))
  refine RowsIs.store (n := 176) (k := 16) ?_ _ (piece16 (ln16_107 _ _ _) (load_row harg6 (k0_off2_eq i) _ rfl hP.g2) (load_row harg7 (k0_off2_eq i) _ rfl hP.b2) ((hT _).load_rows (k0_off14_eq i) _))
  refine RowsIs.store (n := 160) (k := 16) ?_ _ (piece16 (ln16_104 _ _ _) (load_row harg6 (k0_off2_eq i) _ rfl hP.g2) (load_row harg7 (k0_off2_eq i) _ rfl hP.b2) ((hT _).load_rows (k0_off13_eq i) _))
  refine RowsIs.store (n := 144) (k := 16) ?_ _ (piece16 (ln16_103 _ _ _) (load_row harg6 (k0_off2_eq i) _ rfl hP.g2) (load_row harg7 (k0_off2_eq i) _ rfl hP.b2) ((hT _).load_rows (k0_off12_eq i) _))
  refine RowsIs.store (n := 128) (k := 16) ?_ _ (piece16 (ln16_100 _ _ _) (load_row harg6 (k0_off2_eq i) _ rfl hP.g2) (load_row harg7 (k0_off2_eq i) _ rfl hP.b2) ((hT _).load_rows (k0_off11_eq i) _))
  refine RowsIs.store (n := 112) (k := 16) ?_ _ (piece16 (ln16_99 _ _ _) (load_row harg6 (k0_off2_eq i) _ rfl hP.g2) (load_row harg7 (k0_off2_eq i) _ rfl hP.b2) ((hT _).load_rows (k0_off10_eq i) _))
  refine RowsIs.store (n := 96) (k := 16) ?_ _ (piece16 (ln16_97 _ _ _) (load_row harg6 (k0_off2_eq i) _ rfl hP.g2) (load_row harg7 (k0_off2_eq i) _ rfl hP.b2) ((hT _).load_rows (k0_off9_eq i) _))
  refine RowsIs.store (n := 80) (k := 16) ?_ _ (piece16 (ln16_94 _ _ _) (load_row harg6 (k0_off2_eq i) _ rfl hP.g2) (load_row harg7 (k0_off2_eq i) _ rfl hP.b2) ((hT _).load_rows (k0_off8_eq i) _))
  refine RowsIs.store (n := 64) (k := 16) ?_ _ (piece16 (ln16_93 _ _ _) (load_row harg6 (k0_off2_eq i) _ rfl hP.g2) (load_row harg7 (k0_off2_eq i) _ rfl hP.b2) ((hT _).load_rows (k0_off7_eq i) _))
  refine RowsIs.store (n := 48) (k := 16) ?_ _ (piece16 (ln16_91 _ _ _) (load_row harg6 (k0_off2_eq i) _ rfl hP.g2) (load_row harg7 (k0_off2_eq i) _ rfl hP.b2) ((hT _).load_rows (k0_off6_eq i) _))
  refine RowsIs.store (n := 32) (k := 16) ?_ _ (piece16 (ln16_90 _ _ _) (load_row harg6 (k0_off2_eq i) _ rfl hP.g2) (load_row harg7 (k0_off2_eq i) _ rfl hP.b2) ((hT _).load_rows (k0_off5_eq i) _))
  refine RowsIs.store (n := 16) (k := 16) ?_ _ (piece16 (ln16_89 _ _ _) (load_row harg6 (k0_off2_eq i) _ rfl hP.g2) (load_row harg7 (k0_off2_eq i) _ rfl hP.b2) ((hT _).load_rows (k0_off4_eq i) _))
  refine RowsIs.store (n := 0) (k := 16) ?_ _ (piece16 (ln16_86 _ _ _) (load_row harg6 (k0_off2_eq i) _ rfl hP.g2) (load_row harg7 (k0_off2_eq i) _ rfl hP.b2) ((hT _).load_rows (k0_off3_eq i) _))
  exact RowsIs.zero

/-- The tile after chunk 0 of the attention's projection. -/
theorem B_mid0 (hP : Holds P (i 0) x2 x3 x4 x5 x6 x7 x8 x9 x10 x11 x12 x13 x14 x15 x16 x17)
    (hT : ∀ f, TileIs arg22.view (arg22.view.writes (Elt Ideal) f (kernelRun0_B.sl.HS0_1 (F := Ideal) c i arg2 harg2 hc1 x0)) (i 1) X)
    (hR : ∀ g, RowsIs arg23.view (arg23.view.writes (Elt Ideal) g (kernelRun0_B.sl.HS1_40 (F := Ideal) c i arg2 harg2 arg3 harg3 arg4 harg4 arg5 harg5 arg22 hc1 x0 x1 x2 x3)) 616 At) :
    ∀ f, TileIs arg22.view (arg22.view.writes (Elt Ideal) f (kernelRun0_B.sl.HS0_2 (F := Ideal) c i arg2 harg2 arg3 harg3 arg4 harg4 arg5 harg5 arg11 harg11 arg12 harg12 arg13 harg13 arg22 arg23 harg23 hc1 x0 x1 x2 x3 x9 x10 x11 xs1)) (i 1) (cols 256 X (fun r => midRow P (X r) (At r))) := by
  intro f
  unfold kernelRun0_B.sl.HS0_2
  refine TileIs.store_cols (n := 256) (o := 0) ?_ (k0_off45_eq i) _ ?_
  rotate_left
  · intro r j hd
    refine ((mid_chunk _ _ _ _ _ r j)).trans ?_
    exact congr (congrArg (fun a b : EReal => a + b) ((hT _).load_cols (k0_off45_eq i) _ r j (by omega))) (through_eq (fun r k => (hR _).load _ r k) (col 0 768 (by norm_num)) (fun k j => (congrArg word (load_mat harg11 _ _ k j (by omega))).trans (hP.wo k _)) (fun j => (load_vec harg12 (k0_off46_eq i) _ _ (i 0) rfl j (by omega)).trans (hP.so _)) (fun j => (load_vec harg13 (k0_off46_eq i) _ _ (i 0) rfl j (by omega)).trans (hP.bo _)) r j)
  rw [cols_zero]
  exact hT f

/-- The tile after chunk 1 of the attention's projection. -/
theorem B_mid1 (hP : Holds P (i 0) x2 x3 x4 x5 x6 x7 x8 x9 x10 x11 x12 x13 x14 x15 x16 x17)
    (hT : ∀ f, TileIs arg22.view (arg22.view.writes (Elt Ideal) f (kernelRun0_B.sl.HS0_2 (F := Ideal) c i arg2 harg2 arg3 harg3 arg4 harg4 arg5 harg5 arg11 harg11 arg12 harg12 arg13 harg13 arg22 arg23 harg23 hc1 x0 x1 x2 x3 x9 x10 x11 xs1)) (i 1) (cols 256 X (fun r => midRow P (X r) (At r))))
    (hR : ∀ g, RowsIs arg23.view (arg23.view.writes (Elt Ideal) g (kernelRun0_B.sl.HS1_40 (F := Ideal) c i arg2 harg2 arg3 harg3 arg4 harg4 arg5 harg5 arg22 hc1 x0 x1 x2 x3)) 616 At) :
    ∀ f, TileIs arg22.view (arg22.view.writes (Elt Ideal) f (kernelRun0_B.sl.HS0_3 (F := Ideal) c i arg2 harg2 arg3 harg3 arg4 harg4 arg5 harg5 arg11 harg11 arg12 harg12 arg13 harg13 arg22 arg23 harg23 hc1 x0 x1 x2 x3 x9 x10 x11 xs1)) (i 1) (cols 512 X (fun r => midRow P (X r) (At r))) := by
  intro f
  unfold kernelRun0_B.sl.HS0_3
  refine TileIs.store_cols (n := 256) (o := 256) ?_ (k0_off47_eq i) _ ?_
  rotate_left
  · intro r j hd
    refine ((congrFun (mid_chunk_84 _ _ _ _ _) _).trans (mid_chunk _ _ _ _ _ r j)).trans ?_
    exact congr (congrArg (fun a b : EReal => a + b) (((hT _).load_cols (k0_off47_eq i) _ r j (by omega)).trans (cols_ge _ _ r _ (by show _ ≤ 256 + j.val; omega)))) (through_eq (fun r k => (hR _).load _ r k) (col 256 768 (by norm_num)) (fun k j => (congrArg word (load_mat harg11 _ _ k j (by omega))).trans (hP.wo k _)) (fun j => (load_vec harg12 (k0_off48_eq i) _ _ (i 0) rfl j (by omega)).trans (hP.so _)) (fun j => (load_vec harg13 (k0_off48_eq i) _ _ (i 0) rfl j (by omega)).trans (hP.bo _)) r j)
  exact hT f

/-- The tile after chunk 2 of the attention's projection. -/
theorem B_mid2 (hP : Holds P (i 0) x2 x3 x4 x5 x6 x7 x8 x9 x10 x11 x12 x13 x14 x15 x16 x17)
    (hT : ∀ f, TileIs arg22.view (arg22.view.writes (Elt Ideal) f (kernelRun0_B.sl.HS0_3 (F := Ideal) c i arg2 harg2 arg3 harg3 arg4 harg4 arg5 harg5 arg11 harg11 arg12 harg12 arg13 harg13 arg22 arg23 harg23 hc1 x0 x1 x2 x3 x9 x10 x11 xs1)) (i 1) (cols 512 X (fun r => midRow P (X r) (At r))))
    (hR : ∀ g, RowsIs arg23.view (arg23.view.writes (Elt Ideal) g (kernelRun0_B.sl.HS1_40 (F := Ideal) c i arg2 harg2 arg3 harg3 arg4 harg4 arg5 harg5 arg22 hc1 x0 x1 x2 x3)) 616 At) :
    ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) (fun r => midRow P (X r) (At r)) := by
  intro f
  rw [← cols_all X (fun r => midRow P (X r) (At r))]
  unfold kernelRun0_B.sl.HS0_4
  refine TileIs.store_cols (n := 256) (o := 512) ?_ (k0_off49_eq i) _ ?_
  rotate_left
  · intro r j hd
    refine ((congrFun (mid_chunk_85 _ _ _ _ _) _).trans (mid_chunk _ _ _ _ _ r j)).trans ?_
    exact congr (congrArg (fun a b : EReal => a + b) (((hT _).load_cols (k0_off49_eq i) _ r j (by omega)).trans (cols_ge _ _ r _ (by show _ ≤ 512 + j.val; omega)))) (through_eq (fun r k => (hR _).load _ r k) (col 512 768 (by norm_num)) (fun k j => (congrArg word (load_mat harg11 _ _ k j (by omega))).trans (hP.wo k _)) (fun j => (load_vec harg12 (k0_off50_eq i) _ _ (i 0) rfl j (by omega)).trans (hP.so _)) (fun j => (load_vec harg13 (k0_off50_eq i) _ _ (i 0) rfl j (by omega)).trans (hP.bo _)) r j)
  exact hT f

/-- The tile after the attention's projection. -/
theorem B_mid (hP : Holds P (i 0) x2 x3 x4 x5 x6 x7 x8 x9 x10 x11 x12 x13 x14 x15 x16 x17)
    (hT : ∀ f, TileIs arg22.view (arg22.view.writes (Elt Ideal) f (kernelRun0_B.sl.HS0_1 (F := Ideal) c i arg2 harg2 hc1 x0)) (i 1) X)
    (hR : ∀ g, RowsIs arg23.view (arg23.view.writes (Elt Ideal) g (kernelRun0_B.sl.HS1_40 (F := Ideal) c i arg2 harg2 arg3 harg3 arg4 harg4 arg5 harg5 arg22 hc1 x0 x1 x2 x3)) 616 At) :
    ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) (fun r => midRow P (X r) (At r)) :=
  B_mid2 hP (B_mid1 hP (B_mid0 hP hT hR) hR) hR

/-- The keys. -/
theorem B_keys (hP : Holds P (i 0) x2 x3 x4 x5 x6 x7 x8 x9 x10 x11 x12 x13 x14 x15 x16 x17)
    (hR : ∀ g, RowsIs arg23.view (arg23.view.writes (Elt Ideal) g (kernelRun0_B.sl.HS1_39 (F := Ideal) c i arg2 harg2 arg4 harg4 arg5 harg5 arg22 hc1 x0 x2 x3)) 616 (fun r => ln P.g1 P.b1 (X r))) :
    ∀ g, OutIs arg21.view (arg21.view.writes (Elt Ideal) g (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.1) 768 (fun r => keyRow P (X r)) := by
  intro g
  unfold kernelRun0_B
  dsimp only
  refine OutIs.store (n := 512) (k := 256) ?_ _ fun s b j hd => ((congrFun (key_chunk_80 _ _ _ _) _).trans (key_chunk _ _ _ _ s b j)).trans ((through_eq (fun r k => (hR _).load _ r k) (col 1280 2304 (by norm_num)) (fun k j => (congrArg word (load_mat harg8 _ _ k j (by omega))).trans (hP.wqkv k _)) (fun j => (load_vec harg9 (k0_off44_eq i) _ _ (i 0) rfl j (by omega)).trans (hP.sqkv _)) (fun j => (load_vec harg10 (k0_off44_eq i) _ _ (i 0) rfl j (by omega)).trans (hP.bqkv _)) (row s b) j).trans ?_)
  rotate_left
  · exact congrArg (lin _ _ _ _) (Fin.ext (by show 1280 + j.val = 768 + (512 + j.val); omega))
  refine OutIs.store (n := 256) (k := 256) ?_ _ fun s b j hd => ((congrFun (key_chunk_78 _ _ _ _) _).trans (key_chunk _ _ _ _ s b j)).trans ((through_eq (fun r k => (hR _).load _ r k) (col 1024 2304 (by norm_num)) (fun k j => (congrArg word (load_mat harg8 _ _ k j (by omega))).trans (hP.wqkv k _)) (fun j => (load_vec harg9 (k0_off43_eq i) _ _ (i 0) rfl j (by omega)).trans (hP.sqkv _)) (fun j => (load_vec harg10 (k0_off43_eq i) _ _ (i 0) rfl j (by omega)).trans (hP.bqkv _)) (row s b) j).trans ?_)
  rotate_left
  · exact congrArg (lin _ _ _ _) (Fin.ext (by show 1024 + j.val = 768 + (256 + j.val); omega))
  refine OutIs.store (n := 0) (k := 256) ?_ _ fun s b j hd => (key_chunk _ _ _ _ s b j).trans ((through_eq (fun r k => (hR _).load _ r k) (col 768 2304 (by norm_num)) (fun k j => (congrArg word (load_mat harg8 _ _ k j (by omega))).trans (hP.wqkv k _)) (fun j => (load_vec harg9 (k0_off42_eq i) _ _ (i 0) rfl j (by omega)).trans (hP.sqkv _)) (fun j => (load_vec harg10 (k0_off42_eq i) _ _ (i 0) rfl j (by omega)).trans (hP.bqkv _)) (row s b) j).trans ?_)
  rotate_left
  · exact congrArg (lin _ _ _ _) (Fin.ext (by show 768 + j.val = 768 + (0 + j.val); omega))
  exact OutIs.zero

/-- The hidden rows of the feed-forward block. -/
theorem B_hid (hP : Holds P (i 0) x2 x3 x4 x5 x6 x7 x8 x9 x10 x11 x12 x13 x14 x15 x16 x17)
    (hR : ∀ g, RowsIs arg23.view (arg23.view.writes (Elt Ideal) g (kernelRun0_B.sl.HS1_79 (F := Ideal) c i arg2 harg2 arg3 harg3 arg4 harg4 arg5 harg5 arg6 harg6 arg7 harg7 arg11 harg11 arg12 harg12 arg13 harg13 arg22 arg23 harg23 hc1 x0 x1 x2 x3 x4 x5 x9 x10 x11 xs1)) 616 (fun r => ln P.g2 P.b2 (M r))) :
    ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P (M r)) := by
  intro g
  unfold kernelRun0_B.sl.HS2_12
  refine ColsIs.store (n := 2816) (k := 256) ?_ _ fun r j hd => ((congrFun (hid_chunk_177 _ _ _ _) _).trans (hid_chunk _ _ _ _ r j)).trans (congrArg gate (through_eq (fun r k => (hR _).load _ r k) (col 2816 3072 (by norm_num)) (fun k j => (congrArg word (load_mat harg14 _ _ k j (by omega))).trans (hP.w1 k _)) (fun j => (load_vec harg15 (k0_off62_eq i) _ _ (i 0) rfl j (by omega)).trans (hP.s1 _)) (fun j => (load_vec harg16 (k0_off62_eq i) _ _ (i 0) rfl j (by omega)).trans (hP.bb1 _)) r j))
  refine ColsIs.store (n := 2560) (k := 256) ?_ _ fun r j hd => ((congrFun (hid_chunk_176 _ _ _ _) _).trans (hid_chunk _ _ _ _ r j)).trans (congrArg gate (through_eq (fun r k => (hR _).load _ r k) (col 2560 3072 (by norm_num)) (fun k j => (congrArg word (load_mat harg14 _ _ k j (by omega))).trans (hP.w1 k _)) (fun j => (load_vec harg15 (k0_off61_eq i) _ _ (i 0) rfl j (by omega)).trans (hP.s1 _)) (fun j => (load_vec harg16 (k0_off61_eq i) _ _ (i 0) rfl j (by omega)).trans (hP.bb1 _)) r j))
  refine ColsIs.store (n := 2304) (k := 256) ?_ _ fun r j hd => ((congrFun (hid_chunk_174 _ _ _ _) _).trans (hid_chunk _ _ _ _ r j)).trans (congrArg gate (through_eq (fun r k => (hR _).load _ r k) (col 2304 3072 (by norm_num)) (fun k j => (congrArg word (load_mat harg14 _ _ k j (by omega))).trans (hP.w1 k _)) (fun j => (load_vec harg15 (k0_off60_eq i) _ _ (i 0) rfl j (by omega)).trans (hP.s1 _)) (fun j => (load_vec harg16 (k0_off60_eq i) _ _ (i 0) rfl j (by omega)).trans (hP.bb1 _)) r j))
  refine ColsIs.store (n := 2048) (k := 256) ?_ _ fun r j hd => ((congrFun (hid_chunk_173 _ _ _ _) _).trans (hid_chunk _ _ _ _ r j)).trans (congrArg gate (through_eq (fun r k => (hR _).load _ r k) (col 2048 3072 (by norm_num)) (fun k j => (congrArg word (load_mat harg14 _ _ k j (by omega))).trans (hP.w1 k _)) (fun j => (load_vec harg15 (k0_off59_eq i) _ _ (i 0) rfl j (by omega)).trans (hP.s1 _)) (fun j => (load_vec harg16 (k0_off59_eq i) _ _ (i 0) rfl j (by omega)).trans (hP.bb1 _)) r j))
  refine ColsIs.store (n := 1792) (k := 256) ?_ _ fun r j hd => ((congrFun (hid_chunk_171 _ _ _ _) _).trans (hid_chunk _ _ _ _ r j)).trans (congrArg gate (through_eq (fun r k => (hR _).load _ r k) (col 1792 3072 (by norm_num)) (fun k j => (congrArg word (load_mat harg14 _ _ k j (by omega))).trans (hP.w1 k _)) (fun j => (load_vec harg15 (k0_off58_eq i) _ _ (i 0) rfl j (by omega)).trans (hP.s1 _)) (fun j => (load_vec harg16 (k0_off58_eq i) _ _ (i 0) rfl j (by omega)).trans (hP.bb1 _)) r j))
  refine ColsIs.store (n := 1536) (k := 256) ?_ _ fun r j hd => ((congrFun (hid_chunk_170 _ _ _ _) _).trans (hid_chunk _ _ _ _ r j)).trans (congrArg gate (through_eq (fun r k => (hR _).load _ r k) (col 1536 3072 (by norm_num)) (fun k j => (congrArg word (load_mat harg14 _ _ k j (by omega))).trans (hP.w1 k _)) (fun j => (load_vec harg15 (k0_off57_eq i) _ _ (i 0) rfl j (by omega)).trans (hP.s1 _)) (fun j => (load_vec harg16 (k0_off57_eq i) _ _ (i 0) rfl j (by omega)).trans (hP.bb1 _)) r j))
  refine ColsIs.store (n := 1280) (k := 256) ?_ _ fun r j hd => ((congrFun (hid_chunk_168 _ _ _ _) _).trans (hid_chunk _ _ _ _ r j)).trans (congrArg gate (through_eq (fun r k => (hR _).load _ r k) (col 1280 3072 (by norm_num)) (fun k j => (congrArg word (load_mat harg14 _ _ k j (by omega))).trans (hP.w1 k _)) (fun j => (load_vec harg15 (k0_off56_eq i) _ _ (i 0) rfl j (by omega)).trans (hP.s1 _)) (fun j => (load_vec harg16 (k0_off56_eq i) _ _ (i 0) rfl j (by omega)).trans (hP.bb1 _)) r j))
  refine ColsIs.store (n := 1024) (k := 256) ?_ _ fun r j hd => ((congrFun (hid_chunk_167 _ _ _ _) _).trans (hid_chunk _ _ _ _ r j)).trans (congrArg gate (through_eq (fun r k => (hR _).load _ r k) (col 1024 3072 (by norm_num)) (fun k j => (congrArg word (load_mat harg14 _ _ k j (by omega))).trans (hP.w1 k _)) (fun j => (load_vec harg15 (k0_off55_eq i) _ _ (i 0) rfl j (by omega)).trans (hP.s1 _)) (fun j => (load_vec harg16 (k0_off55_eq i) _ _ (i 0) rfl j (by omega)).trans (hP.bb1 _)) r j))
  refine ColsIs.store (n := 768) (k := 256) ?_ _ fun r j hd => ((congrFun (hid_chunk_166 _ _ _ _) _).trans (hid_chunk _ _ _ _ r j)).trans (congrArg gate (through_eq (fun r k => (hR _).load _ r k) (col 768 3072 (by norm_num)) (fun k j => (congrArg word (load_mat harg14 _ _ k j (by omega))).trans (hP.w1 k _)) (fun j => (load_vec harg15 (k0_off54_eq i) _ _ (i 0) rfl j (by omega)).trans (hP.s1 _)) (fun j => (load_vec harg16 (k0_off54_eq i) _ _ (i 0) rfl j (by omega)).trans (hP.bb1 _)) r j))
  refine ColsIs.store (n := 512) (k := 256) ?_ _ fun r j hd => ((congrFun (hid_chunk_164 _ _ _ _) _).trans (hid_chunk _ _ _ _ r j)).trans (congrArg gate (through_eq (fun r k => (hR _).load _ r k) (col 512 3072 (by norm_num)) (fun k j => (congrArg word (load_mat harg14 _ _ k j (by omega))).trans (hP.w1 k _)) (fun j => (load_vec harg15 (k0_off53_eq i) _ _ (i 0) rfl j (by omega)).trans (hP.s1 _)) (fun j => (load_vec harg16 (k0_off53_eq i) _ _ (i 0) rfl j (by omega)).trans (hP.bb1 _)) r j))
  refine ColsIs.store (n := 256) (k := 256) ?_ _ fun r j hd => ((congrFun (hid_chunk_163 _ _ _ _) _).trans (hid_chunk _ _ _ _ r j)).trans (congrArg gate (through_eq (fun r k => (hR _).load _ r k) (col 256 3072 (by norm_num)) (fun k j => (congrArg word (load_mat harg14 _ _ k j (by omega))).trans (hP.w1 k _)) (fun j => (load_vec harg15 (k0_off52_eq i) _ _ (i 0) rfl j (by omega)).trans (hP.s1 _)) (fun j => (load_vec harg16 (k0_off52_eq i) _ _ (i 0) rfl j (by omega)).trans (hP.bb1 _)) r j))
  refine ColsIs.store (n := 0) (k := 256) ?_ _ fun r j hd => (hid_chunk _ _ _ _ r j).trans (congrArg gate (through_eq (fun r k => (hR _).load _ r k) (col 0 3072 (by norm_num)) (fun k j => (congrArg word (load_mat harg14 _ _ k j (by omega))).trans (hP.w1 k _)) (fun j => (load_vec harg15 (k0_off51_eq i) _ _ (i 0) rfl j (by omega)).trans (hP.s1 _)) (fun j => (load_vec harg16 (k0_off51_eq i) _ _ (i 0) rfl j (by omega)).trans (hP.bb1 _)) r j))
  exact ColsIs.zero

/-- The tile after chunk 0 of the feed-forward block. -/
theorem B_out0 (hP : Holds P (i 0) x2 x3 x4 x5 x6 x7 x8 x9 x10 x11 x12 x13 x14 x15 x16 x17)
    (hT : ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) M)
    (hH : ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P (M r))) :
    ∀ f, TileIs arg22.view (arg22.view.writes (Elt Ideal) f (kernelRun0_B.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 256 M (fun r => outRow P (M r))) := by
  intro f
  unfold kernelRun0_B.sl.HS0_5
  refine TileIs.store_cols (n := 256) (o := 0) ?_ (k0_off45_eq i) _ ?_
  rotate_left
  · intro r j hd
    refine ((out_chunk _ _ _ _ _ r j)).trans ?_
    exact congr (congrArg (fun a b : EReal => a + b) ((hT _).load_cols (k0_off45_eq i) _ r j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) r j)
  rw [cols_zero]
  exact hT f

/-- The tile after chunk 1 of the feed-forward block. -/
theorem B_out1 (hP : Holds P (i 0) x2 x3 x4 x5 x6 x7 x8 x9 x10 x11 x12 x13 x14 x15 x16 x17)
    (hT : ∀ f, TileIs arg22.view (arg22.view.writes (Elt Ideal) f (kernelRun0_B.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 256 M (fun r => outRow P (M r))))
    (hH : ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P (M r))) :
    ∀ f, TileIs arg22.view (arg22.view.writes (Elt Ideal) f (kernelRun0_B.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 512 M (fun r => outRow P (M r))) := by
  intro f
  unfold kernelRun0_B.sl.HS0_6
  refine TileIs.store_cols (n := 256) (o := 256) ?_ (k0_off47_eq i) _ ?_
  rotate_left
  · intro r j hd
    refine ((congrFun (out_chunk_184 _ _ _ _ _) _).trans (out_chunk _ _ _ _ _ r j)).trans ?_
    exact congr (congrArg (fun a b : EReal => a + b) (((hT _).load_cols (k0_off47_eq i) _ r j (by omega)).trans (cols_ge _ _ r _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) r j)
  exact hT f

/-- The tile after chunk 2 of the feed-forward block. -/
theorem B_out2 (hP : Holds P (i 0) x2 x3 x4 x5 x6 x7 x8 x9 x10 x11 x12 x13 x14 x15 x16 x17)
    (hT : ∀ f, TileIs arg22.view (arg22.view.writes (Elt Ideal) f (kernelRun0_B.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 512 M (fun r => outRow P (M r))))
    (hH : ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P (M r))) :
    ∀ f, TileIs arg22.view (arg22.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) (i 1) (fun r => outRow P (M r)) := by
  intro f
  rw [← cols_all M (fun r => outRow P (M r))]
  unfold kernelRun0_B
  dsimp only
  refine TileIs.store_cols (n := 256) (o := 512) ?_ (k0_off49_eq i) _ ?_
  rotate_left
  · intro r j hd
    refine ((congrFun (out_chunk_187 _ _ _ _ _) _).trans (out_chunk _ _ _ _ _ r j)).trans ?_
    exact congr (congrArg (fun a b : EReal => a + b) (((hT _).load_cols (k0_off49_eq i) _ r j (by omega)).trans (cols_ge _ _ r _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) r j)
  exact hT f

/-- The stream as put out. -/
theorem B_stream (hP : Holds P (i 0) x2 x3 x4 x5 x6 x7 x8 x9 x10 x11 x12 x13 x14 x15 x16 x17)
    (hT0 : ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) M)
    (hT1 : ∀ f, TileIs arg22.view (arg22.view.writes (Elt Ideal) f (kernelRun0_B.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 256 M (fun r => outRow P (M r))))
    (hT2 : ∀ f, TileIs arg22.view (arg22.view.writes (Elt Ideal) f (kernelRun0_B.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 512 M (fun r => outRow P (M r))))
    (hH : ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P (M r))) :
    ∀ g, OutIs arg20.view (arg20.view.writes (Elt Ideal) g (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).1) 768 (fun r => outRow P (M r)) := by
  intro g
  unfold kernelRun0_B
  dsimp only
  refine OutIs.store (n := 512) (k := 256) ?_ _ fun s b j hd => ((congrFun (st_chunk_1 _ _ _ _ _) _).trans (st_chunk _ _ _ _ _ s b j)).trans (congr (congrArg (fun a b : EReal => a + b) (((hT2 _).load_cols (k0_off49_eq i) _ (row s b) j (by omega)).trans (cols_ge _ _ (row s b) _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) (row s b) j))
  refine OutIs.store (n := 256) (k := 256) ?_ _ fun s b j hd => ((congrFun (st_chunk_185 _ _ _ _ _) _).trans (st_chunk _ _ _ _ _ s b j)).trans (congr (congrArg (fun a b : EReal => a + b) (((hT1 _).load_cols (k0_off47_eq i) _ (row s b) j (by omega)).trans (cols_ge _ _ (row s b) _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) (row s b) j))
  refine OutIs.store (n := 0) (k := 256) ?_ _ fun s b j hd => (st_chunk _ _ _ _ _ s b j).trans (congr (congrArg (fun a b : EReal => a + b) ((hT0 _).load_cols (k0_off45_eq i) _ (row s b) j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) (row s b) j))
  exact OutIs.zero

/-- The other tiles stay. -/
theorem B_other (f : arg22.view.ty.Contents (Elt Ideal)) (t' : Fin 4) (ht : t' ≠ i 1) {Z : Fin 616 → Fin 768 → EReal} (hZ : TileIs arg22.view f t' Z) :
    TileIs arg22.view (arg22.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) t' Z := by
  unfold kernelRun0_B
  dsimp only
  refine TileIs.other ht ?_ (k0_off49_eq i) _ rfl
  unfold kernelRun0_B.sl.HS0_6
  refine TileIs.other ht ?_ (k0_off47_eq i) _ rfl
  unfold kernelRun0_B.sl.HS0_5
  refine TileIs.other ht ?_ (k0_off45_eq i) _ rfl
  unfold kernelRun0_B.sl.HS0_4
  refine TileIs.other ht ?_ (k0_off49_eq i) _ rfl
  unfold kernelRun0_B.sl.HS0_3
  refine TileIs.other ht ?_ (k0_off47_eq i) _ rfl
  unfold kernelRun0_B.sl.HS0_2
  refine TileIs.other ht ?_ (k0_off45_eq i) _ rfl
  unfold kernelRun0_B.sl.HS0_1
  refine TileIs.other ht ?_ (k0_off1_eq i) _ rfl
  exact hZ

/-- One grid point: the keys and the stream of its tile, and the tile it carries on. -/
theorem B_point (hP : Holds P (i 0) x2 x3 x4 x5 x6 x7 x8 x9 x10 x11 x12 x13 x14 x15 x16 x17) (hX : ∀ (r : Fin 616) d, x0 (ix3 ⟨r.val / 8, by omega⟩ ⟨r.val % 8, by omega⟩ d) = X r d)
    (hA : ∀ (r : Fin 616) d, x1 (ix4 0 ⟨r.val / 8, by omega⟩ ⟨r.val % 8, by omega⟩ d) = At r d) :
    (∀ g, OutIs arg20.view (arg20.view.writes (Elt Ideal) g (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).1) 768 (fun r => layerRow P (X r) (At r)))
    ∧ (∀ g, OutIs arg21.view (arg21.view.writes (Elt Ideal) g (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.1) 768 (fun r => keyRow P (X r)))
    ∧ (∀ f, TileIs arg22.view (arg22.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) (i 1) (fun r => layerRow P (X r) (At r))) := by
  have h1 : ∀ f, TileIs arg22.view (arg22.view.writes (Elt Ideal) f (kernelRun0_B.sl.HS0_1 (F := Ideal) c i arg2 harg2 hc1 x0)) (i 1) X := B_tile hX
  have h2 : ∀ g, RowsIs arg23.view (arg23.view.writes (Elt Ideal) g (kernelRun0_B.sl.HS1_39 (F := Ideal) c i arg2 harg2 arg4 harg4 arg5 harg5 arg22 hc1 x0 x2 x3)) 616 (fun r => ln P.g1 P.b1 (X r)) := B_ln1 hP h1
  have h3 : ∀ g, RowsIs arg23.view (arg23.view.writes (Elt Ideal) g (kernelRun0_B.sl.HS1_40 (F := Ideal) c i arg2 harg2 arg3 harg3 arg4 harg4 arg5 harg5 arg22 hc1 x0 x1 x2 x3)) 616 At := B_attn hA
  have h4 : ∀ f, TileIs arg22.view (arg22.view.writes (Elt Ideal) f (kernelRun0_B.sl.HS0_4 (F := Ideal) c i arg2 harg2 arg3 harg3 arg4 harg4 arg5 harg5 arg11 harg11 arg12 harg12 arg13 harg13 arg22 arg23 harg23 hc1 x0 x1 x2 x3 x9 x10 x11 xs1)) (i 1) (fun r => midRow P (X r) (At r)) := B_mid hP h1 h3
  have h5 : ∀ g, RowsIs arg23.view (arg23.view.writes (Elt Ideal) g (kernelRun0_B.sl.HS1_79 (F := Ideal) c i arg2 harg2 arg3 harg3 arg4 harg4 arg5 harg5 arg6 harg6 arg7 harg7 arg11 harg11 arg12 harg12 arg13 harg13 arg22 arg23 harg23 hc1 x0 x1 x2 x3 x4 x5 x9 x10 x11 xs1)) 616 (fun r => ln P.g2 P.b2 ((fun r => midRow P (X r) (At r)) r)) := B_ln2 hP h4
  have h6 : ∀ g, ColsIs arg24.view (arg24.view.writes (Elt Ideal) g (kernelRun0_B.sl.HS2_12 (F := Ideal) c i arg2 harg2 arg3 harg3 arg4 harg4 arg5 harg5 arg6 harg6 arg7 harg7 arg11 harg11 arg12 harg12 arg13 harg13 arg14 harg14 arg15 harg15 arg16 harg16 arg22 arg23 harg23 hc1 x0 x1 x2 x3 x4 x5 x9 x10 x11 x12 x13 x14 xs1)) 3072 (fun r => hidRow P ((fun r => midRow P (X r) (At r)) r)) := B_hid hP h5
  have h7 : ∀ f, TileIs arg22.view (arg22.view.writes (Elt Ideal) f (kernelRun0_B.sl.HS0_5 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 256 (fun r => midRow P (X r) (At r)) (fun r => outRow P ((fun r => midRow P (X r) (At r)) r))) := B_out0 hP h4 h6
  have h8 : ∀ f, TileIs arg22.view (arg22.view.writes (Elt Ideal) f (kernelRun0_B.sl.HS0_6 (F := Ideal) c i arg2 harg2 arg3 harg3 arg4 harg4 arg5 harg5 arg6 harg6 arg7 harg7 arg11 harg11 arg12 harg12 arg13 harg13 arg14 harg14 arg15 harg15 arg16 harg16 arg17 harg17 arg18 harg18 arg19 harg19 arg22 arg23 harg23 arg24 harg24 hc1 x0 x1 x2 x3 x4 x5 x9 x10 x11 x12 x13 x14 x15 x16 x17 xs1 xs2)) (i 1) (cols 512 (fun r => midRow P (X r) (At r)) (fun r => outRow P ((fun r => midRow P (X r) (At r)) r))) := B_out1 hP h7 h6
  exact ⟨B_stream hP h4 h7 h8 h6, B_keys hP h2, B_out2 hP h8 h6⟩

end Cert.KernelIdeal.Rows
-- ==== Proof.IdealRunC.lean ====
/- The run of the ideal kernel's body at the points of the later layers: the tile is what the layer before left in the
   scratch. -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3672000 in
/-- What the body's stores leave in each output's staging memref, as pieces (last first) IN CASE C (`scf.if` 0 not taken, `scf.if` 1 not taken: points 4, 5, … 47: 44 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S77x8x768 .f32) (harg2 : arg2.IsWhole) (arg3 : Memref sig .tc .vmem S1x77x8x768 .bf16) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768 .f32) (harg6 : arg6.IsWhole) (arg7 : Memref sig .tc .vmem S12x768 .f32) (harg7 : arg7.IsWhole) (arg8 : Memref sig .tc .vmem S1x768x2304 .i8) (harg8 : arg8.IsWhole) (arg9 : Memref sig .tc .vmem S12x2304 .f32) (harg9 : arg9.IsWhole) (arg10 : Memref sig .tc .vmem S12x2304 .f32) (harg10 : arg10.IsWhole) (arg11 : Memref sig .tc .vmem S1x768x768 .i8) (harg11 : arg11.IsWhole) (arg12 : Memref sig .tc .vmem S12x768 .f32) (harg12 : arg12.IsWhole) (arg13 : Memref sig .tc .vmem S12x768 .f32) (harg13 : arg13.IsWhole) (arg14 : Memref sig .tc .vmem S1x768x3072 .i8) (harg14 : arg14.IsWhole) (arg15 : Memref sig .tc .vmem S12x3072 .f32) (harg15 : arg15.IsWhole) (arg16 : Memref sig .tc .vmem S12x3072 .f32) (harg16 : arg16.IsWhole) (arg17 : Memref sig .tc .vmem S1x3072x768 .i8) (harg17 : arg17.IsWhole) (arg18 : Memref sig .tc .vmem S12x768 .f32) (harg18 : arg18.IsWhole) (arg19 : Memref sig .tc .vmem S12x768 .f32) (harg19 : arg19.IsWhole) (arg20 : Memref sig .tc .vmem S1x77x8x768 .f32) (harg20 : arg20.IsWhole) (arg21 : Memref sig .tc .vmem S1x77x8x768 .bf16) (harg21 : arg21.IsWhole) (arg22 : Memref sig .tc .vmem S4x616x768 .f32) (harg22 : arg22.IsWhole) (arg23 : Memref sig .tc .vmem S624x768 .bf16) (harg23 : arg23.IsWhole) (arg24 : Memref sig .tc .vmem S624x3072 .bf16) (harg24 : arg24.IsWhole) (hc0 : ¬cond0_0 i) (hc1 : ¬cond0_1 i)
    (x0 : Vec F S77x8x768 .f32) (x1 : Vec F S1x77x8x768 .bf16) (x2 : Vec F S12x768 .f32) (x3 : Vec F S12x768 .f32) (x4 : Vec F S12x768 .f32) (x5 : Vec F S12x768 .f32) (x6 : Vec F S1x768x2304 .i8) (x7 : Vec F S12x2304 .f32) (x8 : Vec F S12x2304 .f32) (x9 : Vec F S1x768x768 .i8) (x10 : Vec F S12x768 .f32) (x11 : Vec F S12x768 .f32) (x12 : Vec F S1x768x3072 .i8) (x13 : Vec F S12x3072 .f32) (x14 : Vec F S12x3072 .f32) (x15 : Vec F S1x3072x768 .i8) (x16 : Vec F S12x768 .f32) (x17 : Vec F S12x768 .f32) (xs0 : Vec F S4x616x768 .f32) (xs1 : Vec F S624x768 .bf16) (xs2 : Vec F S624x3072 .bf16) :
    Σ' (L18 : List (View.Piece (Elt F) S1x77x8x768 .f32)), Σ' (L19 : List (View.Piece (Elt F) S1x77x8x768 .bf16)), Σ' (LS0 : List (View.Piece (Elt F) S4x616x768 .f32)), Σ' (LS1 : List (View.Piece (Elt F) S624x768 .bf16)), { LS2 : List (View.Piece (Elt F) S624x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} arg22.view.writes (Elt F) (harg22.unread xs0) LS0) ∗ (arg23.view.loc (c : Thread nD τ) ↦[arg23.view.set]{fullShare} arg23.view.writes (Elt F) (harg23.unread xs1) LS1) ∗ (arg24.view.loc (c : Thread nD τ) ↦[arg24.view.set]{fullShare} arg24.view.writes (Elt F) (harg24.unread xs2) LS2)) -∗ K ⟨⟩))
          ⊢ wp frame (wpE (defs₀ (F := F)) Variants.none c none) E (cc0_layers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_layers_eq_skeleton]; unfold cc0_layers_skel
    simp only [k0_part62_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg22.eq_unread hfs0; obtain rfl := harg23.eq_unread hfs1; obtain rfl := harg24.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [HS0]; · iexact HS0
    isplitl [HS1]; · iexact HS1
    iexact HS2

end Cert.KernelIdeal.Gen

end
-- ==== Proof.ValueC.lean ====
/- What the ideal kernel's body leaves at the points of the later layers, row by row: each stage's buffer holds the rows the layer's mathematics names. -/
module

public import proofs.«01_k».proof.Proof.IdealRunC
public import proofs.«01_k».proof.Proof.Loads

@[expose] public section

set_option maxRecDepth 16384

noncomputable section

namespace Cert.KernelIdeal.Rows

open Cert.KernelIdeal Cert.KernelIdeal.Gen Cert.Rows Idealize.ShloMosaic Idealize.ShloMosaic.TcCoe

variable {c : Dev nD} {i : grid0.Coords} {arg2 : Memref sig .tc .vmem S77x8x768 .f32} {harg2 : arg2.IsWhole} {arg3 : Memref sig .tc .vmem S1x77x8x768 .bf16} {harg3 : arg3.IsWhole} {arg4 : Memref sig .tc .vmem S12x768 .f32} {harg4 : arg4.IsWhole} {arg5 : Memref sig .tc .vmem S12x768 .f32} {harg5 : arg5.IsWhole} {arg6 : Memref sig .tc .vmem S12x768 .f32} {harg6 : arg6.IsWhole} {arg7 : Memref sig .tc .vmem S12x768 .f32} {harg7 : arg7.IsWhole} {arg8 : Memref sig .tc .vmem S1x768x2304 .i8} {harg8 : arg8.IsWhole} {arg9 : Memref sig .tc .vmem S12x2304 .f32} {harg9 : arg9.IsWhole} {arg10 : Memref sig .tc .vmem S12x2304 .f32} {harg10 : arg10.IsWhole} {arg11 : Memref sig .tc .vmem S1x768x768 .i8} {harg11 : arg11.IsWhole} {arg12 : Memref sig .tc .vmem S12x768 .f32} {harg12 : arg12.IsWhole} {arg13 : Memref sig .tc .vmem S12x768 .f32} {harg13 : arg13.IsWhole} {arg14 : Memref sig .tc .vmem S1x768x3072 .i8} {harg14 : arg14.IsWhole} {arg15 : Memref sig .tc .vmem S12x3072 .f32} {harg15 : arg15.IsWhole} {arg16 : Memref sig .tc .vmem S12x3072 .f32} {harg16 : arg16.IsWhole} {arg17 : Memref sig .tc .vmem S1x3072x768 .i8} {harg17 : arg17.IsWhole} {arg18 : Memref sig .tc .vmem S12x768 .f32} {harg18 : arg18.IsWhole} {arg19 : Memref sig .tc .vmem S12x768 .f32} {harg19 : arg19.IsWhole} {arg20 : Memref sig .tc .vmem S1x77x8x768 .f32} {harg20 : arg20.IsWhole} {arg21 : Memref sig .tc .vmem S1x77x8x768 .bf16} {harg21 : arg21.IsWhole} {arg22 : Memref sig .tc .vmem S4x616x768 .f32} {harg22 : arg22.IsWhole} {arg23 : Memref sig .tc .vmem S624x768 .bf16} {harg23 : arg23.IsWhole} {arg24 : Memref sig .tc .vmem S624x3072 .bf16} {harg24 : arg24.IsWhole}
  {x0 : Vec Ideal S77x8x768 .f32} {x1 : Vec Ideal S1x77x8x768 .bf16} {x2 : Vec Ideal S12x768 .f32} {x3 : Vec Ideal S12x768 .f32} {x4 : Vec Ideal S12x768 .f32} {x5 : Vec Ideal S12x768 .f32} {x6 : Vec Ideal S1x768x2304 .i8} {x7 : Vec Ideal S12x2304 .f32} {x8 : Vec Ideal S12x2304 .f32} {x9 : Vec Ideal S1x768x768 .i8} {x10 : Vec Ideal S12x768 .f32} {x11 : Vec Ideal S12x768 .f32} {x12 : Vec Ideal S1x768x3072 .i8} {x13 : Vec Ideal S12x3072 .f32} {x14 : Vec Ideal S12x3072 .f32} {x15 : Vec Ideal S1x3072x768 .i8} {x16 : Vec Ideal S12x768 .f32} {x17 : Vec Ideal S12x768 .f32} {xs0 : Vec Ideal S4x616x768 .f32} {xs1 : Vec Ideal S624x768 .bf16} {xs2 : Vec Ideal S624x3072 .bf16}
  {hc0 : ¬cond0_0 i} {hc1 : ¬cond0_1 i}
  {P : Layer} {X At M : Fin 616 → Fin 768 → EReal}

/-- The tile as the point before left it. -/
theorem C_tile (hX : ∀ r d, xs0 (ix3 (i 1) r d) = X r d) : TileIs arg22.view (harg22.unread xs0) (i 1) X := fun r d => by
  rw [harg22.read_unread]
  exact hX r d

/-- The rows normed for the keys. -/
theorem C_ln1 (hP : Holds P (i 0) x2 x3 x4 x5 x6 x7 x8 x9 x10 x11 x12 x13 x14 x15 x16 x17)
    (hT : TileIs arg22.view (harg22.unread xs0) (i 1) X) :
    ∀ g, RowsIs arg23.view (arg23.view.writes (Elt Ideal) g (kernelRun0_C.sl.HS1_39 (F := Ideal) c i arg4 harg4 arg5 harg5 arg22 harg22 x2 x3 xs0)) 616 (fun r => ln P.g1 P.b1 (X r)) := by
  intro g
  unfold kernelRun0_C.sl.HS1_39
  refine RowsIs.store (n := 608) (k := 8) ?_ _ (piece8 rfl (load_row harg4 (k0_off2_eq i) _ rfl hP.g1) (load_row harg5 (k0_off2_eq i) _ rfl hP.b1) (hT.load_rows (k0_off41_eq i) _))
  refine RowsIs.store (n := 592) (k := 16) ?_ _ (piece16 (ln16_73 _ _ _) (load_row harg4 (k0_off2_eq i) _ rfl hP.g1) (load_row harg5 (k0_off2_eq i) _ rfl hP.b1) (hT.load_rows (k0_off40_eq i) _))
  refine RowsIs.store (n := 576) (k := 16) ?_ _ (piece16 (ln16_72 _ _ _) (load_row harg4 (k0_off2_eq i) _ rfl hP.g1) (load_row harg5 (k0_off2_eq i) _ rfl hP.b1) (hT.load_rows (k0_off39_eq i) _))
  refine RowsIs.store (n := 560) (k := 16) ?_ _ (piece16 (ln16_69 _ _ _) (load_row harg4 (k0_off2_eq i) _ rfl hP.g1) (load_row harg5 (k0_off2_eq i) _ rfl hP.b1) (hT.load_rows (k0_off38_eq i) _))
  refine RowsIs.store (n := 544) (k := 16) ?_ _ (piece16 (ln16_68 _ _ _) (load_row harg4 (k0_off2_eq i) _ rfl hP.g1) (load_row harg5 (k0_off2_eq i) _ rfl hP.b1) (hT.load_rows (k0_off37_eq i) _))
  refine RowsIs.store (n := 528) (k := 16) ?_ _ (piece16 (ln16_67 _ _ _) (load_row harg4 (k0_off2_eq i) _ rfl hP.g1) (load_row harg5 (k0_off2_eq i) _ rfl hP.b1) (hT.load_rows (k0_off36_eq i) _))
  refine RowsIs.store (n := 512) (k := 16) ?_ _ (piece16 (ln16_64 _ _ _) (load_row harg4 (k0_off2_eq i) _ rfl hP.g1) (load_row harg5 (k0_off2_eq i) _ rfl hP.b1) (hT.load_rows (k0_off35_eq i) _))
  refine RowsIs.store (n := 496) (k := 16) ?_ _ (piece16 (ln16_63 _ _ _) (load_row harg4 (k0_off2_eq i) _ rfl hP.g1) (load_row harg5 (k0_off2_eq i) _ rfl hP.b1) (hT.load_rows (k0_off34_eq i) _))
  refine RowsIs.store (n := 480) (k := 16) ?_ _ (piece16 (ln16_61 _ _ _) (load_row harg4 (k0_off2_eq i) _ rfl hP.g1) (load_row harg5 (k0_off2_eq i) _ rfl hP.b1) (hT.load_rows (k0_off33_eq i) _))
  refine RowsIs.store (n := 464) (k := 16) ?_ _ (piece16 (ln16_58 _ _ _) (load_row harg4 (k0_off2_eq i) _ rfl hP.g1) (load_row harg5 (k0_off2_eq i) _ rfl hP.b1) (hT.load_rows (k0_off32_eq i) _))
  refine RowsIs.store (n := 448) (k := 16) ?_ _ (piece16 (ln16_57 _ _ _) (load_row harg4 (k0_off2_eq i) _ rfl hP.g1) (load_row harg5 (k0_off2_eq i) _ rfl hP.b1) (hT.load_rows (k0_off31_eq i) _))
  refine RowsIs.store (n := 432) (k := 16) ?_ _ (piece16 (ln16_54 _ _ _) (load_row harg4 (k0_off2_eq i) _ rfl hP.g1) (load_row harg5 (k0_off2_eq i) _ rfl hP.b1) (hT.load_rows (k0_off30_eq i) _))
  refine RowsIs.store (n := 416) (k := 16) ?_ _ (piece16 (ln16_53 _ _ _) (load_row harg4 (k0_off2_eq i) _ rfl hP.g1) (load_row harg5 (k0_off2_eq i) _ rfl hP.b1) (hT.load_rows (k0_off29_eq i) _))
  refine RowsIs.store (n := 400) (k := 16) ?_ _ (piece16 (ln16_51 _ _ _) (load_row harg4 (k0_off2_eq i) _ rfl hP.g1) (load_row harg5 (k0_off2_eq i) _ rfl hP.b1) (hT.load_rows (k0_off28_eq i) _))
  refine RowsIs.store (n := 384) (k := 16) ?_ _ (piece16 (ln16_48 _ _ _) (load_row harg4 (k0_off2_eq i) _ rfl hP.g1) (load_row harg5 (k0_off2_eq i) _ rfl hP.b1) (hT.load_rows (k0_off27_eq i) _))
  refine RowsIs.store (n := 368) (k := 16) ?_ _ (piece16 (ln16_47 _ _ _) (load_row harg4 (k0_off2_eq i) _ rfl hP.g1) (load_row harg5 (k0_off2_eq i) _ rfl hP.b1) (hT.load_rows (k0_off26_eq i) _))
  refine RowsIs.store (n := 352) (k := 16) ?_ _ (piece16 (ln16_45 _ _ _) (load_row harg4 (k0_off2_eq i) _ rfl hP.g1) (load_row harg5 (k0_off2_eq i) _ rfl hP.b1) (hT.load_rows (k0_off25_eq i) _))
  refine RowsIs.store (n := 336) (k := 16) ?_ _ (piece16 (ln16_44 _ _ _) (load_row harg4 (k0_off2_eq i) _ rfl hP.g1) (load_row harg5 (k0_off2_eq i) _ rfl hP.b1) (hT.load_rows (k0_off24_eq i) _))
  refine RowsIs.store (n := 320) (k := 16) ?_ _ (piece16 (ln16_43 _ _ _) (load_row harg4 (k0_off2_eq i) _ rfl hP.g1) (load_row harg5 (k0_off2_eq i) _ rfl hP.b1) (hT.load_rows (k0_off23_eq i) _))
  refine RowsIs.store (n := 304) (k := 16) ?_ _ (piece16 (ln16_40 _ _ _) (load_row harg4 (k0_off2_eq i) _ rfl hP.g1) (load_row harg5 (k0_off2_eq i) _ rfl hP.b1) (hT.load_rows (k0_off22_eq i) _))
  refine RowsIs.store (n := 288) (k := 16) ?_ _ (piece16 (ln16_39 _ _ _) (load_row harg4 (k0_off2_eq i) _ rfl hP.g1) (load_row harg5 (k0_off2_eq i) _ rfl hP.b1) (hT.load_rows (k0_off21_eq i) _))
  refine RowsIs.store (n := 272) (k := 16) ?_ _ (piece16 (ln16_37 _ _ _) (load_row harg4 (k0_off2_eq i) _ rfl hP.g1) (load_row harg5 (k0_off2_eq i) _ rfl hP.b1) (hT.load_rows (k0_off20_eq i) _))
  refine RowsIs.store (n := 256) (k := 16) ?_ _ (piece16 (ln16_34 _ _ _) (load_row harg4 (k0_off2_eq i) _ rfl hP.g1) (load_row harg5 (k0_off2_eq i) _ rfl hP.b1) (hT.load_rows (k0_off19_eq i) _))
  refine RowsIs.store (n := 240) (k := 16) ?_ _ (piece16 (ln16_33 _ _ _) (load_row harg4 (k0_off2_eq i) _ rfl hP.g1) (load_row harg5 (k0_off2_eq i) _ rfl hP.b1) (hT.load_rows (k0_off18_eq i) _))
  refine RowsIs.store (n := 224) (k := 16) ?_ _ (piece16 (ln16_29 _ _ _) (load_row harg4 (k0_off2_eq i) _ rfl hP.g1) (load_row harg5 (k0_off2_eq i) _ rfl hP.b1) (hT.load_rows (k0_off17_eq i) _))
  refine RowsIs.store (n := 208) (k := 16) ?_ _ (piece16 (ln16_28 _ _ _) (load_row harg4 (k0_off2_eq i) _ rfl hP.g1) (load_row harg5 (k0_off2_eq i) _ rfl hP.b1) (hT.load_rows (k0_off16_eq i) _))
  refine RowsIs.store (n := 192) (k := 16) ?_ _ (piece16 (ln16_27 _ _ _) (load_row harg4 (k0_off2_eq i) _ rfl hP.g1) (load_row harg5 (k0_off2_eq i) _ rfl hP.b1) (hT.load_rows (k0_off15_eq i) _))
  refine RowsIs.store (n := 176) (k := 16) ?_ _ (piece16 (ln16_25 _ _ _) (load_row harg4 (k0_off2_eq i) _ rfl hP.g1) (load_row harg5 (k0_off2_eq i) _ rfl hP.b1) (hT.load_rows (k0_off14_eq i) _))
  refine RowsIs.store (n := 160) (k := 16) ?_ _ (piece16 (ln16_24 _ _ _) (load_row harg4 (k0_off2_eq i) _ rfl hP.g1) (load_row harg5 (k0_off2_eq i) _ rfl hP.b1) (hT.load_rows (k0_off13_eq i) _))
  refine RowsIs.store (n := 144) (k := 16) ?_ _ (piece16 (ln16_21 _ _ _) (load_row harg4 (k0_off2_eq i) _ rfl hP.g1) (load_row harg5 (k0_off2_eq i) _ rfl hP.b1) (hT.load_rows (k0_off12_eq i) _))
  refine RowsIs.store (n := 128) (k := 16) ?_ _ (piece16 (ln16_20 _ _ _) (load_row harg4 (k0_off2_eq i) _ rfl hP.g1) (load_row harg5 (k0_off2_eq i) _ rfl hP.b1) (hT.load_rows (k0_off11_eq i) _))
  refine RowsIs.store (n := 112) (k := 16) ?_ _ (piece16 (ln16_19 _ _ _) (load_row harg4 (k0_off2_eq i) _ rfl hP.g1) (load_row harg5 (k0_off2_eq i) _ rfl hP.b1) (hT.load_rows (k0_off10_eq i) _))
  refine RowsIs.store (n := 96) (k := 16) ?_ _ (piece16 (ln16_16 _ _ _) (load_row harg4 (k0_off2_eq i) _ rfl hP.g1) (load_row harg5 (k0_off2_eq i) _ rfl hP.b1) (hT.load_rows (k0_off9_eq i) _))
  refine RowsIs.store (n := 80) (k := 16) ?_ _ (piece16 (ln16_15 _ _ _) (load_row harg4 (k0_off2_eq i) _ rfl hP.g1) (load_row harg5 (k0_off2_eq i) _ rfl hP.b1) (hT.load_rows (k0_off8_eq i) _))
  refine RowsIs.store (n := 64) (k := 16) ?_ _ (piece16 (ln16_13 _ _ _) (load_row harg4 (k0_off2_eq i) _ rfl hP.g1) (load_row harg5 (k0_off2_eq i) _ rfl hP.b1) (hT.load_rows (k0_off7_eq i) _))
  refine RowsIs.store (n := 48) (k := 16) ?_ _ (piece16 (ln16_10 _ _ _) (load_row harg4 (k0_off2_eq i) _ rfl hP.g1) (load_row harg5 (k0_off2_eq i) _ rfl hP.b1) (hT.load_rows (k0_off6_eq i) _))
  refine RowsIs.store (n := 32) (k := 16) ?_ _ (piece16 (ln16_9 _ _ _) (load_row harg4 (k0_off2_eq i) _ rfl hP.g1) (load_row harg5 (k0_off2_eq i) _ rfl hP.b1) (hT.load_rows (k0_off5_eq i) _))
  refine RowsIs.store (n := 16) (k := 16) ?_ _ (piece16 rfl (load_row harg4 (k0_off2_eq i) _ rfl hP.g1) (load_row harg5 (k0_off2_eq i) _ rfl hP.b1) (hT.load_rows (k0_off4_eq i) _))
  refine RowsIs.store (n := 0) (k := 16) ?_ _ (piece16 (ln16_5 _ _ _) (load_row harg4 (k0_off2_eq i) _ rfl hP.g1) (load_row harg5 (k0_off2_eq i) _ rfl hP.b1) (hT.load_rows (k0_off3_eq i) _))
  exact RowsIs.zero

/-- The attention's rows. -/
theorem C_attn (hA : ∀ (r : Fin 616) d, x1 (ix4 0 ⟨r.val / 8, by omega⟩ ⟨r.val % 8, by omega⟩ d) = At r d) :
    ∀ g, RowsIs arg23.view (arg23.view.writes (Elt Ideal) g (kernelRun0_C.sl.HS1_40 (F := Ideal) c i arg3 harg3 arg4 harg4 arg5 harg5 arg22 harg22 x1 x2 x3 xs0)) 616 At := by
  intro g
  unfold kernelRun0_C.sl.HS1_40
  refine RowsIs.store (n := 0) (k := 616) RowsIs.zero _ fun r d hr => ?_
  rw [attn_rows, load_all4, hA]
  exact congrArg (fun r => At r d) (Fin.ext (Nat.zero_add _).symm)

/-- The rows normed for the feed-forward block. -/
theorem C_ln2 (hP : Holds P (i 0) x2 x3 x4 x5 x6 x7 x8 x9 x10 x11 x12 x13 x14 x15 x16 x17)
    (hT : ∀ f, TileIs arg22.view (arg22.view.writes (Elt Ideal) f (kernelRun0_C.sl.HS0_3 (F := Ideal) c i arg3 harg3 arg4 harg4 arg5 harg5 arg11 harg11 arg12 harg12 arg13 harg13 arg22 harg22 arg23 harg23 x1 x2 x3 x9 x10 x11 xs0 xs1)) (i 1) M) :
    ∀ g, RowsIs arg23.view (arg23.view.writes (Elt Ideal) g (kernelRun0_C.sl.HS1_79 (F := Ideal) c i arg3 harg3 arg4 harg4 arg5 harg5 arg6 harg6 arg7 harg7 arg11 harg11 arg12 harg12 arg13 harg13 arg22 harg22 arg23 harg23 x1 x2 x3 x4 x5 x9 x10 x11 xs0 xs1)) 616 (fun r => ln P.g2 P.b2 (M r)) := by
  intro g
  unfold kernelRun0_C.sl.HS1_79
  refine RowsIs.store (n := 608) (k := 8) ?_ _ (piece8 (ln8_160 _ _ _) (load_row harg6 (k0_off2_eq i) _ rfl hP.g2) (load_row harg7 (k0_off2_eq i) _ rfl hP.b2) ((hT _).load_rows (k0_off41_eq i) _))
  refine RowsIs.store (n := 592) (k := 16) ?_ _ (piece16 (ln16_158 _ _ _) (load_row harg6 (k0_off2_eq i) _ rfl hP.g2) (load_row harg7 (k0_off2_eq i) _ rfl hP.b2) ((hT _).load_rows (k0_off40_eq i) _))
  refine RowsIs.store (n := 576) (k := 16) ?_ _ (piece16 (ln16_156 _ _ _) (load_row harg6 (k0_off2_eq i) _ rfl hP.g2) (load_row harg7 (k0_off2_eq i) _ rfl hP.b2) ((hT _).load_rows (k0_off39_eq i) _))
  refine RowsIs.store (n := 560) (k := 16) ?_ _ (piece16 (ln16_155 _ _ _) (load_row harg6 (k0_off2_eq i) _ rfl hP.g2) (load_row harg7 (k0_off2_eq i) _ rfl hP.b2) ((hT _).load_rows (k0_off38_eq i) _))
  refine RowsIs.store (n := 544) (k := 16) ?_ _ (piece16 (ln16_151 _ _ _) (load_row harg6 (k0_off2_eq i) _ rfl hP.g2) (load_row harg7 (k0_off2_eq i) _ rfl hP.b2) ((hT _).load_rows (k0_off37_eq i) _))
  refine RowsIs.store (n := 528) (k := 16) ?_ _ (piece16 (ln16_150 _ _ _) (load_row harg6 (k0_off2_eq i) _ rfl hP.g2) (load_row harg7 (k0_off2_eq i) _ rfl hP.b2) ((hT _).load_rows (k0_off36_eq i) _))
  refine RowsIs.store (n := 512) (k := 16) ?_ _ (piece16 (ln16_148 _ _ _) (load_row harg6 (k0_off2_eq i) _ rfl hP.g2) (load_row harg7 (k0_off2_eq i) _ rfl hP.b2) ((hT _).load_rows (k0_off35_eq i) _))
  refine RowsIs.store (n := 496) (k := 16) ?_ _ (piece16 (ln16_144 _ _ _) (load_row harg6 (k0_off2_eq i) _ rfl hP.g2) (load_row harg7 (k0_off2_eq i) _ rfl hP.b2) ((hT _).load_rows (k0_off34_eq i) _))
  refine RowsIs.store (n := 480) (k := 16) ?_ _ (piece16 (ln16_143 _ _ _) (load_row harg6 (k0_off2_eq i) _ rfl hP.g2) (load_row harg7 (k0_off2_eq i) _ rfl hP.b2) ((hT _).load_rows (k0_off33_eq i) _))
  refine RowsIs.store (n := 464) (k := 16) ?_ _ (piece16 (ln16_140 _ _ _) (load_row harg6 (k0_off2_eq i) _ rfl hP.g2) (load_row harg7 (k0_off2_eq i) _ rfl hP.b2) ((hT _).load_rows (k0_off32_eq i) _))
  refine RowsIs.store (n := 448) (k := 16) ?_ _ (piece16 (ln16_139 _ _ _) (load_row harg6 (k0_off2_eq i) _ rfl hP.g2) (load_row harg7 (k0_off2_eq i) _ rfl hP.b2) ((hT _).load_rows (k0_off31_eq i) _))
  refine RowsIs.store (n := 432) (k := 16) ?_ _ (piece16 (ln16_138 _ _ _) (load_row harg6 (k0_off2_eq i) _ rfl hP.g2) (load_row harg7 (k0_off2_eq i) _ rfl hP.b2) ((hT _).load_rows (k0_off30_eq i) _))
  refine RowsIs.store (n := 416) (k := 16) ?_ _ (piece16 (ln16_135 _ _ _) (load_row harg6 (k0_off2_eq i) _ rfl hP.g2) (load_row harg7 (k0_off2_eq i) _ rfl hP.b2) ((hT _).load_rows (k0_off29_eq i) _))
  refine RowsIs.store (n := 400) (k := 16) ?_ _ (piece16 (ln16_134 _ _ _) (load_row harg6 (k0_off2_eq i) _ rfl hP.g2) (load_row harg7 (k0_off2_eq i) _ rfl hP.b2) ((hT _).load_rows (k0_off28_eq i) _))
  refine RowsIs.store (n := 384) (k := 16) ?_ _ (piece16 (ln16_131 _ _ _) (load_row harg6 (k0_off2_eq i) _ rfl hP.g2) (load_row harg7 (k0_off2_eq i) _ rfl hP.b2) ((hT _).load_rows (k0_off27_eq i) _))
  refine RowsIs.store (n := 368) (k := 16) ?_ _ (piece16 (ln16_129 _ _ _) (load_row harg6 (k0_off2_eq i) _ rfl hP.g2) (load_row harg7 (k0_off2_eq i) _ rfl hP.b2) ((hT _).load_rows (k0_off26_eq i) _))
  refine RowsIs.store (n := 352) (k := 16) ?_ _ (piece16 (ln16_128 _ _ _) (load_row harg6 (k0_off2_eq i) _ rfl hP.g2) (load_row harg7 (k0_off2_eq i) _ rfl hP.b2) ((hT _).load_rows (k0_off25_eq i) _))
  refine RowsIs.store (n := 336) (k := 16) ?_ _ (piece16 (ln16_125 _ _ _) (load_row harg6 (k0_off2_eq i) _ rfl hP.g2) (load_row harg7 (k0_off2_eq i) _ rfl hP.b2) ((hT _).load_rows (k0_off24_eq i) _))
  refine RowsIs.store (n := 320) (k := 16) ?_ _ (piece16 (ln16_124 _ _ _) (load_row harg6 (k0_off2_eq i) _ rfl hP.g2) (load_row harg7 (k0_off2_eq i) _ rfl hP.b2) ((hT _).load_rows (k0_off23_eq i) _))
  unfold kernelRun0_C.sl.HS1_60
  refine RowsIs.store (n := 304) (k := 16) ?_ _ (piece16 (ln16_122 _ _ _) (load_row harg6 (k0_off2_eq i) _ rfl hP.g2) (load_row harg7 (k0_off2_eq i) _ rfl hP.b2) ((hT _).load_rows (k0_off22_eq i) _))
  refine RowsIs.store (n := 288) (k := 16) ?_ _ (piece16 (ln16_119 _ _ _) (load_row harg6 (k0_off2_eq i) _ rfl hP.g2) (load_row harg7 (k0_off2_eq i) _ rfl hP.b2) ((hT _).load_rows (k0_off21_eq i) _))
  refine RowsIs.store (n := 272) (k := 16) ?_ _ (piece16 (ln16_118 _ _ _) (load_row harg6 (k0_off2_eq i) _ rfl hP.g2) (load_row harg7 (k0_off2_eq i) _ rfl hP.b2) ((hT _).load_rows (k0_off20_eq i) _))
  refine RowsIs.store (n := 256) (k := 16) ?_ _ (piece16 (ln16_115 _ _ _) (load_row harg6 (k0_off2_eq i) _ rfl hP.g2) (load_row harg7 (k0_off2_eq i) _ rfl hP.b2) ((hT _).load_rows (k0_off19_eq i) _))
  refine RowsIs.store (n := 240) (k := 16) ?_ _ (piece16 (ln16_114 _ _ _) (load_row harg6 (k0_off2_eq i) _ rfl hP.g2) (load_row harg7 (k0_off2_eq i) _ rfl hP.b2) ((hT _).load_rows (k0_off18_eq i) _))
  refine RowsIs.store (n := 224) (k := 16) ?_ _ (piece16 (ln16_113 _ _ _) (load_row harg6 (k0_off2_eq i) _ rfl hP.g2) (load_row harg7 (k0_off2_eq i) _ rfl hP.b2) ((hT _).load_rows (k0_off17_eq i) _))
  refine RowsIs.store (n := 208) (k := 16) ?_ _ (piece16 (ln16_110 _ _ _) (load_row harg6 (k0_off2_eq i) _ rfl hP.g2) (load_row harg7 (k0_off2_eq i) _ rfl hP.b2) ((hT _).load_rows (k0_off16_eq i) _))
  refine RowsIs.store (n := 192) (k := 16) ?_ _ (piece16 (ln16_109 _ _ _) (load_row harg6 (k0_off2_eq i) _ rfl hP.g2) (load_row harg7 (k0_off2_eq i) _ rfl hP.b2) ((hT _).load_rows (k0_off15_eq i) _))
  refine RowsIs.store (n := 176) (k := 16) ?_ _ (piece16 (ln16_107 _ _ _) (load_row harg6 (k0_off2_eq i) _ rfl hP.g2) (load_row harg7 (k0_off2_eq i) _ rfl hP.b2) ((hT _).load_rows (k0_off14_eq i) _))
  refine RowsIs.store (n := 160) (k := 16) ?_ _ (piece16 (ln16_104 _ _ _) (load_row harg6 (k0_off2_eq i) _ rfl hP.g2) (load_row harg7 (k0_off2_eq i) _ rfl hP.b2) ((hT _).load_rows (k0_off13_eq i) _))
  refine RowsIs.store (n := 144) (k := 16) ?_ _ (piece16 (ln16_103 _ _ _) (load_row harg6 (k0_off2_eq i) _ rfl hP.g2) (load_row harg7 (k0_off2_eq i) _ rfl hP.b2) ((hT _).load_rows (k0_off12_eq i) _))
  refine RowsIs.store (n := 128) (k := 16) ?_ _ (piece16 (ln16_100 _ _ _) (load_row harg6 (k0_off2_eq i) _ rfl hP.g2) (load_row harg7 (k0_off2_eq i) _ rfl hP.b2) ((hT _).load_rows (k0_off11_eq i) _))
  refine RowsIs.store (n := 112) (k := 16) ?_ _ (piece16 (ln16_99 _ _ _) (load_row harg6 (k0_off2_eq i) _ rfl hP.g2) (load_row harg7 (k0_off2_eq i) _ rfl hP.b2) ((hT _).load_rows (k0_off10_eq i) _))
  refine RowsIs.store (n := 96) (k := 16) ?_ _ (piece16 (ln16_97 _ _ _) (load_row harg6 (k0_off2_eq i) _ rfl hP.g2) (load_row harg7 (k0_off2_eq i) _ rfl hP.b2) ((hT _).load_rows (k0_off9_eq i) _))
  refine RowsIs.store (n := 80) (k := 16) ?_ _ (piece16 (ln16_94 _ _ _) (load_row harg6 (k0_off2_eq i) _ rfl hP.g2) (load_row harg7 (k0_off2_eq i) _ rfl hP.b2) ((hT _).load_rows (k0_off8_eq i) _))
  refine RowsIs.store (n := 64) (k := 16) ?_ _ (piece16 (ln16_93 _ _ _) (load_row harg6 (k0_off2_eq i) _ rfl hP.g2) (load_row harg7 (k0_off2_eq i) _ rfl hP.b2) ((hT _).load_rows (k0_off7_eq i) _))
  refine RowsIs.store (n := 48) (k := 16) ?_ _ (piece16 (ln16_91 _ _ _) (load_row harg6 (k0_off2_eq i) _ rfl hP.g2) (load_row harg7 (k0_off2_eq i) _ rfl hP.b2) ((hT _).load_rows (k0_off6_eq i) _))
  refine RowsIs.store (n := 32) (k := 16) ?_ _ (piece16 (ln16_90 _ _ _) (load_row harg6 (k0_off2_eq i) _ rfl hP.g2) (load_row harg7 (k0_off2_eq i) _ rfl hP.b2) ((hT _).load_rows (k0_off5_eq i) _))
  refine RowsIs.store (n := 16) (k := 16) ?_ _ (piece16 (ln16_89 _ _ _) (load_row harg6 (k0_off2_eq i) _ rfl hP.g2) (load_row harg7 (k0_off2_eq i) _ rfl hP.b2) ((hT _).load_rows (k0_off4_eq i) _))
  refine RowsIs.store (n := 0) (k := 16) ?_ _ (piece16 (ln16_86 _ _ _) (load_row harg6 (k0_off2_eq i) _ rfl hP.g2) (load_row harg7 (k0_off2_eq i) _ rfl hP.b2) ((hT _).load_rows (k0_off3_eq i) _))
  exact RowsIs.zero

/-- The tile after the attention's projection. -/
theorem C_mid (hP : Holds P (i 0) x2 x3 x4 x5 x6 x7 x8 x9 x10 x11 x12 x13 x14 x15 x16 x17)
    (hT : TileIs arg22.view (harg22.unread xs0) (i 1) X)
    (hR : ∀ g, RowsIs arg23.view (arg23.view.writes (Elt Ideal) g (kernelRun0_C.sl.HS1_40 (F := Ideal) c i arg3 harg3 arg4 harg4 arg5 harg5 arg22 harg22 x1 x2 x3 xs0)) 616 At) :
    ∀ f, TileIs arg22.view (arg22.view.writes (Elt Ideal) f (kernelRun0_C.sl.HS0_3 (F := Ideal) c i arg3 harg3 arg4 harg4 arg5 harg5 arg11 harg11 arg12 harg12 arg13 harg13 arg22 harg22 arg23 harg23 x1 x2 x3 x9 x10 x11 xs0 xs1)) (i 1) (fun r => midRow P (X r) (At r)) := by
  intro f
  rw [← cols_all (fun r d => arg22.view.read (Elt Ideal) (arg22.view.writes (Elt Ideal) f []) (ix3 (i 1) r d)) (fun r => midRow P (X r) (At r))]
  unfold kernelRun0_C.sl.HS0_3
  refine TileIs.store_cols (n := 256) (o := 512) ?_ (k0_off49_eq i) _ ?_
  rotate_left
  · intro r j hd
    refine ((congrFun (mid_chunk_85 _ _ _ _ _) _).trans (mid_chunk _ _ _ _ _ r j)).trans ?_
    exact congr (congrArg (fun a b : EReal => a + b) (hT.load_cols (k0_off49_eq i) _ r j (by omega))) (through_eq (fun r k => (hR _).load _ r k) (col 512 768 (by norm_num)) (fun k j => (congrArg word (load_mat harg11 _ _ k j (by omega))).trans (hP.wo k _)) (fun j => (load_vec harg12 (k0_off50_eq i) _ _ (i 0) rfl j (by omega)).trans (hP.so _)) (fun j => (load_vec harg13 (k0_off50_eq i) _ _ (i 0) rfl j (by omega)).trans (hP.bo _)) r j)
  refine TileIs.store_cols (n := 256) (o := 256) ?_ (k0_off47_eq i) _ ?_
  rotate_left
  · intro r j hd
    refine ((congrFun (mid_chunk_84 _ _ _ _ _) _).trans (mid_chunk _ _ _ _ _ r j)).trans ?_
    exact congr (congrArg (fun a b : EReal => a + b) (hT.load_cols (k0_off47_eq i) _ r j (by omega))) (through_eq (fun r k => (hR _).load _ r k) (col 256 768 (by norm_num)) (fun k j => (congrArg word (load_mat harg11 _ _ k j (by omega))).trans (hP.wo k _)) (fun j => (load_vec harg12 (k0_off48_eq i) _ _ (i 0) rfl j (by omega)).trans (hP.so _)) (fun j => (load_vec harg13 (k0_off48_eq i) _ _ (i 0) rfl j (by omega)).trans (hP.bo _)) r j)
  refine TileIs.store_cols (n := 256) (o := 0) ?_ (k0_off45_eq i) _ ?_
  rotate_left
  · intro r j hd
    refine ((mid_chunk _ _ _ _ _ r j)).trans ?_
    exact congr (congrArg (fun a b : EReal => a + b) (hT.load_cols (k0_off45_eq i) _ r j (by omega))) (through_eq (fun r k => (hR _).load _ r k) (col 0 768 (by norm_num)) (fun k j => (congrArg word (load_mat harg11 _ _ k j (by omega))).trans (hP.wo k _)) (fun j => (load_vec harg12 (k0_off46_eq i) _ _ (i 0) rfl j (by omega)).trans (hP.so _)) (fun j => (load_vec harg13 (k0_off46_eq i) _ _ (i 0) rfl j (by omega)).trans (hP.bo _)) r j)
  exact fun r d => (if_neg (Nat.not_lt_zero _)).symm

/-- The keys. -/
theorem C_keys (hP : Holds P (i 0) x2 x3 x4 x5 x6 x7 x8 x9 x10 x11 x12 x13 x14 x15 x16 x17)
    (hR : ∀ g, RowsIs arg23.view (arg23.view.writes (Elt Ideal) g (kernelRun0_C.sl.HS1_39 (F := Ideal) c i arg4 harg4 arg5 harg5 arg22 harg22 x2 x3 xs0)) 616 (fun r => ln P.g1 P.b1 (X r))) :
    ∀ g, OutIs arg21.view (arg21.view.writes (Elt Ideal) g (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.1) 768 (fun r => keyRow P (X r)) := by
  intro g
  unfold kernelRun0_C
  dsimp only
  refine OutIs.store (n := 512) (k := 256) ?_ _ fun s b j hd => ((congrFun (key_chunk_80 _ _ _ _) _).trans (key_chunk _ _ _ _ s b j)).trans ((through_eq (fun r k => (hR _).load _ r k) (col 1280 2304 (by norm_num)) (fun k j => (congrArg word (load_mat harg8 _ _ k j (by omega))).trans (hP.wqkv k _)) (fun j => (load_vec harg9 (k0_off44_eq i) _ _ (i 0) rfl j (by omega)).trans (hP.sqkv _)) (fun j => (load_vec harg10 (k0_off44_eq i) _ _ (i 0) rfl j (by omega)).trans (hP.bqkv _)) (row s b) j).trans ?_)
  rotate_left
  · exact congrArg (lin _ _ _ _) (Fin.ext (by show 1280 + j.val = 768 + (512 + j.val); omega))
  refine OutIs.store (n := 256) (k := 256) ?_ _ fun s b j hd => ((congrFun (key_chunk_78 _ _ _ _) _).trans (key_chunk _ _ _ _ s b j)).trans ((through_eq (fun r k => (hR _).load _ r k) (col 1024 2304 (by norm_num)) (fun k j => (congrArg word (load_mat harg8 _ _ k j (by omega))).trans (hP.wqkv k _)) (fun j => (load_vec harg9 (k0_off43_eq i) _ _ (i 0) rfl j (by omega)).trans (hP.sqkv _)) (fun j => (load_vec harg10 (k0_off43_eq i) _ _ (i 0) rfl j (by omega)).trans (hP.bqkv _)) (row s b) j).trans ?_)
  rotate_left
  · exact congrArg (lin _ _ _ _) (Fin.ext (by show 1024 + j.val = 768 + (256 + j.val); omega))
  refine OutIs.store (n := 0) (k := 256) ?_ _ fun s b j hd => (key_chunk _ _ _ _ s b j).trans ((through_eq (fun r k => (hR _).load _ r k) (col 768 2304 (by norm_num)) (fun k j => (congrArg word (load_mat harg8 _ _ k j (by omega))).trans (hP.wqkv k _)) (fun j => (load_vec harg9 (k0_off42_eq i) _ _ (i 0) rfl j (by omega)).trans (hP.sqkv _)) (fun j => (load_vec harg10 (k0_off42_eq i) _ _ (i 0) rfl j (by omega)).trans (hP.bqkv _)) (row s b) j).trans ?_)
  rotate_left
  · exact congrArg (lin _ _ _ _) (Fin.ext (by show 768 + j.val = 768 + (0 + j.val); omega))
  exact OutIs.zero

/-- The hidden rows of the feed-forward block. -/
theorem C_hid (hP : Holds P (i 0) x2 x3 x4 x5 x6 x7 x8 x9 x10 x11 x12 x13 x14 x15 x16 x17)
    (hR : ∀ g, RowsIs arg23.view (arg23.view.writes (Elt Ideal) g (kernelRun0_C.sl.HS1_79 (F := Ideal) c i arg3 harg3 arg4 harg4 arg5 harg5 arg6 harg6 arg7 harg7 arg11 harg11 arg12 harg12 arg13 harg13 arg22 harg22 arg23 harg23 x1 x2 x3 x4 x5 x9 x10 x11 xs0 xs1)) 616 (fun r => ln P.g2 P.b2 (M r))) :
    ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P (M r)) := by
  intro g
  unfold kernelRun0_C.sl.HS2_12
  refine ColsIs.store (n := 2816) (k := 256) ?_ _ fun r j hd => ((congrFun (hid_chunk_177 _ _ _ _) _).trans (hid_chunk _ _ _ _ r j)).trans (congrArg gate (through_eq (fun r k => (hR _).load _ r k) (col 2816 3072 (by norm_num)) (fun k j => (congrArg word (load_mat harg14 _ _ k j (by omega))).trans (hP.w1 k _)) (fun j => (load_vec harg15 (k0_off62_eq i) _ _ (i 0) rfl j (by omega)).trans (hP.s1 _)) (fun j => (load_vec harg16 (k0_off62_eq i) _ _ (i 0) rfl j (by omega)).trans (hP.bb1 _)) r j))
  refine ColsIs.store (n := 2560) (k := 256) ?_ _ fun r j hd => ((congrFun (hid_chunk_176 _ _ _ _) _).trans (hid_chunk _ _ _ _ r j)).trans (congrArg gate (through_eq (fun r k => (hR _).load _ r k) (col 2560 3072 (by norm_num)) (fun k j => (congrArg word (load_mat harg14 _ _ k j (by omega))).trans (hP.w1 k _)) (fun j => (load_vec harg15 (k0_off61_eq i) _ _ (i 0) rfl j (by omega)).trans (hP.s1 _)) (fun j => (load_vec harg16 (k0_off61_eq i) _ _ (i 0) rfl j (by omega)).trans (hP.bb1 _)) r j))
  refine ColsIs.store (n := 2304) (k := 256) ?_ _ fun r j hd => ((congrFun (hid_chunk_174 _ _ _ _) _).trans (hid_chunk _ _ _ _ r j)).trans (congrArg gate (through_eq (fun r k => (hR _).load _ r k) (col 2304 3072 (by norm_num)) (fun k j => (congrArg word (load_mat harg14 _ _ k j (by omega))).trans (hP.w1 k _)) (fun j => (load_vec harg15 (k0_off60_eq i) _ _ (i 0) rfl j (by omega)).trans (hP.s1 _)) (fun j => (load_vec harg16 (k0_off60_eq i) _ _ (i 0) rfl j (by omega)).trans (hP.bb1 _)) r j))
  refine ColsIs.store (n := 2048) (k := 256) ?_ _ fun r j hd => ((congrFun (hid_chunk_173 _ _ _ _) _).trans (hid_chunk _ _ _ _ r j)).trans (congrArg gate (through_eq (fun r k => (hR _).load _ r k) (col 2048 3072 (by norm_num)) (fun k j => (congrArg word (load_mat harg14 _ _ k j (by omega))).trans (hP.w1 k _)) (fun j => (load_vec harg15 (k0_off59_eq i) _ _ (i 0) rfl j (by omega)).trans (hP.s1 _)) (fun j => (load_vec harg16 (k0_off59_eq i) _ _ (i 0) rfl j (by omega)).trans (hP.bb1 _)) r j))
  refine ColsIs.store (n := 1792) (k := 256) ?_ _ fun r j hd => ((congrFun (hid_chunk_171 _ _ _ _) _).trans (hid_chunk _ _ _ _ r j)).trans (congrArg gate (through_eq (fun r k => (hR _).load _ r k) (col 1792 3072 (by norm_num)) (fun k j => (congrArg word (load_mat harg14 _ _ k j (by omega))).trans (hP.w1 k _)) (fun j => (load_vec harg15 (k0_off58_eq i) _ _ (i 0) rfl j (by omega)).trans (hP.s1 _)) (fun j => (load_vec harg16 (k0_off58_eq i) _ _ (i 0) rfl j (by omega)).trans (hP.bb1 _)) r j))
  refine ColsIs.store (n := 1536) (k := 256) ?_ _ fun r j hd => ((congrFun (hid_chunk_170 _ _ _ _) _).trans (hid_chunk _ _ _ _ r j)).trans (congrArg gate (through_eq (fun r k => (hR _).load _ r k) (col 1536 3072 (by norm_num)) (fun k j => (congrArg word (load_mat harg14 _ _ k j (by omega))).trans (hP.w1 k _)) (fun j => (load_vec harg15 (k0_off57_eq i) _ _ (i 0) rfl j (by omega)).trans (hP.s1 _)) (fun j => (load_vec harg16 (k0_off57_eq i) _ _ (i 0) rfl j (by omega)).trans (hP.bb1 _)) r j))
  refine ColsIs.store (n := 1280) (k := 256) ?_ _ fun r j hd => ((congrFun (hid_chunk_168 _ _ _ _) _).trans (hid_chunk _ _ _ _ r j)).trans (congrArg gate (through_eq (fun r k => (hR _).load _ r k) (col 1280 3072 (by norm_num)) (fun k j => (congrArg word (load_mat harg14 _ _ k j (by omega))).trans (hP.w1 k _)) (fun j => (load_vec harg15 (k0_off56_eq i) _ _ (i 0) rfl j (by omega)).trans (hP.s1 _)) (fun j => (load_vec harg16 (k0_off56_eq i) _ _ (i 0) rfl j (by omega)).trans (hP.bb1 _)) r j))
  refine ColsIs.store (n := 1024) (k := 256) ?_ _ fun r j hd => ((congrFun (hid_chunk_167 _ _ _ _) _).trans (hid_chunk _ _ _ _ r j)).trans (congrArg gate (through_eq (fun r k => (hR _).load _ r k) (col 1024 3072 (by norm_num)) (fun k j => (congrArg word (load_mat harg14 _ _ k j (by omega))).trans (hP.w1 k _)) (fun j => (load_vec harg15 (k0_off55_eq i) _ _ (i 0) rfl j (by omega)).trans (hP.s1 _)) (fun j => (load_vec harg16 (k0_off55_eq i) _ _ (i 0) rfl j (by omega)).trans (hP.bb1 _)) r j))
  refine ColsIs.store (n := 768) (k := 256) ?_ _ fun r j hd => ((congrFun (hid_chunk_166 _ _ _ _) _).trans (hid_chunk _ _ _ _ r j)).trans (congrArg gate (through_eq (fun r k => (hR _).load _ r k) (col 768 3072 (by norm_num)) (fun k j => (congrArg word (load_mat harg14 _ _ k j (by omega))).trans (hP.w1 k _)) (fun j => (load_vec harg15 (k0_off54_eq i) _ _ (i 0) rfl j (by omega)).trans (hP.s1 _)) (fun j => (load_vec harg16 (k0_off54_eq i) _ _ (i 0) rfl j (by omega)).trans (hP.bb1 _)) r j))
  refine ColsIs.store (n := 512) (k := 256) ?_ _ fun r j hd => ((congrFun (hid_chunk_164 _ _ _ _) _).trans (hid_chunk _ _ _ _ r j)).trans (congrArg gate (through_eq (fun r k => (hR _).load _ r k) (col 512 3072 (by norm_num)) (fun k j => (congrArg word (load_mat harg14 _ _ k j (by omega))).trans (hP.w1 k _)) (fun j => (load_vec harg15 (k0_off53_eq i) _ _ (i 0) rfl j (by omega)).trans (hP.s1 _)) (fun j => (load_vec harg16 (k0_off53_eq i) _ _ (i 0) rfl j (by omega)).trans (hP.bb1 _)) r j))
  refine ColsIs.store (n := 256) (k := 256) ?_ _ fun r j hd => ((congrFun (hid_chunk_163 _ _ _ _) _).trans (hid_chunk _ _ _ _ r j)).trans (congrArg gate (through_eq (fun r k => (hR _).load _ r k) (col 256 3072 (by norm_num)) (fun k j => (congrArg word (load_mat harg14 _ _ k j (by omega))).trans (hP.w1 k _)) (fun j => (load_vec harg15 (k0_off52_eq i) _ _ (i 0) rfl j (by omega)).trans (hP.s1 _)) (fun j => (load_vec harg16 (k0_off52_eq i) _ _ (i 0) rfl j (by omega)).trans (hP.bb1 _)) r j))
  refine ColsIs.store (n := 0) (k := 256) ?_ _ fun r j hd => (hid_chunk _ _ _ _ r j).trans (congrArg gate (through_eq (fun r k => (hR _).load _ r k) (col 0 3072 (by norm_num)) (fun k j => (congrArg word (load_mat harg14 _ _ k j (by omega))).trans (hP.w1 k _)) (fun j => (load_vec harg15 (k0_off51_eq i) _ _ (i 0) rfl j (by omega)).trans (hP.s1 _)) (fun j => (load_vec harg16 (k0_off51_eq i) _ _ (i 0) rfl j (by omega)).trans (hP.bb1 _)) r j))
  exact ColsIs.zero

/-- The tile after chunk 0 of the feed-forward block. -/
theorem C_out0 (hP : Holds P (i 0) x2 x3 x4 x5 x6 x7 x8 x9 x10 x11 x12 x13 x14 x15 x16 x17)
    (hT : ∀ f, TileIs arg22.view (arg22.view.writes (Elt Ideal) f (kernelRun0_C.sl.HS0_3 (F := Ideal) c i arg3 harg3 arg4 harg4 arg5 harg5 arg11 harg11 arg12 harg12 arg13 harg13 arg22 harg22 arg23 harg23 x1 x2 x3 x9 x10 x11 xs0 xs1)) (i 1) M)
    (hH : ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P (M r))) :
    ∀ f, TileIs arg22.view (arg22.view.writes (Elt Ideal) f (kernelRun0_C.sl.HS0_4 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 256 M (fun r => outRow P (M r))) := by
  intro f
  unfold kernelRun0_C.sl.HS0_4
  refine TileIs.store_cols (n := 256) (o := 0) ?_ (k0_off45_eq i) _ ?_
  rotate_left
  · intro r j hd
    refine ((out_chunk _ _ _ _ _ r j)).trans ?_
    exact congr (congrArg (fun a b : EReal => a + b) ((hT _).load_cols (k0_off45_eq i) _ r j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) r j)
  rw [cols_zero]
  exact hT f

/-- The tile after chunk 1 of the feed-forward block. -/
theorem C_out1 (hP : Holds P (i 0) x2 x3 x4 x5 x6 x7 x8 x9 x10 x11 x12 x13 x14 x15 x16 x17)
    (hT : ∀ f, TileIs arg22.view (arg22.view.writes (Elt Ideal) f (kernelRun0_C.sl.HS0_4 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 256 M (fun r => outRow P (M r))))
    (hH : ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P (M r))) :
    ∀ f, TileIs arg22.view (arg22.view.writes (Elt Ideal) f (kernelRun0_C.sl.HS0_5 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 512 M (fun r => outRow P (M r))) := by
  intro f
  unfold kernelRun0_C.sl.HS0_5
  refine TileIs.store_cols (n := 256) (o := 256) ?_ (k0_off47_eq i) _ ?_
  rotate_left
  · intro r j hd
    refine ((congrFun (out_chunk_184 _ _ _ _ _) _).trans (out_chunk _ _ _ _ _ r j)).trans ?_
    exact congr (congrArg (fun a b : EReal => a + b) (((hT _).load_cols (k0_off47_eq i) _ r j (by omega)).trans (cols_ge _ _ r _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) r j)
  exact hT f

/-- The tile after chunk 2 of the feed-forward block. -/
theorem C_out2 (hP : Holds P (i 0) x2 x3 x4 x5 x6 x7 x8 x9 x10 x11 x12 x13 x14 x15 x16 x17)
    (hT : ∀ f, TileIs arg22.view (arg22.view.writes (Elt Ideal) f (kernelRun0_C.sl.HS0_5 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 512 M (fun r => outRow P (M r))))
    (hH : ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P (M r))) :
    ∀ f, TileIs arg22.view (arg22.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) (i 1) (fun r => outRow P (M r)) := by
  intro f
  rw [← cols_all M (fun r => outRow P (M r))]
  unfold kernelRun0_C
  dsimp only
  refine TileIs.store_cols (n := 256) (o := 512) ?_ (k0_off49_eq i) _ ?_
  rotate_left
  · intro r j hd
    refine ((congrFun (out_chunk_187 _ _ _ _ _) _).trans (out_chunk _ _ _ _ _ r j)).trans ?_
    exact congr (congrArg (fun a b : EReal => a + b) (((hT _).load_cols (k0_off49_eq i) _ r j (by omega)).trans (cols_ge _ _ r _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) r j)
  exact hT f

/-- The stream as put out. -/
theorem C_stream (hP : Holds P (i 0) x2 x3 x4 x5 x6 x7 x8 x9 x10 x11 x12 x13 x14 x15 x16 x17)
    (hT0 : ∀ f, TileIs arg22.view (arg22.view.writes (Elt Ideal) f (kernelRun0_C.sl.HS0_3 (F := Ideal) c i arg3 harg3 arg4 harg4 arg5 harg5 arg11 harg11 arg12 harg12 arg13 harg13 arg22 harg22 arg23 harg23 x1 x2 x3 x9 x10 x11 xs0 xs1)) (i 1) M)
    (hT1 : ∀ f, TileIs arg22.view (arg22.view.writes (Elt Ideal) f (kernelRun0_C.sl.HS0_4 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 256 M (fun r => outRow P (M r))))
    (hT2 : ∀ f, TileIs arg22.view (arg22.view.writes (Elt Ideal) f (kernelRun0_C.sl.HS0_5 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 512 M (fun r => outRow P (M r))))
    (hH : ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P (M r))) :
    ∀ g, OutIs arg20.view (arg20.view.writes (Elt Ideal) g (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).1) 768 (fun r => outRow P (M r)) := by
  intro g
  unfold kernelRun0_C
  dsimp only
  refine OutIs.store (n := 512) (k := 256) ?_ _ fun s b j hd => ((congrFun (st_chunk_1 _ _ _ _ _) _).trans (st_chunk _ _ _ _ _ s b j)).trans (congr (congrArg (fun a b : EReal => a + b) (((hT2 _).load_cols (k0_off49_eq i) _ (row s b) j (by omega)).trans (cols_ge _ _ (row s b) _ (by show _ ≤ 512 + j.val; omega)))) (through_eq (fun r k => (hH _).rows.load _ r k) (col 512 768 (by norm_num)) (fun k j => (congrArg word (load_mat harg17 _ _ k j (by omega))).trans (hP.w2 k _)) (fun j => (load_vec harg18 (k0_off50_eq i) _ _ (i 0) rfl j (by omega)).trans (hP.s2 _)) (fun j => (load_vec harg19 (k0_off50_eq i) _ _ (i 0) rfl j (by omega)).trans (hP.bb2 _)) (row s b) j))
  refine OutIs.store (n := 256) (k := 256) ?_ _ fun s b j hd => ((congrFun (st_chunk_185 _ _ _ _ _) _).trans (st_chunk _ _ _ _ _ s b j)).trans (congr (congrArg (fun a b : EReal => a + b) (((hT1 _).load_cols (k0_off47_eq i) _ (row s b) j (by omega)).trans (cols_ge _ _ (row s b) _ (by show _ ≤ 256 + j.val; omega)))) (through_eq (fun r k => (hH _).rows.load _ r k) (col 256 768 (by norm_num)) (fun k j => (congrArg word (load_mat harg17 _ _ k j (by omega))).trans (hP.w2 k _)) (fun j => (load_vec harg18 (k0_off48_eq i) _ _ (i 0) rfl j (by omega)).trans (hP.s2 _)) (fun j => (load_vec harg19 (k0_off48_eq i) _ _ (i 0) rfl j (by omega)).trans (hP.bb2 _)) (row s b) j))
  refine OutIs.store (n := 0) (k := 256) ?_ _ fun s b j hd => (st_chunk _ _ _ _ _ s b j).trans (congr (congrArg (fun a b : EReal => a + b) ((hT0 _).load_cols (k0_off45_eq i) _ (row s b) j (by omega))) (through_eq (fun r k => (hH _).rows.load _ r k) (col 0 768 (by norm_num)) (fun k j => (congrArg word (load_mat harg17 _ _ k j (by omega))).trans (hP.w2 k _)) (fun j => (load_vec harg18 (k0_off46_eq i) _ _ (i 0) rfl j (by omega)).trans (hP.s2 _)) (fun j => (load_vec harg19 (k0_off46_eq i) _ _ (i 0) rfl j (by omega)).trans (hP.bb2 _)) (row s b) j))
  exact OutIs.zero

/-- The other tiles stay. -/
theorem C_other (f : arg22.view.ty.Contents (Elt Ideal)) (t' : Fin 4) (ht : t' ≠ i 1) {Z : Fin 616 → Fin 768 → EReal} (hZ : TileIs arg22.view f t' Z) :
    TileIs arg22.view (arg22.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) t' Z := by
  unfold kernelRun0_C
  dsimp only
  refine TileIs.other ht ?_ (k0_off49_eq i) _ rfl
  unfold kernelRun0_C.sl.HS0_5
  refine TileIs.other ht ?_ (k0_off47_eq i) _ rfl
  unfold kernelRun0_C.sl.HS0_4
  refine TileIs.other ht ?_ (k0_off45_eq i) _ rfl
  unfold kernelRun0_C.sl.HS0_3
  refine TileIs.other ht ?_ (k0_off49_eq i) _ rfl
  refine TileIs.other ht ?_ (k0_off47_eq i) _ rfl
  refine TileIs.other ht ?_ (k0_off45_eq i) _ rfl
  exact hZ

/-- One grid point: the keys and the stream of its tile, and the tile it carries on. -/
theorem C_point (hP : Holds P (i 0) x2 x3 x4 x5 x6 x7 x8 x9 x10 x11 x12 x13 x14 x15 x16 x17) (hX : ∀ r d, xs0 (ix3 (i 1) r d) = X r d)
    (hA : ∀ (r : Fin 616) d, x1 (ix4 0 ⟨r.val / 8, by omega⟩ ⟨r.val % 8, by omega⟩ d) = At r d) :
    (∀ g, OutIs arg20.view (arg20.view.writes (Elt Ideal) g (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).1) 768 (fun r => layerRow P (X r) (At r)))
    ∧ (∀ g, OutIs arg21.view (arg21.view.writes (Elt Ideal) g (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.1) 768 (fun r => keyRow P (X r)))
    ∧ (∀ f, TileIs arg22.view (arg22.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs1 xs2).2.2.1) (i 1) (fun r => layerRow P (X r) (At r))) := by
  have h1 : TileIs arg22.view (harg22.unread xs0) (i 1) X := C_tile hX
  have h2 : ∀ g, RowsIs arg23.view (arg23.view.writes (Elt Ideal) g (kernelRun0_C.sl.HS1_39 (F := Ideal) c i arg4 harg4 arg5 harg5 arg22 harg22 x2 x3 xs0)) 616 (fun r => ln P.g1 P.b1 (X r)) := C_ln1 hP h1
  have h3 : ∀ g, RowsIs arg23.view (arg23.view.writes (Elt Ideal) g (kernelRun0_C.sl.HS1_40 (F := Ideal) c i arg3 harg3 arg4 harg4 arg5 harg5 arg22 harg22 x1 x2 x3 xs0)) 616 At := C_attn hA
  have h4 : ∀ f, TileIs arg22.view (arg22.view.writes (Elt Ideal) f (kernelRun0_C.sl.HS0_3 (F := Ideal) c i arg3 harg3 arg4 harg4 arg5 harg5 arg11 harg11 arg12 harg12 arg13 harg13 arg22 harg22 arg23 harg23 x1 x2 x3 x9 x10 x11 xs0 xs1)) (i 1) (fun r => midRow P (X r) (At r)) := C_mid hP h1 h3
  have h5 : ∀ g, RowsIs arg23.view (arg23.view.writes (Elt Ideal) g (kernelRun0_C.sl.HS1_79 (F := Ideal) c i arg3 harg3 arg4 harg4 arg5 harg5 arg6 harg6 arg7 harg7 arg11 harg11 arg12 harg12 arg13 harg13 arg22 harg22 arg23 harg23 x1 x2 x3 x4 x5 x9 x10 x11 xs0 xs1)) 616 (fun r => ln P.g2 P.b2 ((fun r => midRow P (X r) (At r)) r)) := C_ln2 hP h4
  have h6 : ∀ g, ColsIs arg24.view (arg24.view.writes (Elt Ideal) g (kernelRun0_C.sl.HS2_12 (F := Ideal) c i arg3 harg3 arg4 harg4 arg5 harg5 arg6 harg6 arg7 harg7 arg11 harg11 arg12 harg12 arg13 harg13 arg14 harg14 arg15 harg15 arg16 harg16 arg22 harg22 arg23 harg23 x1 x2 x3 x4 x5 x9 x10 x11 x12 x13 x14 xs0 xs1)) 3072 (fun r => hidRow P ((fun r => midRow P (X r) (At r)) r)) := C_hid hP h5
  have h7 : ∀ f, TileIs arg22.view (arg22.view.writes (Elt Ideal) f (kernelRun0_C.sl.HS0_4 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 256 (fun r => midRow P (X r) (At r)) (fun r => outRow P ((fun r => midRow P (X r) (At r)) r))) := C_out0 hP h4 h6
  have h8 : ∀ f, TileIs arg22.view (arg22.view.writes (Elt Ideal) f (kernelRun0_C.sl.HS0_5 (F := Ideal) c i arg3 harg3 arg4 harg4 arg5 harg5 arg6 harg6 arg7 harg7 arg11 harg11 arg12 harg12 arg13 harg13 arg14 harg14 arg15 harg15 arg16 harg16 arg17 harg17 arg18 harg18 arg19 harg19 arg22 harg22 arg23 harg23 arg24 harg24 x1 x2 x3 x4 x5 x9 x10 x11 x12 x13 x14 x15 x16 x17 xs0 xs1 xs2)) (i 1) (cols 512 (fun r => midRow P (X r) (At r)) (fun r => outRow P ((fun r => midRow P (X r) (At r)) r))) := C_out1 hP h7 h6
  exact ⟨C_stream hP h4 h7 h8 h6, C_keys hP h2, C_out2 hP h8 h6⟩

end Cert.KernelIdeal.Rows
-- ==== Proof.Spec.lean ====
/- What the two programs compute, from the argument arrays: row `(s, b)` of the stream before and after each layer, and of
   each layer's keys. -/
module

public import proofs.«01_k».proof.Proof.RowMath

@[expose] public section

noncomputable section

namespace Cert.Rows

open Idealize.ShloMosaic

/-- The argument arrays. -/
structure Args where
  x0 : (⟨3, ![77, 32, 768]⟩ : Shape).Idx → EReal
  attn : (⟨4, ![12, 77, 32, 768]⟩ : Shape).Idx → EReal
  g1 : (⟨2, ![12, 768]⟩ : Shape).Idx → EReal
  b1 : (⟨2, ![12, 768]⟩ : Shape).Idx → EReal
  g2 : (⟨2, ![12, 768]⟩ : Shape).Idx → EReal
  b2 : (⟨2, ![12, 768]⟩ : Shape).Idx → EReal
  wqkv : (⟨3, ![12, 768, 2304]⟩ : Shape).Idx → BitVec 8
  sqkv : (⟨2, ![12, 2304]⟩ : Shape).Idx → EReal
  bqkv : (⟨2, ![12, 2304]⟩ : Shape).Idx → EReal
  wo : (⟨3, ![12, 768, 768]⟩ : Shape).Idx → BitVec 8
  so : (⟨2, ![12, 768]⟩ : Shape).Idx → EReal
  bo : (⟨2, ![12, 768]⟩ : Shape).Idx → EReal
  w1 : (⟨3, ![12, 768, 3072]⟩ : Shape).Idx → BitVec 8
  s1 : (⟨2, ![12, 3072]⟩ : Shape).Idx → EReal
  bb1 : (⟨2, ![12, 3072]⟩ : Shape).Idx → EReal
  w2 : (⟨3, ![12, 3072, 768]⟩ : Shape).Idx → BitVec 8
  s2 : (⟨2, ![12, 768]⟩ : Shape).Idx → EReal
  bb2 : (⟨2, ![12, 768]⟩ : Shape).Idx → EReal

/-- The parameters of layer `l`. -/
def Args.layer (A : Args) (l : Fin 12) : Layer where
  g1 d := A.g1 (ix2 l d)
  b1 d := A.b1 (ix2 l d)
  g2 d := A.g2 (ix2 l d)
  b2 d := A.b2 (ix2 l d)
  wqkv k j := word (A.wqkv (ix3 l k j))
  sqkv j := A.sqkv (ix2 l j)
  bqkv j := A.bqkv (ix2 l j)
  wo k j := word (A.wo (ix3 l k j))
  so j := A.so (ix2 l j)
  bo j := A.bo (ix2 l j)
  w1 k j := word (A.w1 (ix3 l k j))
  s1 j := A.s1 (ix2 l j)
  bb1 j := A.bb1 (ix2 l j)
  w2 k j := word (A.w2 (ix3 l k j))
  s2 j := A.s2 (ix2 l j)
  bb2 j := A.bb2 (ix2 l j)

/-- Layer number `l` as an index (only `l < 12` is ever asked for). -/
def lay (l : ℕ) : Fin 12 := ⟨l % 12, Nat.mod_lt _ (by norm_num)⟩

theorem lay_val (l : Fin 12) : lay l.val = l := Fin.ext (Nat.mod_eq_of_lt l.isLt)

/-- Row `(s, b)` of the stream before layer `l`. -/
def Args.before (A : Args) (l : ℕ) (s : Fin 77) (b : Fin 32) : Fin 768 → EReal :=
  stream (fun l => A.layer (lay l)) (fun l d => A.attn (ix4 (lay l) s b d)) (fun d => A.x0 (ix3 s b d)) l

theorem Args.before_zero (A : Args) (s : Fin 77) (b : Fin 32) : A.before 0 s b = fun d => A.x0 (ix3 s b d) := rfl

theorem Args.before_succ (A : Args) (l : ℕ) (s : Fin 77) (b : Fin 32) :
    A.before (l + 1) s b = layerRow (A.layer (lay l)) (A.before l s b) (fun d => A.attn (ix4 (lay l) s b d)) := rfl

/-- The stream after each layer. -/
def Args.streams (A : Args) (l : Fin 12) (s : Fin 77) (b : Fin 32) (d : Fin 768) : EReal := A.before (l.val + 1) s b d

/-- The keys of each layer. -/
def Args.keys (A : Args) (l : Fin 12) (s : Fin 77) (b : Fin 32) (d : Fin 768) : EReal :=
  keyRow (A.layer l) (A.before l.val s b) d

end Cert.Rows
-- ==== Proof.IdealBlocks.lean ====
/- The blocks the windows stage at a grid point, read off the argument arrays: point `t` is layer `t / 4`, tile `t % 4` of eight
   batch rows. -/
module

public import proofs.«01_k».proof.Proof.IdealRuns
public import proofs.«01_k».proof.Proof.Loads
public import proofs.«01_k».proof.Proof.Spec
public import Idealize.ShloMosaic.Lib.Pipeline.ValueKit

@[expose] public section

set_option maxRecDepth 16384

noncomputable section

namespace Cert.KernelIdeal.Rows

open Cert.KernelIdeal Cert.KernelIdeal.Gen Cert.Rows Idealize.ShloMosaic Idealize.ShloMosaic.TcCoe

variable (m : (ℓ : Loc nD τ sig) → Buf (Elt Ideal) ℓ) (c : Dev nD)

/-- The argument arrays as the region finds them. -/
def argsOf : Args where
  x0 := V m c main_arg0
  attn := V m c main_arg1
  g1 := V m c main_arg2
  b1 := V m c main_arg3
  g2 := V m c main_arg4
  b2 := V m c main_arg5
  wqkv := V m c main_arg6
  sqkv := V m c main_arg7
  bqkv := V m c main_arg8
  wo := V m c main_arg9
  so := V m c main_arg10
  bo := V m c main_arg11
  w1 := V m c main_arg12
  s1 := V m c main_arg13
  bb1 := V m c main_arg14
  w2 := V m c main_arg15
  s2 := V m c main_arg16
  bb2 := V m c main_arg17

/-! ## The grid -/

theorem coord0 (t : Fin cfg0.N) : (grid0.coords t 0).val = t.val / 4 := by
  have ht : t.val < 48 := Nat.lt_of_lt_of_eq t.isLt N_0
  have e0 : (grid0.coords t 0).val = t.val / 4 % 12 := Pipeline.Grid.coords_val t 0 (by decide) rfl
  omega

theorem coord1 (t : Fin cfg0.N) : (grid0.coords t 1).val = t.val % 4 := by
  have e1 : (grid0.coords t 1).val = t.val / 1 % 4 := Pipeline.Grid.coords_val t 1 (by decide) rfl
  omega

/-- Batch row `b` of tile `τ`. -/
def batch (τ : Fin 4) (b : Fin 8) : Fin 32 := ⟨8 * τ.val + b.val, by omega⟩

/-- Row `r` of tile `τ` of the stream after `k` layers. -/
def tileRow (A : Args) (k : ℕ) (τ : Fin 4) (r : Fin 616) : Fin 768 → EReal :=
  A.before k ⟨r.val / 8, by omega⟩ (batch τ ⟨r.val % 8, by omega⟩)

/-! ## The windows' places -/

theorem idx0 : ∀ t : Fin cfg0.N, (grid0.coords t 0).val = 0 → win0_0.index t = ![0, (grid0.coords t 1).val, 0] :=
  (by decide +kernel : ∀ t : Fin grid0.N, (grid0.coords t 0).val = 0 → win0_0.index t = ![0, (grid0.coords t 1).val, 0])
theorem idx1 : ∀ t : Fin cfg0.N, win0_1.index t = ![(grid0.coords t 0).val, 0, (grid0.coords t 1).val, 0] :=
  (by decide +kernel : ∀ t : Fin grid0.N, win0_1.index t = ![(grid0.coords t 0).val, 0, (grid0.coords t 1).val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![(grid0.coords t 0).val, 0, 0] :=
  (by decide +kernel : ∀ t : Fin grid0.N, win0_6.index t = ![(grid0.coords t 0).val, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![(grid0.coords t 0).val, 0, 0] :=
  (by decide +kernel : ∀ t : Fin grid0.N, win0_9.index t = ![(grid0.coords t 0).val, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![(grid0.coords t 0).val, 0, 0] :=
  (by decide +kernel : ∀ t : Fin grid0.N, win0_12.index t = ![(grid0.coords t 0).val, 0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem idx15 : ∀ t : Fin cfg0.N, win0_15.index t = ![(grid0.coords t 0).val, 0, 0] :=
  (by decide +kernel : ∀ t : Fin grid0.N, win0_15.index t = ![(grid0.coords t 0).val, 0, 0])
theorem idx16 : ∀ t : Fin cfg0.N, win0_16.index t = ![0, 0] :=
  (by decide +kernel : ∀ t : Fin grid0.N, win0_16.index t = ![0, 0])
theorem idx17 : ∀ t : Fin cfg0.N, win0_17.index t = ![0, 0] :=
  (by decide +kernel : ∀ t : Fin grid0.N, win0_17.index t = ![0, 0])
theorem idx18 : ∀ t : Fin cfg0.N, win0_18.index t = ![(grid0.coords t 0).val, 0, (grid0.coords t 1).val, 0] :=
  (by decide +kernel : ∀ t : Fin grid0.N, win0_18.index t = ![(grid0.coords t 0).val, 0, (grid0.coords t 1).val, 0])
theorem idx19 : ∀ t : Fin cfg0.N, win0_19.index t = ![(grid0.coords t 0).val, 0, (grid0.coords t 1).val, 0] :=
  (by decide +kernel : ∀ t : Fin grid0.N, win0_19.index t = ![(grid0.coords t 0).val, 0, (grid0.coords t 1).val, 0])

/-! ## The blocks -/

theorem block0 (t : Fin cfg0.N) (h : (grid0.coords t 0).val = 0) (s : Fin 77) (b : Fin 8) (d : Fin 768) :
    iblk m c 0 t (ix3 s b d) = (argsOf m c).x0 (ix3 s (batch (grid0.coords t 1) b) d) := by
  unfold batch
  blk_ext [iblk, argsOf, idx0 t h]

theorem block1 (t : Fin cfg0.N) (s : Fin 77) (b : Fin 8) (d : Fin 768) :
    iblk m c 1 t (ix4 0 s b d) = (argsOf m c).attn (ix4 (grid0.coords t 0) s (batch (grid0.coords t 1) b) d) := by
  unfold batch
  blk_ext [iblk, argsOf, idx1 t]

theorem block2 (t : Fin cfg0.N) (l : Fin 12) (j : Fin 768) : iblk m c 2 t (ix2 l j) = (argsOf m c).g1 (ix2 l j) := by
  blk_ext [iblk, argsOf, idx2 t]

theorem block3 (t : Fin cfg0.N) (l : Fin 12) (j : Fin 768) : iblk m c 3 t (ix2 l j) = (argsOf m c).b1 (ix2 l j) := by
  blk_ext [iblk, argsOf, idx3 t]

theorem block4 (t : Fin cfg0.N) (l : Fin 12) (j : Fin 768) : iblk m c 4 t (ix2 l j) = (argsOf m c).g2 (ix2 l j) := by
  blk_ext [iblk, argsOf, idx4 t]

theorem block5 (t : Fin cfg0.N) (l : Fin 12) (j : Fin 768) : iblk m c 5 t (ix2 l j) = (argsOf m c).b2 (ix2 l j) := by
  blk_ext [iblk, argsOf, idx5 t]

theorem block6 (t : Fin cfg0.N) (k : Fin 768) (j : Fin 2304) : iblk m c 6 t (ix3 0 k j) = (argsOf m c).wqkv (ix3 (grid0.coords t 0) k j) := by
  blk_ext [iblk, argsOf, idx6 t]

theorem block7 (t : Fin cfg0.N) (l : Fin 12) (j : Fin 2304) : iblk m c 7 t (ix2 l j) = (argsOf m c).sqkv (ix2 l j) := by
  blk_ext [iblk, argsOf, idx7 t]

theorem block8 (t : Fin cfg0.N) (l : Fin 12) (j : Fin 2304) : iblk m c 8 t (ix2 l j) = (argsOf m c).bqkv (ix2 l j) := by
  blk_ext [iblk, argsOf, idx8 t]

theorem block9 (t : Fin cfg0.N) (k : Fin 768) (j : Fin 768) : iblk m c 9 t (ix3 0 k j) = (argsOf m c).wo (ix3 (grid0.coords t 0) k j) := by
  blk_ext [iblk, argsOf, idx9 t]

theorem block10 (t : Fin cfg0.N) (l : Fin 12) (j : Fin 768) : iblk m c 10 t (ix2 l j) = (argsOf m c).so (ix2 l j) := by
  blk_ext [iblk, argsOf, idx10 t]

theorem block11 (t : Fin cfg0.N) (l : Fin 12) (j : Fin 768) : iblk m c 11 t (ix2 l j) = (argsOf m c).bo (ix2 l j) := by
  blk_ext [iblk, argsOf, idx11 t]

theorem block12 (t : Fin cfg0.N) (k : Fin 768) (j : Fin 3072) : iblk m c 12 t (ix3 0 k j) = (argsOf m c).w1 (ix3 (grid0.coords t 0) k j) := by
  blk_ext [iblk, argsOf, idx12 t]

theorem block13 (t : Fin cfg0.N) (l : Fin 12) (j : Fin 3072) : iblk m c 13 t (ix2 l j) = (argsOf m c).s1 (ix2 l j) := by
  blk_ext [iblk, argsOf, idx13 t]

theorem block14 (t : Fin cfg0.N) (l : Fin 12) (j : Fin 3072) : iblk m c 14 t (ix2 l j) = (argsOf m c).bb1 (ix2 l j) := by
  blk_ext [iblk, argsOf, idx14 t]

theorem block15 (t : Fin cfg0.N) (k : Fin 3072) (j : Fin 768) : iblk m c 15 t (ix3 0 k j) = (argsOf m c).w2 (ix3 (grid0.coords t 0) k j) := by
  blk_ext [iblk, argsOf, idx15 t]

theorem block16 (t : Fin cfg0.N) (l : Fin 12) (j : Fin 768) : iblk m c 16 t (ix2 l j) = (argsOf m c).s2 (ix2 l j) := by
  blk_ext [iblk, argsOf, idx16 t]

theorem block17 (t : Fin cfg0.N) (l : Fin 12) (j : Fin 768) : iblk m c 17 t (ix2 l j) = (argsOf m c).bb2 (ix2 l j) := by
  blk_ext [iblk, argsOf, idx17 t]

/-- The parameter blocks at a point hold that point's layer. -/
theorem holds (t : Fin cfg0.N) : Holds ((argsOf m c).layer (grid0.coords t 0)) (grid0.coords t 0) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) where
  g1 d := block2 m c t (grid0.coords t 0) d
  b1 d := block3 m c t (grid0.coords t 0) d
  g2 d := block4 m c t (grid0.coords t 0) d
  b2 d := block5 m c t (grid0.coords t 0) d
  wqkv k j := congrArg word (block6 m c t k j)
  sqkv d := block7 m c t (grid0.coords t 0) d
  bqkv d := block8 m c t (grid0.coords t 0) d
  wo k j := congrArg word (block9 m c t k j)
  so d := block10 m c t (grid0.coords t 0) d
  bo d := block11 m c t (grid0.coords t 0) d
  w1 k j := congrArg word (block12 m c t k j)
  s1 d := block13 m c t (grid0.coords t 0) d
  bb1 d := block14 m c t (grid0.coords t 0) d
  w2 k j := congrArg word (block15 m c t k j)
  s2 d := block16 m c t (grid0.coords t 0) d
  bb2 d := block17 m c t (grid0.coords t 0) d

end Cert.KernelIdeal.Rows
-- ==== Proof.IdealStep.lean ====
/- One grid point on the values: if the carried stream holds every tile at the rows its layers so far give, the point writes the
   stream and the keys of its layer and tile, and leaves the carried stream one layer further in its tile. -/
module

public import proofs.«01_k».proof.Proof.ValueA
public import proofs.«01_k».proof.Proof.ValueB
public import proofs.«01_k».proof.Proof.ValueC
public import proofs.«01_k».proof.Proof.IdealBlocks

@[expose] public section

set_option maxRecDepth 16384

noncomputable section

namespace Cert.KernelIdeal.Rows

open Cert.KernelIdeal Cert.KernelIdeal.Gen Cert.Rows Idealize.ShloMosaic Idealize.ShloMosaic.TcCoe

variable (m : (ℓ : Loc nD τ sig) → Buf (Elt Ideal) ℓ) (c : Dev nD)

/-- A block of streams: layer `l`, tile `τ`. -/
def streamBlock (A : Args) (l : Fin 12) (τ : Fin 4) : S1x77x8x768.Idx → EReal := fun x => A.streams l (x 1) (batch τ (x 2)) (x 3)

/-- A block of keys: layer `l`, tile `τ`. -/
def keyBlock (A : Args) (l : Fin 12) (τ : Fin 4) : S1x77x8x768.Idx → EReal := fun x => A.keys l (x 1) (batch τ (x 2)) (x 3)

/-- The block of streams point `t` writes. -/
def outStream (t : Fin cfg0.N) : S1x77x8x768.Idx → EReal := streamBlock (argsOf m c) (grid0.coords t 0) (grid0.coords t 1)

/-- The block of keys point `t` writes. -/
def outKeys (t : Fin cfg0.N) : S1x77x8x768.Idx → EReal := keyBlock (argsOf m c) (grid0.coords t 0) (grid0.coords t 1)

/-- Before point `n` tile `τ` has been through `(n + 3 - τ) / 4` layers; the carried stream holds its rows after those layers, for
    every tile that has been through one. -/
def Good (n : ℕ) (xs : S4x616x768.Idx → EReal) : Prop :=
  ∀ τ : Fin 4, 0 < (n + 3 - τ.val) / 4 → ∀ (r : Fin 616) (d : Fin 768), xs (ix3 τ r d) = tileRow (argsOf m c) ((n + 3 - τ.val) / 4) τ r d

theorem good_zero (xs : S4x616x768.Idx → EReal) : Good m c 0 xs := fun τ h => absurd h (by omega)

/-- The attention rows of a tile in a layer. -/
def attnRow (A : Args) (l : Fin 12) (τ : Fin 4) (r : Fin 616) (d : Fin 768) : EReal :=
  A.attn (ix4 l ⟨r.val / 8, by omega⟩ (batch τ ⟨r.val % 8, by omega⟩) d)

theorem tileRow_succ (A : Args) (l : Fin 12) (τ : Fin 4) (r : Fin 616) :
    tileRow A (l.val + 1) τ r = layerRow (A.layer l) (tileRow A l.val τ r) (attnRow A l τ r) := by
  unfold tileRow attnRow
  rw [Args.before_succ, lay_val]

theorem row_div (s : Fin 77) (b : Fin 8) (h : (row s b).val / 8 < 77) : (⟨(row s b).val / 8, h⟩ : Fin 77) = s :=
  Fin.ext (by show (s.val * 8 + b.val) / 8 = s.val; omega)

theorem row_mod (s : Fin 77) (b : Fin 8) (h : (row s b).val % 8 < 8) : (⟨(row s b).val % 8, h⟩ : Fin 8) = b :=
  Fin.ext (by show (s.val * 8 + b.val) % 8 = b.val; omega)

theorem tileRow_row (A : Args) (k : ℕ) (τ : Fin 4) (s : Fin 77) (b : Fin 8) : tileRow A k τ (row s b) = A.before k s (batch τ b) := by
  unfold tileRow
  rw [row_div, row_mod]

theorem ix4_eta (x : S1x77x8x768.Idx) : ∃ (s : Fin 77) (b : Fin 8) (d : Fin 768), x = ix4 0 s b d := by
  refine ⟨x 1, x 2, x 3, funext fun a => ?_⟩
  match a with
  | ⟨0, _⟩ => exact Fin.ext (by show (x 0).val = 0; have : (x 0).val < 1 := (x 0).isLt; omega)
  | ⟨1, _⟩ => rfl
  | ⟨2, _⟩ => rfl
  | ⟨3, _⟩ => rfl

/-- The output block of streams, read back. -/
theorem read_stream (A : Args) (l : Fin 12) (τ : Fin 4) {o : View sig .tc .vmem S1x77x8x768 .f32} {g : o.ty.Contents (Elt Ideal)}
    (h : OutIs (Val := Elt Ideal) o g 768 (fun r => layerRow (A.layer l) (tileRow A l.val τ r) (attnRow A l τ r))) :
    o.read (Elt Ideal) g = streamBlock A l τ := by
  funext x
  obtain ⟨s, b, d, rfl⟩ := ix4_eta x
  refine (h s b d d.isLt).trans ?_
  refine (congrFun (tileRow_succ A l τ _) _).symm.trans ?_
  rw [tileRow_row]
  rfl

/-- The output block of keys, read back. -/
theorem read_keys (A : Args) (l : Fin 12) (τ : Fin 4) {o : View sig .tc .vmem S1x77x8x768 .bf16} {g : o.ty.Contents (Elt Ideal)}
    (h : OutIs (Val := Elt Ideal) o g 768 (fun r => keyRow (A.layer l) (tileRow A l.val τ r))) :
    o.read (Elt Ideal) g = keyBlock A l τ := by
  funext x
  obtain ⟨s, b, d, rfl⟩ := ix4_eta x
  refine (h s b d d.isLt).trans ?_
  show keyRow (A.layer l) (tileRow A l.val τ (row s b)) d = _
  rw [tileRow_row]
  rfl

/-- The carried stream after the point: its tile one layer further, the others as before. -/
theorem good_succ (n : ℕ) (l : Fin 12) (τ' : Fin 4) (e0 : l.val = n / 4) (e1 : τ'.val = n % 4) {v : View sig .tc .vmem S4x616x768 .f32}
    {f : v.ty.Contents (Elt Ideal)} {xs : S4x616x768.Idx → EReal} (hG : Good m c n xs)
    (h : TileIs (Val := Elt Ideal) v f τ' (fun r => layerRow ((argsOf m c).layer l) (tileRow (argsOf m c) l.val τ' r) (attnRow (argsOf m c) l τ' r)))
    (ho : ∀ τ : Fin 4, τ ≠ τ' → TileIs (Val := Elt Ideal) v f τ (fun r d => xs (ix3 τ r d))) :
    Good m c (n + 1) (v.read (Elt Ideal) f) := by
  intro τ hτ r d
  by_cases he : τ = τ'
  · subst he
    refine (h r d).trans ?_
    refine (congrFun (tileRow_succ _ l τ r) d).symm.trans ?_
    have e : (n + 1 + 3 - τ.val) / 4 = l.val + 1 := by rw [e0, e1]; omega
    rw [e]
  · have hn : τ.val ≠ n % 4 := fun hh => he (Fin.ext (hh.trans e1.symm))
    have e : (n + 1 + 3 - τ.val) / 4 = (n + 3 - τ.val) / 4 := by have := τ.isLt; omega
    rw [e] at hτ ⊢
    exact (ho τ he r d).trans (hG τ hτ r d)

/-- What the invariant says of the tile a point visits, past the first layer. -/
theorem good_tile (n : ℕ) (l : Fin 12) (τ : Fin 4) (e0 : l.val = n / 4) (e1 : τ.val = n % 4) (h4 : ¬n < 4) {xs : S4x616x768.Idx → EReal}
    (hG : Good m c n xs) (r : Fin 616) (d : Fin 768) : xs (ix3 τ r d) = tileRow (argsOf m c) l.val τ r d := by
  have e : (n + 3 - τ.val) / 4 = l.val := by rw [e0, e1]; omega
  rw [hG τ (by rw [e, e0]; omega) r d, e]

/-- The embedded tokens of a tile. -/
theorem first_tile (A : Args) (l : Fin 12) (τ : Fin 4) (hl : l.val = 0) (r : Fin 616) (d : Fin 768) :
    A.x0 (ix3 ⟨r.val / 8, by omega⟩ (batch τ ⟨r.val % 8, by omega⟩) d) = tileRow A l.val τ r d := by
  rw [hl]
  rfl

/-- A point of case A. -/
theorem stepA (t : Fin cfg0.N) (h0 : t.val % 48 = 0) (h1 : t.val < 4) (xs0 : Vec Ideal S4x616x768 .f32) (hG : Good m c t.val xs0) :
    (∀ g, (ms0_18 t).view.read (Elt Ideal) ((ms0_18 t).view.writes (Elt Ideal) g (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0).1) = outStream m c t)
    ∧ (∀ g, (ms0_19 t).view.read (Elt Ideal) ((ms0_19 t).view.writes (Elt Ideal) g (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0).2.1) = outKeys m c t)
    ∧ Good m c (t.val + 1) (scM0_0.view.read (Elt Ideal) (scM0_0.view.writes (Elt Ideal) ((Memref.isWhole_whole _ : scM0_0.IsWhole).unread xs0) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0).2.2.1)) := by
  have e0 := coord0 t
  have e1 := coord1 t
  have hl : (grid0.coords t 0).val = 0 := by rw [e0]; omega
  have hX : ∀ (r : Fin 616) (d : Fin 768), iblk m c 0 t (ix3 ⟨r.val / 8, by omega⟩ ⟨r.val % 8, by omega⟩ d) = tileRow (argsOf m c) (grid0.coords t 0).val (grid0.coords t 1) r d :=
    fun r d => (block0 m c t hl _ _ d).trans (first_tile _ _ _ hl r d)
  have hA : ∀ (r : Fin 616) (d : Fin 768), iblk m c 1 t (ix4 0 ⟨r.val / 8, by omega⟩ ⟨r.val % 8, by omega⟩ d) = attnRow (argsOf m c) (grid0.coords t 0) (grid0.coords t 1) r d :=
    fun r d => block1 m c t _ _ d
  obtain ⟨a18, a19, aS⟩ := A_point (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := hs0_16 t) (harg19 := hs0_17 t) (harg20 := hs0_18 t) (harg21 := hs0_19 t) (harg22 := (Memref.isWhole_whole _ : scM0_0.IsWhole)) (harg23 := (Memref.isWhole_whole _ : scM0_1.IsWhole)) (harg24 := (Memref.isWhole_whole _ : scM0_2.IsWhole)) (hc0 := ((hcond0_0 t).mpr h0)) (hc1 := ((hcond0_1 t).mpr h1)) (xs0 := xs0) (holds m c t) hX hA
  refine ⟨fun g => read_stream _ _ _ (a18 g), fun g => read_keys _ _ _ (a19 g), good_succ m c t.val _ _ e0 e1 hG (aS _) fun τ hτ => ?_⟩
  refine A_other _ τ hτ fun r d => ?_
  rw [Memref.IsWhole.read_unread]

/-- A point of case B. -/
theorem stepB (t : Fin cfg0.N) (h0 : ¬t.val % 48 = 0) (h1 : t.val < 4) (xs0 : Vec Ideal S4x616x768 .f32) (xs1 : Vec Ideal S624x768 .bf16) (xs2 : Vec Ideal S624x3072 .bf16) (hG : Good m c t.val xs0) :
    (∀ g, (ms0_18 t).view.read (Elt Ideal) ((ms0_18 t).view.writes (Elt Ideal) g (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).1) = outStream m c t)
    ∧ (∀ g, (ms0_19 t).view.read (Elt Ideal) ((ms0_19 t).view.writes (Elt Ideal) g (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.1) = outKeys m c t)
    ∧ Good m c (t.val + 1) (scM0_0.view.read (Elt Ideal) (scM0_0.view.writes (Elt Ideal) ((Memref.isWhole_whole _ : scM0_0.IsWhole).unread xs0) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.2.1)) := by
  have e0 := coord0 t
  have e1 := coord1 t
  have hl : (grid0.coords t 0).val = 0 := by rw [e0]; omega
  have hX : ∀ (r : Fin 616) (d : Fin 768), iblk m c 0 t (ix3 ⟨r.val / 8, by omega⟩ ⟨r.val % 8, by omega⟩ d) = tileRow (argsOf m c) (grid0.coords t 0).val (grid0.coords t 1) r d :=
    fun r d => (block0 m c t hl _ _ d).trans (first_tile _ _ _ hl r d)
  have hA : ∀ (r : Fin 616) (d : Fin 768), iblk m c 1 t (ix4 0 ⟨r.val / 8, by omega⟩ ⟨r.val % 8, by omega⟩ d) = attnRow (argsOf m c) (grid0.coords t 0) (grid0.coords t 1) r d :=
    fun r d => block1 m c t _ _ d
  obtain ⟨a18, a19, aS⟩ := B_point (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := hs0_16 t) (harg19 := hs0_17 t) (harg20 := hs0_18 t) (harg21 := hs0_19 t) (harg22 := (Memref.isWhole_whole _ : scM0_0.IsWhole)) (harg23 := (Memref.isWhole_whole _ : scM0_1.IsWhole)) (harg24 := (Memref.isWhole_whole _ : scM0_2.IsWhole)) (hc0 := (fun h => h0 ((hcond0_0 t).mp h))) (hc1 := ((hcond0_1 t).mpr h1)) (xs0 := xs0) (xs1 := xs1) (xs2 := xs2) (holds m c t) hX hA
  refine ⟨fun g => read_stream _ _ _ (a18 g), fun g => read_keys _ _ _ (a19 g), good_succ m c t.val _ _ e0 e1 hG (aS _) fun τ hτ => ?_⟩
  refine B_other _ τ hτ fun r d => ?_
  rw [Memref.IsWhole.read_unread]

/-- A point of case C. -/
theorem stepC (t : Fin cfg0.N) (h0 : ¬t.val % 48 = 0) (h1 : ¬t.val < 4) (xs0 : Vec Ideal S4x616x768 .f32) (xs1 : Vec Ideal S624x768 .bf16) (xs2 : Vec Ideal S624x3072 .bf16) (hG : Good m c t.val xs0) :
    (∀ g, (ms0_18 t).view.read (Elt Ideal) ((ms0_18 t).view.writes (Elt Ideal) g (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).1) = outStream m c t)
    ∧ (∀ g, (ms0_19 t).view.read (Elt Ideal) ((ms0_19 t).view.writes (Elt Ideal) g (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.1) = outKeys m c t)
    ∧ Good m c (t.val + 1) (scM0_0.view.read (Elt Ideal) (scM0_0.view.writes (Elt Ideal) ((Memref.isWhole_whole _ : scM0_0.IsWhole).unread xs0) (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.2.1)) := by
  have e0 := coord0 t
  have e1 := coord1 t
  have hX : ∀ (r : Fin 616) (d : Fin 768), xs0 (ix3 (grid0.coords t 1) r d) = tileRow (argsOf m c) (grid0.coords t 0).val (grid0.coords t 1) r d :=
    good_tile m c t.val _ _ e0 e1 h1 hG
  have hA : ∀ (r : Fin 616) (d : Fin 768), iblk m c 1 t (ix4 0 ⟨r.val / 8, by omega⟩ ⟨r.val % 8, by omega⟩ d) = attnRow (argsOf m c) (grid0.coords t 0) (grid0.coords t 1) r d :=
    fun r d => block1 m c t _ _ d
  obtain ⟨a18, a19, aS⟩ := C_point (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := hs0_16 t) (harg19 := hs0_17 t) (harg20 := hs0_18 t) (harg21 := hs0_19 t) (harg22 := (Memref.isWhole_whole _ : scM0_0.IsWhole)) (harg23 := (Memref.isWhole_whole _ : scM0_1.IsWhole)) (harg24 := (Memref.isWhole_whole _ : scM0_2.IsWhole)) (hc0 := (fun h => h0 ((hcond0_0 t).mp h))) (hc1 := (fun h => h1 ((hcond0_1 t).mp h))) (xs0 := xs0) (xs1 := xs1) (xs2 := xs2) (holds m c t) hX hA
  refine ⟨fun g => read_stream _ _ _ (a18 g), fun g => read_keys _ _ _ (a19 g), good_succ m c t.val _ _ e0 e1 hG (aS _) fun τ hτ => ?_⟩
  refine C_other _ τ hτ fun r d => ?_
  rw [Memref.IsWhole.read_unread]

end Cert.KernelIdeal.Rows
-- ==== Proof.IdealFrame.lean ====
/- The kernel's run at exact values: at every grid point the output blocks hold the stream and the keys of the point's layer and
   tile, and the carried stream holds each tile at the rows its layers so far give. From it: the run's final arrays, and that the
   arguments end unchanged and every counter ends at zero. -/
module

public import proofs.«01_k».proof.Proof.IdealStep
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Rows (Good outStream outKeys stepA stepB stepC good_zero)

local notation "𝕄" => MT nD τ sig Unit (Elt Ideal) ℕ (UR sig nD τ) ℕ

variable (m : (ℓ : Loc nD τ sig) → Buf (Elt Ideal) ℓ) (ρ : Dev nD → PrngReg)

/-- The invariant before position `n`: the carried stream at contents of which `Good` holds, the other two buffers at anything, the
    generator register at some state. -/
def PhiS (c : Dev nD) (n : ℕ) (_ : n ≤ cfg0.N) : sProp 𝕄 :=
  iprop(iprop((∃ xs, ⌜Good m c n xs⌝ ∗ owns (c : Thread nD τ) scM0_0 fullShare xs) ∗ (∃ d, owns (c : Thread nD τ) scM0_1 fullShare d) ∗ (∃ d, owns (c : Thread nD τ) scM0_2 fullShare d)) ∗ (∃ r, prngReg c r))

/-- The proof data: each input's buffer at its block, the outputs' at the stream and the keys of the point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outStream m c t
    | ⟨19, _⟩ => outKeys m c t
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outStream m c t := by dsimp only [dats]
theorem after0_19 (c : Dev nD) (t : Fin cfg0.N) : (dats m 0 c).after 19 t = outKeys m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 24000000 in
/-- The body at any point, by the case the point is in. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_castSucc m c t]
  unfold PhiS
  have hN : t.val < 48 := lt_of_lt_of_eq t.isLt (show cfg0.N = 48 from N_0)
  by_cases h0 : t.val % 48 = 0
  · have h1 : t.val < 4 := by omega
    iintro ⟨⟨⟨⟨%xs0, %hG, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    obtain ⟨e18, e19, eS⟩ := stepA m c t h0 h1 xs0 hG
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, ⟨%g18, H18⟩, ⟨%g19, H19⟩, HS0, ⟨%es1, HS1⟩, ⟨%es2, HS2⟩⟩
    isplitl [HS0 HS1 HS2 Hg]
    · isplitl [HS0 HS1 HS2]
      · isplitl [HS0]
        · iexists _; isplitr
          swap
          · unfold owns; iexists _; isplitr
            swap; · iexact HS0
            ipureintro; rfl
          ipureintro; exact eS
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact e18 _
    unfold owns; iexists _; isplitr
    swap; · iexact H19
    ipureintro; exact e19 _
  · by_cases h1 : t.val < 4
    · iintro ⟨⟨⟨⟨%xs0, %hG, HS0⟩, ⟨%xs1, HS1⟩, ⟨%xs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      obtain ⟨e18, e19, eS⟩ := stepB m c t h0 h1 xs0 xs1 xs2 hG
      iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, H13, H14, H15, H16, H17, ⟨%g18, H18⟩, ⟨%g19, H19⟩, HS0, HS1, HS2⟩
      isplitl [HS0 HS1 HS2 Hg]
      · isplitl [HS0 HS1 HS2]
        · isplitl [HS0]
          · iexists _; isplitr
            swap
            · unfold owns; iexists _; isplitr
              swap; · iexact HS0
              ipureintro; rfl
            ipureintro; exact eS
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact e18 _
      unfold owns; iexists _; isplitr
      swap; · iexact H19
      ipureintro; exact e19 _
    · iintro ⟨⟨⟨⟨%xs0, %hG, HS0⟩, ⟨%xs1, HS1⟩, ⟨%xs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      obtain ⟨e18, e19, eS⟩ := stepC m c t h0 h1 xs0 xs1 xs2 hG
      iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1 xs2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, H13, H14, H15, H16, H17, ⟨%g18, H18⟩, ⟨%g19, H19⟩, HS0, HS1, HS2⟩
      isplitl [HS0 HS1 HS2 Hg]
      · isplitl [HS0 HS1 HS2]
        · isplitl [HS0]
          · iexists _; isplitr
            swap
            · unfold owns; iexists _; isplitr
              swap; · iexact HS0
              ipureintro; rfl
            ipureintro; exact eS
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact e18 _
      unfold owns; iexists _; isplitr
      swap; · iexact H19
      ipureintro; exact e19 _

theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region gives the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%xs, HS0⟩, HS1, HS2⟩, Hg⟩
  isplitl [HS0 HS1 HS2]
  · isplitl [HS0]
    · iexists xs; isplitr
      swap; · iexact HS0
      ipureintro; exact good_zero m c xs
    isplitl [HS1]; · iexact HS1
    iexact HS2
  iexact Hg

/-- The invariant after the last point gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨⟨⟨%xs, %hG, HS0⟩, HS1, HS2⟩, Hg⟩
  isplitl [HS0 HS1 HS2]
  · isplitl [HS0]
    · iexists _; iexact HS0
    isplitl [HS1]; · iexact HS1
    iexact HS2
  iexact Hg

-- the implicit arguments of `θ_run_frame_track` are found by unifying its conclusion with this one
set_option backward.isDefEq.respectTransparency.types false in
/-- The launch: every array of the pipeline at what the proof data give, every other buffer as before, every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen
-- ==== Proof.KernelValue.lean ====
/- What the kernel leaves in its two result arrays: the streams and the keys of `Args`. -/
module

public import proofs.«01_k».proof.Proof.IdealFrame
public import proofs.«01_k».proof.Proof.IdealBlocks
public import Idealize.ShloMosaic.Lib.Pipeline.ValueKit

@[expose] public section

set_option maxRecDepth 16384

noncomputable section

namespace Cert.KernelIdeal.Rows

open Cert.KernelIdeal Cert.KernelIdeal.Gen Cert.Rows Idealize.ShloMosaic Idealize.ShloMosaic.TcCoe

variable (m : (ℓ : Loc nD τ sig) → Buf (Elt Ideal) ℓ) (c : Dev nD)

/-- The streams of `A` as one array. -/
def streamsOf (A : Args) : S12x77x32x768.Idx → EReal := fun y => A.streams (y 0) (y 1) (y 2) (y 3)

/-- The keys of `A` as one array. -/
def keysOf (A : Args) : S12x77x32x768.Idx → EReal := fun y => A.keys (y 0) (y 1) (y 2) (y 3)

/-- Where a block of layer `l` and tile `τ` lies in the array. -/
def place (l : Fin 12) (τ : Fin 4) (x : S1x77x8x768.Idx) : S12x77x32x768.Idx := ix4 l (x 1) (batch τ (x 2)) (x 3)

theorem streamBlock_eq (A : Args) (l : Fin 12) (τ : Fin 4) (x : S1x77x8x768.Idx) : streamBlock A l τ x = streamsOf A (place l τ x) := rfl

theorem keyBlock_eq (A : Args) (l : Fin 12) (τ : Fin 4) (x : S1x77x8x768.Idx) : keyBlock A l τ x = keysOf A (place l τ x) := rfl

theorem final_streams : (dats m 0 c).arrAt 18 cfg0.N = streamsOf (argsOf m c) := by
  refine (dats m 0 c).arrAt_eq_of_covers 18 _ (by decide +kernel) fun t hf y => ?_
  blk_simp
  rw [after0_18]
  refine (streamBlock_eq _ _ _ _).trans (congrArg (streamsOf (argsOf m c)) ?_)
  unfold place batch
  blk_ext [idx18 t]

theorem final_keys : (dats m 0 c).arrAt 19 cfg0.N = keysOf (argsOf m c) := by
  refine (dats m 0 c).arrAt_eq_of_covers 19 _ (by decide +kernel) fun t hf y => ?_
  blk_simp
  rw [after0_19]
  refine (keyBlock_eq _ _ _ _).trans (congrArg (keysOf (argsOf m c)) ?_)
  unfold place batch
  blk_ext [idx19 t]

end Cert.KernelIdeal.Rows
-- ==== Proof.RefRows.lean ====
/- What one trip of the reference's loop computes, read row by row. -/
module

public import proofs.«01_k».proof.Proof.Gen.ReferenceIdeal.Skeleton
public import proofs.«01_k».proof.Proof.RowMath

@[expose] public section

set_option maxRecDepth 16384

noncomputable section

namespace Cert.ReferenceIdeal.Rows

open Cert.ReferenceIdeal Cert.ReferenceIdeal.Gen Cert.Rows Idealize.ShloMosaic

/-- The stream before the first trip: row `s · 32 + b` is row `(s, b)` of the argument. -/
theorem init_row (v : Vec Ideal S77x32x768 .f32) (r : Fin 2464) (d : Fin 768) :
    k0_pay1 (F := Ideal) v (ix2 r d) = v (ix3 ⟨r.val / 32, by omega⟩ ⟨r.val % 32, by omega⟩ d) := by
  pointwise [k0_pay1]

/-- The keys of a trip. -/
theorem key_row (x : FVec Ideal S2464x768 .f32) (g b : Vec Ideal S1x768 .f32) (w : Vec Ideal S1x768x2304 .i8)
    (s bb : Vec Ideal S1x2304 .f32) (r : Fin 2464) (d : Fin 768) :
    k0_pay4 (F := Ideal) x g b w s bb (ix2 r d)
      = lin (fun k j => word (w (ix3 0 k j))) (fun j => s (ix2 0 j)) (fun j => bb (ix2 0 j))
          (ln (fun k => g (ix2 0 k)) (fun k => b (ix2 0 k)) (fun k => x (ix2 r k))) (keyCol d) := by
  pointwise [k0_pay4]
  rfl

/-- The keys as they are stored. -/
theorem key_store (v : FVec Ideal S2464x768 .f32) (s : Fin 77) (b : Fin 32) (d : Fin 768) :
    k0_pay5 (F := Ideal) v (ix4 0 s b d) = v (ix2 ⟨s.val * 32 + b.val, by omega⟩ d) := by
  pointwise [k0_pay5]

/-- The stream after the attention's projection. -/
theorem mid_row (x : FVec Ideal S2464x768 .f32) (a : Vec Ideal S1x77x32x768 .bf16) (w : Vec Ideal S1x768x768 .i8)
    (s bb : Vec Ideal S1x768 .f32) (r : Fin 2464) (d : Fin 768) :
    k0_pay6 (F := Ideal) x a w s bb (ix2 r d)
      = x (ix2 r d) + lin (fun k j => word (w (ix3 0 k j))) (fun j => s (ix2 0 j)) (fun j => bb (ix2 0 j))
          (fun k => a (ix4 0 ⟨r.val / 32, by omega⟩ ⟨r.val % 32, by omega⟩ k)) d := by
  pointwise [k0_pay6]
  rfl

/-- The stream after the feed-forward block. -/
theorem out_row (x : FVec Ideal S2464x768 .f32) (a : Vec Ideal S1x77x32x768 .bf16) (w : Vec Ideal S1x768x768 .i8)
    (s bb g2 b2 : Vec Ideal S1x768 .f32) (w1 : Vec Ideal S1x768x3072 .i8) (s1 bb1 : Vec Ideal S1x3072 .f32)
    (w2 : Vec Ideal S1x3072x768 .i8) (s2 bb2 : Vec Ideal S1x768 .f32) (r : Fin 2464) (d : Fin 768) :
    k0_pay2 (F := Ideal) (k0_pay6 x a w s bb)
        (k0_pay11 (k0_pay7 g2) (k0_pay8 b2) (k0_pay9 x a w s bb) (k0_pay10 x a w s bb) w1 s1 bb1 w2 s2) bb2 (ix2 r d)
      = k0_pay6 x a w s bb (ix2 r d)
        + lin (fun k j => word (w2 (ix3 0 k j))) (fun j => s2 (ix2 0 j)) (fun j => bb2 (ix2 0 j))
          (fun i => gate (lin (fun k j => word (w1 (ix3 0 k j))) (fun j => s1 (ix2 0 j)) (fun j => bb1 (ix2 0 j))
            (ln (fun k => g2 (ix2 0 k)) (fun k => b2 (ix2 0 k)) (fun k => k0_pay6 x a w s bb (ix2 r k))) i)) d := by
  pointwise [k0_pay2, k0_pay7, k0_pay8, k0_pay9, k0_pay10, k0_pay11]
  rfl

/-- The stream as it is stored. -/
theorem out_store (x y : FVec Ideal S2464x768 .f32) (bb : Vec Ideal S1x768 .f32) (s : Fin 77) (b : Fin 32) (d : Fin 768) :
    k0_pay3 (F := Ideal) x y bb (ix4 0 s b d) = k0_pay2 x y bb (ix2 ⟨s.val * 32 + b.val, by omega⟩ d) := by
  pointwise [k0_pay3]

end Cert.ReferenceIdeal.Rows
-- ==== Proof.RefTrip.lean ====
/- One trip of the reference's loop is one layer on every row, so the loop's carried value and the pieces it has stored are
   the rows `Args.before`, `Args.streams`, `Args.keys` speak of. -/
module

public import proofs.«01_k».proof.Proof.Gen.ReferenceIdeal.Loops
public import proofs.«01_k».proof.Proof.RefRows
public import Idealize.ShloMosaic.Lib.WholeRead
public import proofs.«01_k».proof.Proof.Spec

@[expose] public section

set_option maxRecDepth 16384
set_option maxHeartbeats 4000000

noncomputable section

namespace Cert.ReferenceIdeal.Rows

open Cert.ReferenceIdeal Cert.ReferenceIdeal.Gen Cert.Rows Idealize.ShloMosaic

/-- Row `l` of a table of twelve rows, loaded. -/
theorem load2 {n : ℕ} {e : EltTy} (m : Memref sig .tc .vmem ⟨2, ![12, n]⟩ e) (h : m.IsWhole)
    (x : (⟨2, ![12, n]⟩ : Shape).Idx → Elt Ideal e) (l : ℕ) (hl : l < 12) {off : Fin 2 → ℕ} (ho : off = ![l, 0])
    (inb : ∀ a, off a + (![1, n] : Fin 2 → ℕ) a ≤ (![12, n] : Fin 2 → ℕ) a) (d : Fin n) :
    View.readAt (Elt Ideal) m.view (Rect.unit (s := ⟨2, ![12, n]⟩) off ![1, n] inb).toLoadRect (h.unread x) (ix2 0 d)
      = x (ix2 (lay l) d) := by
  subst ho
  refine (h.readAt_unread x _ _).trans (congrArg x (funext fun a => Fin.ext ?_))
  have := Nat.mod_eq_of_lt hl
  match a with
  | ⟨0, _⟩ => show l + 1 * 0 = l % 12; omega
  | ⟨1, _⟩ => show 0 + 1 * d.val = d.val; omega

/-- Matrix `l` of a table of twelve matrices, loaded. -/
theorem load3 {n p : ℕ} {e : EltTy} (m : Memref sig .tc .vmem ⟨3, ![12, n, p]⟩ e) (h : m.IsWhole)
    (x : (⟨3, ![12, n, p]⟩ : Shape).Idx → Elt Ideal e) (l : ℕ) (hl : l < 12) {off : Fin 3 → ℕ} (ho : off = ![l, 0, 0])
    (inb : ∀ a, off a + (![1, n, p] : Fin 3 → ℕ) a ≤ (![12, n, p] : Fin 3 → ℕ) a) (k : Fin n) (d : Fin p) :
    View.readAt (Elt Ideal) m.view (Rect.unit (s := ⟨3, ![12, n, p]⟩) off ![1, n, p] inb).toLoadRect (h.unread x) (ix3 0 k d)
      = x (ix3 (lay l) k d) := by
  subst ho
  refine (h.readAt_unread x _ _).trans (congrArg x (funext fun a => Fin.ext ?_))
  have := Nat.mod_eq_of_lt hl
  match a with
  | ⟨0, _⟩ => show l + 1 * 0 = l % 12; omega
  | ⟨1, _⟩ => show 0 + 1 * k.val = k.val; omega
  | ⟨2, _⟩ => show 0 + 1 * d.val = d.val; omega

/-- Slab `l` of a table of twelve slabs, loaded. -/
theorem load4 {n p q : ℕ} {e : EltTy} (m : Memref sig .tc .vmem ⟨4, ![12, n, p, q]⟩ e) (h : m.IsWhole)
    (x : (⟨4, ![12, n, p, q]⟩ : Shape).Idx → Elt Ideal e) (l : ℕ) (hl : l < 12) {off : Fin 4 → ℕ} (ho : off = ![l, 0, 0, 0])
    (inb : ∀ a, off a + (![1, n, p, q] : Fin 4 → ℕ) a ≤ (![12, n, p, q] : Fin 4 → ℕ) a) (k : Fin n) (j : Fin p) (d : Fin q) :
    View.readAt (Elt Ideal) m.view (Rect.unit (s := ⟨4, ![12, n, p, q]⟩) off ![1, n, p, q] inb).toLoadRect (h.unread x) (ix4 0 k j d)
      = x (ix4 (lay l) k j d) := by
  subst ho
  refine (h.readAt_unread x _ _).trans (congrArg x (funext fun a => Fin.ext ?_))
  have := Nat.mod_eq_of_lt hl
  match a with
  | ⟨0, _⟩ => show l + 1 * 0 = l % 12; omega
  | ⟨1, _⟩ => show 0 + 1 * k.val = k.val; omega
  | ⟨2, _⟩ => show 0 + 1 * j.val = j.val; omega
  | ⟨3, _⟩ => show 0 + 1 * d.val = d.val; omega

/-- Where slab `l` lies in a table of twelve slabs. -/
theorem emb4 {n p q : ℕ} (l : ℕ) (hl : l < 12) {off : Fin 4 → ℕ} (ho : off = ![l, 0, 0, 0])
    (inb : ∀ a, off a + (![1, n, p, q] : Fin 4 → ℕ) a ≤ (![12, n, p, q] : Fin 4 → ℕ) a) (k : Fin n) (j : Fin p) (d : Fin q) :
    (Rect.unit (s := ⟨4, ![12, n, p, q]⟩) off ![1, n, p, q] inb).emb (ix4 0 k j d) = ix4 (lay l) k j d := by
  subst ho
  refine funext fun a => Fin.ext ?_
  have := Nat.mod_eq_of_lt hl
  match a with
  | ⟨0, _⟩ => show l + 1 * 0 = l % 12; omega
  | ⟨1, _⟩ => show 0 + 1 * k.val = k.val; omega
  | ⟨2, _⟩ => show 0 + 1 * j.val = j.val; omega
  | ⟨3, _⟩ => show 0 + 1 * d.val = d.val; omega

variable (𝒱 : Variants) (c : Dev nD) (bd : Option 𝒱.V) (arg0 : Memref sig .tc .vmem S77x32x768 .f32) (harg0 : arg0.IsWhole) (arg1 : Memref sig .tc .vmem S12x77x32x768 .bf16) (harg1 : arg1.IsWhole) (arg2 : Memref sig .tc .vmem S12x768 .f32) (harg2 : arg2.IsWhole) (arg3 : Memref sig .tc .vmem S12x768 .f32) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768x2304 .i8) (harg6 : arg6.IsWhole) (arg7 : Memref sig .tc .vmem S12x2304 .f32) (harg7 : arg7.IsWhole) (arg8 : Memref sig .tc .vmem S12x2304 .f32) (harg8 : arg8.IsWhole) (arg9 : Memref sig .tc .vmem S12x768x768 .i8) (harg9 : arg9.IsWhole) (arg10 : Memref sig .tc .vmem S12x768 .f32) (harg10 : arg10.IsWhole) (arg11 : Memref sig .tc .vmem S12x768 .f32) (harg11 : arg11.IsWhole) (arg12 : Memref sig .tc .vmem S12x768x3072 .i8) (harg12 : arg12.IsWhole) (arg13 : Memref sig .tc .vmem S12x3072 .f32) (harg13 : arg13.IsWhole) (arg14 : Memref sig .tc .vmem S12x3072 .f32) (harg14 : arg14.IsWhole) (arg15 : Memref sig .tc .vmem S12x3072x768 .i8) (harg15 : arg15.IsWhole) (arg16 : Memref sig .tc .vmem S12x768 .f32) (harg16 : arg16.IsWhole) (arg17 : Memref sig .tc .vmem S12x768 .f32) (harg17 : arg17.IsWhole) (arg18 : Memref sig .tc .vmem S12x77x32x768 .f32) (harg18 : arg18.IsWhole) (arg19 : Memref sig .tc .vmem S12x77x32x768 .bf16) (harg19 : arg19.IsWhole)
  (x0 : Vec Ideal S77x32x768 .f32) (x1 : Vec Ideal S12x77x32x768 .bf16) (x2 : Vec Ideal S12x768 .f32) (x3 : Vec Ideal S12x768 .f32) (x4 : Vec Ideal S12x768 .f32) (x5 : Vec Ideal S12x768 .f32) (x6 : Vec Ideal S12x768x2304 .i8) (x7 : Vec Ideal S12x2304 .f32) (x8 : Vec Ideal S12x2304 .f32) (x9 : Vec Ideal S12x768x768 .i8) (x10 : Vec Ideal S12x768 .f32) (x11 : Vec Ideal S12x768 .f32) (x12 : Vec Ideal S12x768x3072 .i8) (x13 : Vec Ideal S12x3072 .f32) (x14 : Vec Ideal S12x3072 .f32) (x15 : Vec Ideal S12x3072x768 .i8) (x16 : Vec Ideal S12x768 .f32) (x17 : Vec Ideal S12x768 .f32) (k : Fin k0_t1_loop.trips) (acc : FVec Ideal S2464x768 .f32)

/-- What a trip yields: one layer on every row. -/
theorem trip_row (r : Fin 2464) (d : Fin 768) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc (ix2 r d)
      = layerRow ((⟨x0, x1, x2, x3, x4, x5, x6, x7, x8, x9, x10, x11, x12, x13, x14, x15, x16, x17⟩ : Args).layer (lay k.val)) (fun k => acc (ix2 r k))
          (fun j => x1 (ix4 (lay k.val) ⟨r.val / 32, by omega⟩ ⟨r.val % 32, by omega⟩ j)) d := by
  have hk : k.val < 12 := Nat.lt_of_lt_of_le k.isLt k0_t1_abs.2.1
  unfold tripR_k0_t1 trip_k0_t1
  sl_unfold_run_names
  dsimp only
  refine (out_row acc _ _ _ _ _ _ _ _ _ _ _ _ r d).trans ?_
  simp only [mid_row, load4 arg1 harg1 x1 k.val hk (k0_off4_eq k), load2 arg2 harg2 x2 k.val hk (k0_off1_eq k), load2 arg3 harg3 x3 k.val hk (k0_off1_eq k), load2 arg4 harg4 x4 k.val hk (k0_off1_eq k), load2 arg5 harg5 x5 k.val hk (k0_off1_eq k), load3 arg6 harg6 x6 k.val hk (k0_off2_eq k), load2 arg7 harg7 x7 k.val hk (k0_off3_eq k), load2 arg8 harg8 x8 k.val hk (k0_off3_eq k), load3 arg9 harg9 x9 k.val hk (k0_off5_eq k), load2 arg10 harg10 x10 k.val hk (k0_off1_eq k), load2 arg11 harg11 x11 k.val hk (k0_off1_eq k), load3 arg12 harg12 x12 k.val hk (k0_off6_eq k), load2 arg13 harg13 x13 k.val hk (k0_off7_eq k), load2 arg14 harg14 x14 k.val hk (k0_off7_eq k), load3 arg15 harg15 x15 k.val hk (k0_off8_eq k), load2 arg16 harg16 x16 k.val hk (k0_off1_eq k), load2 arg17 harg17 x17 k.val hk (k0_off1_eq k)]
  rfl

/-- A row number taken apart and put together. -/
theorem row_div (s : Fin 77) (b : Fin 32) : (s.val * 32 + b.val) / 32 = s.val := by omega
theorem row_mod (s : Fin 77) (b : Fin 32) : (s.val * 32 + b.val) % 32 = b.val := by omega

/-- An index of one slab, by its coordinates. -/
theorem idx4 {n p q : ℕ} (x : (⟨4, ![1, n, p, q]⟩ : Shape).Idx) : ∃ (s : Fin n) (b : Fin p) (d : Fin q), x = ix4 0 s b d :=
  ⟨x 1, x 2, x 3, funext fun a => match a with
    | ⟨0, _⟩ => Fin.ext (by have : (x 0).val < 1 := (x 0).isLt; show (x 0).val = 0; omega)
    | ⟨1, _⟩ => rfl | ⟨2, _⟩ => rfl | ⟨3, _⟩ => rfl⟩

/-- The streams of `A` as one array. -/
def streamsOf (A : Args) : S12x77x32x768.Idx → EReal := fun y => A.streams (y 0) (y 1) (y 2) (y 3)

/-- The keys of `A` as one array. -/
def keysOf (A : Args) : S12x77x32x768.Idx → EReal := fun y => A.keys (y 0) (y 1) (y 2) (y 3)

/-- The carried value before trip `l`: the rows before layer `l`. -/
def Carried (A : Args) (l : ℕ) (acc : FVec Ideal S2464x768 .f32) : Prop :=
  ∀ (r : Fin 2464) (d : Fin 768), acc (ix2 r d) = A.before l ⟨r.val / 32, by omega⟩ ⟨r.val % 32, by omega⟩ d

/-- The pieces agree with one array. -/
def Agree {e : EltTy} (G : S12x77x32x768.Idx → Elt Ideal e) (L : List (View.Piece (Elt Ideal) S12x77x32x768 e)) : Prop :=
  ∀ p ∈ L, ∀ x : p.1.shape.Idx, p.2 x = G (p.1.emb x)

theorem trip_carried (h : Carried (⟨x0, x1, x2, x3, x4, x5, x6, x7, x8, x9, x10, x11, x12, x13, x14, x15, x16, x17⟩ : Args) k.val acc) :
    Carried (⟨x0, x1, x2, x3, x4, x5, x6, x7, x8, x9, x10, x11, x12, x13, x14, x15, x16, x17⟩ : Args) (k.val + 1) (tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc) := by
  intro r d
  rw [trip_row 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 k acc r d, Args.before_succ]
  simp only [h r]

/-- What a trip stores into the streams. -/
theorem trip_streams (h : Carried (⟨x0, x1, x2, x3, x4, x5, x6, x7, x8, x9, x10, x11, x12, x13, x14, x15, x16, x17⟩ : Args) k.val acc) :
    Agree (e := .f32) (streamsOf (⟨x0, x1, x2, x3, x4, x5, x6, x7, x8, x9, x10, x11, x12, x13, x14, x15, x16, x17⟩ : Args)) (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc).1 := by
  have hk : k.val < 12 := Nat.lt_of_lt_of_le k.isLt k0_t1_abs.2.1
  have key := trip_carried 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 k acc h
  revert key
  unfold tripR_k0_t1 tripL_k0_t1 trip_k0_t1
  dsimp only
  intro key p hp x
  obtain rfl := List.mem_singleton.1 hp
  obtain ⟨s, b, d, rfl⟩ := idx4 x
  refine (out_store _ _ _ s b d).trans ((key _ d).trans ?_)
  rw [emb4 k.val hk (k0_off4_eq k)]
  have e : (lay k.val).val = k.val := Nat.mod_eq_of_lt hk
  show _ = Args.before (⟨x0, x1, x2, x3, x4, x5, x6, x7, x8, x9, x10, x11, x12, x13, x14, x15, x16, x17⟩ : Args) ((lay k.val).val + 1) s b d
  simp only [row_div, row_mod, e]

/-- What a trip stores into the keys. -/
theorem trip_keys (h : Carried (⟨x0, x1, x2, x3, x4, x5, x6, x7, x8, x9, x10, x11, x12, x13, x14, x15, x16, x17⟩ : Args) k.val acc) :
    Agree (e := .bf16) (keysOf (⟨x0, x1, x2, x3, x4, x5, x6, x7, x8, x9, x10, x11, x12, x13, x14, x15, x16, x17⟩ : Args)) (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc).2 := by
  have hk : k.val < 12 := Nat.lt_of_lt_of_le k.isLt k0_t1_abs.2.1
  unfold tripL_k0_t1 trip_k0_t1
  sl_unfold_run_names
  dsimp only
  intro p hp x
  obtain rfl := List.mem_singleton.1 hp
  obtain ⟨s, b, d, rfl⟩ := idx4 x
  refine (key_store _ s b d).trans ?_
  rw [emb4 k.val hk (k0_off4_eq k)]
  refine (key_row acc _ _ _ _ _ _ d).trans ?_
  simp only [h _ _, row_div, row_mod, load4 arg1 harg1 x1 k.val hk (k0_off4_eq k), load2 arg2 harg2 x2 k.val hk (k0_off1_eq k), load2 arg3 harg3 x3 k.val hk (k0_off1_eq k), load2 arg4 harg4 x4 k.val hk (k0_off1_eq k), load2 arg5 harg5 x5 k.val hk (k0_off1_eq k), load3 arg6 harg6 x6 k.val hk (k0_off2_eq k), load2 arg7 harg7 x7 k.val hk (k0_off3_eq k), load2 arg8 harg8 x8 k.val hk (k0_off3_eq k), load3 arg9 harg9 x9 k.val hk (k0_off5_eq k), load2 arg10 harg10 x10 k.val hk (k0_off1_eq k), load2 arg11 harg11 x11 k.val hk (k0_off1_eq k), load3 arg12 harg12 x12 k.val hk (k0_off6_eq k), load2 arg13 harg13 x13 k.val hk (k0_off7_eq k), load2 arg14 harg14 x14 k.val hk (k0_off7_eq k), load3 arg15 harg15 x15 k.val hk (k0_off8_eq k), load2 arg16 harg16 x16 k.val hk (k0_off1_eq k), load2 arg17 harg17 x17 k.val hk (k0_off1_eq k)]
  have e : (lay k.val).val = k.val := Nat.mod_eq_of_lt hk
  show _ = keyRow (Args.layer (⟨x0, x1, x2, x3, x4, x5, x6, x7, x8, x9, x10, x11, x12, x13, x14, x15, x16, x17⟩ : Args) (lay k.val)) (Args.before (⟨x0, x1, x2, x3, x4, x5, x6, x7, x8, x9, x10, x11, x12, x13, x14, x15, x16, x17⟩ : Args) (lay k.val).val s b) d
  rw [e]
  rfl

variable (init : FVec Ideal S2464x768 .f32)

/-- Before trip `l` the loop carries the rows before layer `l`, and all it has stored are the streams and the keys. -/
theorem state_rows (h0 : Carried (⟨x0, x1, x2, x3, x4, x5, x6, x7, x8, x9, x10, x11, x12, x13, x14, x15, x16, x17⟩ : Args) 0 init) (l : ℕ) (hl : l ≤ k0_t1_loop.trips) :
    Carried (⟨x0, x1, x2, x3, x4, x5, x6, x7, x8, x9, x10, x11, x12, x13, x14, x15, x16, x17⟩ : Args) l (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) init l).1
      ∧ Agree (e := .f32) (streamsOf (⟨x0, x1, x2, x3, x4, x5, x6, x7, x8, x9, x10, x11, x12, x13, x14, x15, x16, x17⟩ : Args)) (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) init l).2.1
      ∧ Agree (e := .bf16) (keysOf (⟨x0, x1, x2, x3, x4, x5, x6, x7, x8, x9, x10, x11, x12, x13, x14, x15, x16, x17⟩ : Args)) (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) init l).2.2 := by
  induction l with
  | zero => exact ⟨h0, fun p hp => absurd hp List.not_mem_nil, fun p hp => absurd hp List.not_mem_nil⟩
  | succ l ih =>
    obtain ⟨hc, hs, hk⟩ := ih (Nat.le_of_succ_le hl)
    have e := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) init ⟨l, hl⟩
    rw [e]
    refine ⟨?_, fun p hp => ?_, fun p hp => ?_⟩
    · exact trip_carried 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ⟨l, hl⟩ _ hc
    · rcases List.mem_append.1 hp with hp | hp
      · exact trip_streams 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ⟨l, hl⟩ _ hc p hp
      · exact hs p hp
    · rcases List.mem_append.1 hp with hp | hp
      · exact trip_keys 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ⟨l, hl⟩ _ hc p hp
      · exact hk p hp

end Cert.ReferenceIdeal.Rows
-- ==== Proof.RefValue.lean ====
/- What the reference leaves in its two result arrays: the streams and the keys of `Args`. -/
module

public import proofs.«01_k».proof.Proof.Gen.ReferenceIdeal.Value
public import proofs.«01_k».proof.Proof.RefTrip
public import Idealize.ShloMosaic.Lib.Pipeline.ValueKit

@[expose] public section

set_option maxRecDepth 16384
set_option maxHeartbeats 4000000

noncomputable section

namespace Cert.ReferenceIdeal.Rows

open Cert.ReferenceIdeal Cert.ReferenceIdeal.Gen Cert.Rows Idealize.ShloMosaic Idealize.ShloMosaic.TcCoe

section run

variable (c : Dev nD) (arg0 : Memref sig .tc .vmem S77x32x768 .f32) (harg0 : arg0.IsWhole) (arg1 : Memref sig .tc .vmem S12x77x32x768 .bf16) (harg1 : arg1.IsWhole) (arg2 : Memref sig .tc .vmem S12x768 .f32) (harg2 : arg2.IsWhole) (arg3 : Memref sig .tc .vmem S12x768 .f32) (harg3 : arg3.IsWhole) (arg4 : Memref sig .tc .vmem S12x768 .f32) (harg4 : arg4.IsWhole) (arg5 : Memref sig .tc .vmem S12x768 .f32) (harg5 : arg5.IsWhole) (arg6 : Memref sig .tc .vmem S12x768x2304 .i8) (harg6 : arg6.IsWhole) (arg7 : Memref sig .tc .vmem S12x2304 .f32) (harg7 : arg7.IsWhole) (arg8 : Memref sig .tc .vmem S12x2304 .f32) (harg8 : arg8.IsWhole) (arg9 : Memref sig .tc .vmem S12x768x768 .i8) (harg9 : arg9.IsWhole) (arg10 : Memref sig .tc .vmem S12x768 .f32) (harg10 : arg10.IsWhole) (arg11 : Memref sig .tc .vmem S12x768 .f32) (harg11 : arg11.IsWhole) (arg12 : Memref sig .tc .vmem S12x768x3072 .i8) (harg12 : arg12.IsWhole) (arg13 : Memref sig .tc .vmem S12x3072 .f32) (harg13 : arg13.IsWhole) (arg14 : Memref sig .tc .vmem S12x3072 .f32) (harg14 : arg14.IsWhole) (arg15 : Memref sig .tc .vmem S12x3072x768 .i8) (harg15 : arg15.IsWhole) (arg16 : Memref sig .tc .vmem S12x768 .f32) (harg16 : arg16.IsWhole) (arg17 : Memref sig .tc .vmem S12x768 .f32) (harg17 : arg17.IsWhole) (arg18 : Memref sig .tc .vmem S12x77x32x768 .f32) (harg18 : arg18.IsWhole) (arg19 : Memref sig .tc .vmem S12x77x32x768 .bf16) (harg19 : arg19.IsWhole)
  (x0 : Vec Ideal S77x32x768 .f32) (x1 : Vec Ideal S12x77x32x768 .bf16) (x2 : Vec Ideal S12x768 .f32) (x3 : Vec Ideal S12x768 .f32) (x4 : Vec Ideal S12x768 .f32) (x5 : Vec Ideal S12x768 .f32) (x6 : Vec Ideal S12x768x2304 .i8) (x7 : Vec Ideal S12x2304 .f32) (x8 : Vec Ideal S12x2304 .f32) (x9 : Vec Ideal S12x768x768 .i8) (x10 : Vec Ideal S12x768 .f32) (x11 : Vec Ideal S12x768 .f32) (x12 : Vec Ideal S12x768x3072 .i8) (x13 : Vec Ideal S12x3072 .f32) (x14 : Vec Ideal S12x3072 .f32) (x15 : Vec Ideal S12x3072x768 .i8) (x16 : Vec Ideal S12x768 .f32) (x17 : Vec Ideal S12x768 .f32)

/-- The loop starts from the embedded tokens. -/
theorem init_carried (inb : ∀ a, (![0, 0, 0] : Fin 3 → ℕ) a + S77x32x768.size a ≤ S77x32x768.size a) : Carried (⟨x0, x1, x2, x3, x4, x5, x6, x7, x8, x9, x10, x11, x12, x13, x14, x15, x16, x17⟩ : Args) 0 (k0_pay1 (F := Ideal) (View.readAt (Elt Ideal) arg0.view (Rect.unit (s := S77x32x768) ![0, 0, 0] S77x32x768.size inb).toLoadRect (harg0.unread x0))) := by
  intro r d
  refine (init_row _ r d).trans ?_
  refine (harg0.readAt_unread x0 _ _).trans (congrArg x0 (funext fun a => Fin.ext ?_))
  match a with
  | ⟨0, _⟩ => show 0 + 1 * (r.val / 32) = r.val / 32; omega
  | ⟨1, _⟩ => show 0 + 1 * (r.val % 32) = r.val % 32; omega
  | ⟨2, _⟩ => show 0 + 1 * d.val = d.val; omega

/-- All the run stores are streams -/
theorem run_streams : Agree (e := .f32) (streamsOf (⟨x0, x1, x2, x3, x4, x5, x6, x7, x8, x9, x10, x11, x12, x13, x14, x15, x16, x17⟩ : Args)) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17).1 := by
  unfold kernelRun0_A
  dsimp only
  exact (state_rows _ c _ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 _ (init_carried arg0 harg0 x0 x1 x2 x3 x4 x5 x6 x7 x8 x9 x10 x11 x12 x13 x14 x15 x16 x17 _) _ le_rfl).2.1

/-- and keys. -/
theorem run_keys : Agree (e := .bf16) (keysOf (⟨x0, x1, x2, x3, x4, x5, x6, x7, x8, x9, x10, x11, x12, x13, x14, x15, x16, x17⟩ : Args)) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17).2.1 := by
  unfold kernelRun0_A
  dsimp only
  exact (state_rows _ c _ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 _ (init_carried arg0 harg0 x0 x1 x2 x3 x4 x5 x6 x7 x8 x9 x10 x11 x12 x13 x14 x15 x16 x17 _) _ le_rfl).2.2

theorem out_streams : out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 = streamsOf (⟨x0, x1, x2, x3, x4, x5, x6, x7, x8, x9, x10, x11, x12, x13, x14, x15, x16, x17⟩ : Args) := by
  funext y
  unfold out0_A_18
  exact View.read_writes_apply_of_pieces _ _ _ _ (run_streams c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17) y (cover0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 y)

theorem out_keys : out0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 = keysOf (⟨x0, x1, x2, x3, x4, x5, x6, x7, x8, x9, x10, x11, x12, x13, x14, x15, x16, x17⟩ : Args) := by
  funext y
  unfold out0_A_19
  exact View.read_writes_apply_of_pieces _ _ _ _ (run_keys c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17) y (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 y)

end run

variable (m : (ℓ : Loc nD τ sig) → Buf (Elt Ideal) ℓ) (c : Dev nD)

/-- The argument arrays as the region finds them. -/
def argsOf : Args where
  x0 := V m c main_arg0
  attn := V m c main_arg1
  g1 := V m c main_arg2
  b1 := V m c main_arg3
  g2 := V m c main_arg4
  b2 := V m c main_arg5
  wqkv := V m c main_arg6
  sqkv := V m c main_arg7
  bqkv := V m c main_arg8
  wo := V m c main_arg9
  so := V m c main_arg10
  bo := V m c main_arg11
  w1 := V m c main_arg12
  s1 := V m c main_arg13
  bb1 := V m c main_arg14
  w2 := V m c main_arg15
  s2 := V m c main_arg16
  bb2 := V m c main_arg17

theorem whole0 (t : Fin cfg0.N) : iblk m c 0 t = V m c main_arg0 := by
  have e : win0_0.index t = ![0, 0, 0] := (by decide +kernel : ∀ t : Fin grid0.N, win0_0.index t = ![0, 0, 0]) t
  funext x
  blk_ext [iblk, e]

theorem whole1 (t : Fin cfg0.N) : iblk m c 1 t = V m c main_arg1 := by
  have e : win0_1.index t = ![0, 0, 0, 0] := (by decide +kernel : ∀ t : Fin grid0.N, win0_1.index t = ![0, 0, 0, 0]) t
  funext x
  blk_ext [iblk, e]

theorem whole2 (t : Fin cfg0.N) : iblk m c 2 t = V m c main_arg2 := by
  have e : win0_2.index t = ![0, 0] := (by decide +kernel : ∀ t : Fin grid0.N, win0_2.index t = ![0, 0]) t
  funext x
  blk_ext [iblk, e]

theorem whole3 (t : Fin cfg0.N) : iblk m c 3 t = V m c main_arg3 := by
  have e : win0_3.index t = ![0, 0] := (by decide +kernel : ∀ t : Fin grid0.N, win0_3.index t = ![0, 0]) t
  funext x
  blk_ext [iblk, e]

theorem whole4 (t : Fin cfg0.N) : iblk m c 4 t = V m c main_arg4 := by
  have e : win0_4.index t = ![0, 0] := (by decide +kernel : ∀ t : Fin grid0.N, win0_4.index t = ![0, 0]) t
  funext x
  blk_ext [iblk, e]

theorem whole5 (t : Fin cfg0.N) : iblk m c 5 t = V m c main_arg5 := by
  have e : win0_5.index t = ![0, 0] := (by decide +kernel : ∀ t : Fin grid0.N, win0_5.index t = ![0, 0]) t
  funext x
  blk_ext [iblk, e]

theorem whole6 (t : Fin cfg0.N) : iblk m c 6 t = V m c main_arg6 := by
  have e : win0_6.index t = ![0, 0, 0] := (by decide +kernel : ∀ t : Fin grid0.N, win0_6.index t = ![0, 0, 0]) t
  funext x
  blk_ext [iblk, e]

theorem whole7 (t : Fin cfg0.N) : iblk m c 7 t = V m c main_arg7 := by
  have e : win0_7.index t = ![0, 0] := (by decide +kernel : ∀ t : Fin grid0.N, win0_7.index t = ![0, 0]) t
  funext x
  blk_ext [iblk, e]

theorem whole8 (t : Fin cfg0.N) : iblk m c 8 t = V m c main_arg8 := by
  have e : win0_8.index t = ![0, 0] := (by decide +kernel : ∀ t : Fin grid0.N, win0_8.index t = ![0, 0]) t
  funext x
  blk_ext [iblk, e]

theorem whole9 (t : Fin cfg0.N) : iblk m c 9 t = V m c main_arg9 := by
  have e : win0_9.index t = ![0, 0, 0] := (by decide +kernel : ∀ t : Fin grid0.N, win0_9.index t = ![0, 0, 0]) t
  funext x
  blk_ext [iblk, e]

theorem whole10 (t : Fin cfg0.N) : iblk m c 10 t = V m c main_arg10 := by
  have e : win0_10.index t = ![0, 0] := (by decide +kernel : ∀ t : Fin grid0.N, win0_10.index t = ![0, 0]) t
  funext x
  blk_ext [iblk, e]

theorem whole11 (t : Fin cfg0.N) : iblk m c 11 t = V m c main_arg11 := by
  have e : win0_11.index t = ![0, 0] := (by decide +kernel : ∀ t : Fin grid0.N, win0_11.index t = ![0, 0]) t
  funext x
  blk_ext [iblk, e]

theorem whole12 (t : Fin cfg0.N) : iblk m c 12 t = V m c main_arg12 := by
  have e : win0_12.index t = ![0, 0, 0] := (by decide +kernel : ∀ t : Fin grid0.N, win0_12.index t = ![0, 0, 0]) t
  funext x
  blk_ext [iblk, e]

theorem whole13 (t : Fin cfg0.N) : iblk m c 13 t = V m c main_arg13 := by
  have e : win0_13.index t = ![0, 0] := (by decide +kernel : ∀ t : Fin grid0.N, win0_13.index t = ![0, 0]) t
  funext x
  blk_ext [iblk, e]

theorem whole14 (t : Fin cfg0.N) : iblk m c 14 t = V m c main_arg14 := by
  have e : win0_14.index t = ![0, 0] := (by decide +kernel : ∀ t : Fin grid0.N, win0_14.index t = ![0, 0]) t
  funext x
  blk_ext [iblk, e]

theorem whole15 (t : Fin cfg0.N) : iblk m c 15 t = V m c main_arg15 := by
  have e : win0_15.index t = ![0, 0, 0] := (by decide +kernel : ∀ t : Fin grid0.N, win0_15.index t = ![0, 0, 0]) t
  funext x
  blk_ext [iblk, e]

theorem whole16 (t : Fin cfg0.N) : iblk m c 16 t = V m c main_arg16 := by
  have e : win0_16.index t = ![0, 0] := (by decide +kernel : ∀ t : Fin grid0.N, win0_16.index t = ![0, 0]) t
  funext x
  blk_ext [iblk, e]

theorem whole17 (t : Fin cfg0.N) : iblk m c 17 t = V m c main_arg17 := by
  have e : win0_17.index t = ![0, 0] := (by decide +kernel : ∀ t : Fin grid0.N, win0_17.index t = ![0, 0]) t
  funext x
  blk_ext [iblk, e]

theorem final_streams : (dats m 0 c).arrAt 18 cfg0.N = streamsOf (argsOf m c) := by
  refine (dats m 0 c).arrAt_eq_of_covers 18 _ (by decide +kernel) fun t hf y => ?_
  have e : win0_18.index t = ![0, 0, 0, 0] := (by decide +kernel : ∀ t : Fin grid0.N, win0_18.index t = ![0, 0, 0, 0]) t
  have ho : (dats m 0 c).after 18 t = streamsOf (argsOf m c) := by
    rw [after0_18]
    simp only [outsAt0, whole0, whole1, whole2, whole3, whole4, whole5, whole6, whole7, whole8, whole9, whole10, whole11, whole12, whole13, whole14, whole15, whole16, whole17]
    exact out_streams c _ _ _ _ _ _ _ _ _ _ _ _ _ _ _ _ _ _ _ _ _ _ _ _ _ _ _ _ _ _ _ _ _ _ _ _ _ _ _ _ (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17)
  blk_simp
  rw [ho]
  refine congrArg (streamsOf (argsOf m c)) ?_
  blk_ext [e]

theorem final_keys : (dats m 0 c).arrAt 19 cfg0.N = keysOf (argsOf m c) := by
  refine (dats m 0 c).arrAt_eq_of_covers 19 _ (by decide +kernel) fun t hf y => ?_
  have e : win0_19.index t = ![0, 0, 0, 0] := (by decide +kernel : ∀ t : Fin grid0.N, win0_19.index t = ![0, 0, 0, 0]) t
  have ho : (dats m 0 c).after 19 t = keysOf (argsOf m c) := by
    rw [after0_19]
    simp only [outsAt0, whole0, whole1, whole2, whole3, whole4, whole5, whole6, whole7, whole8, whole9, whole10, whole11, whole12, whole13, whole14, whole15, whole16, whole17]
    exact out_keys c _ _ _ _ _ _ _ _ _ _ _ _ _ _ _ _ _ _ _ _ _ _ _ _ _ _ _ _ _ _ _ _ _ _ _ _ _ _ _ _ (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17)
  blk_simp
  rw [ho]
  refine congrArg (keysOf (argsOf m c)) ?_
  blk_ext [e]

end Cert.ReferenceIdeal.Rows
-- ==== Proof.OutBitsRuns.lean ====
/- What the runs of the outputs kernel's body share: the arrays the region finds, the block of each input, the condition of
   its conditional, the staging buffers. -/
module

public import proofs.«01_k».proof.Proof.Gen.Outputs.Launch
public import proofs.«01_k».proof.Proof.Gen.Outputs.Skeleton
public import proofs.«01_k».proof.Proof.Gen.Outputs.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Outputs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Outputs`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x77x32x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x32x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S77x32x768 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x77 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S77x32x768 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x77 .f32 := win0_7.stage (cfg0.slots t 7)
abbrev hs0_7 (t : Fin cfg0.N) : (ms0_7 t).IsWhole := hstage0_7 ((cfg0.slots t 7).cast nbuf0_7)

end Cert.Outputs.Gen

end
-- ==== Proof.OutBitsRunA.lean ====
/- The run of the outputs kernel's body at the first point, where it stores. -/
module

public import proofs.«01_k».proof.Proof.OutBitsRuns

@[expose] public section

-- membership in a rectangle of production extents (`View.cover_of_tiled`): the elaborator's structural look
-- recurses once per coordinate of the long axes
set_option maxRecDepth 16384

noncomputable section

namespace Cert.Outputs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4980000 in
/-- The body's triple IN CASE A (`scf.if` 0 taken: points 0): on whole staging memrefs — the inputs' at their contents,
    the FORGOTTEN outputs' (4, 5, 6, 7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x77x32x768 .f32) (harg2 : arg2.IsWhole) (arg3 : Memref sig .tc .vmem S1x77x32x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole) (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
    (x0 : Vec F S1x77x32x768 .f32) (x1 : Vec F S1x77x32x768 .f32) (x2 : Vec F S1x768 .f32) (x3 : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_outputs i arg2 harg2 arg3 harg3 arg4 harg4 arg5 harg5 arg6 harg6 arg7 harg7 arg8 harg8 arg9 harg9) K := by
    intro E K
    simp only [cc0_outputs_eq_skeleton]; unfold cc0_outputs_skel
    simp only [k0_part138_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part139_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

end Cert.Outputs.Gen

end
-- ==== Proof.OutBitsRunB.lean ====
/- The run of the outputs kernel's body at the other points, where it stores nothing. -/
module

public import proofs.«01_k».proof.Proof.OutBitsRunA

@[expose] public section

-- membership in a rectangle of production extents (`View.cover_of_tiled`): the elaborator's structural look
-- recurses once per coordinate of the long axes
set_option maxRecDepth 16384

noncomputable section

namespace Cert.Outputs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 23: 23 of 24): on whole staging memrefs — the inputs' at their contents,
    the FORGOTTEN outputs' (4, 5, 6, 7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x77x32x768 .f32) (harg2 : arg2.IsWhole) (arg3 : Memref sig .tc .vmem S1x77x32x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole) (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : ¬cond0_0 i)
    (x0 : Vec F S1x77x32x768 .f32) (x1 : Vec F S1x77x32x768 .f32) (x2 : Vec F S1x768 .f32) (x3 : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_outputs i arg2 harg2 arg3 harg3 arg4 harg4 arg5 harg5 arg6 harg6 arg7 harg7 arg8 harg8 arg9 harg9) K := by
    intro E K
    simp only [cc0_outputs_eq_skeleton]; unfold cc0_outputs_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

end Cert.Outputs.Gen

end
-- ==== Proof.OutBitsFrame.lean ====
/- The frame of the outputs kernel: the body at every point, with what the outputs hold forgotten. -/
module

public import proofs.«01_k».proof.Proof.OutBitsRunB
public import Idealize.ShloMosaic.Lib.Claim

@[expose] public section

-- membership in a rectangle of production extents (`View.cover_of_tiled`): the elaborator's structural look
-- recurses once per coordinate of the long axes
set_option maxRecDepth 16384

noncomputable section

namespace Cert.Outputs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  by_cases h0 : t.val % 24 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Outputs`'s statement (Defs.lean) at any `F` — Proof.lean cites it at `Bits`:
    `theorem Cert.Proof.claim : Cert.Claim := ⟨Cert.Outputs.Gen.facts, fun m ρ _ => Cert.Outputs.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Outputs.Gen

end
-- ==== Proof.OutIdealRuns.lean ====
/- What the runs of the ideal outputs kernel's body share. -/
module

public import proofs.«01_k».proof.Proof.Gen.OutputsIdeal.Launch
public import proofs.«01_k».proof.Proof.Gen.OutputsIdeal.Skeleton
public import proofs.«01_k».proof.Proof.Gen.OutputsIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OutputsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Outputs`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x77x32x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x77x32x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S77x32x768 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x77 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S77x32x768 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x77 .f32 := win0_7.stage (cfg0.slots t 7)
abbrev hs0_7 (t : Fin cfg0.N) : (ms0_7 t).IsWhole := hstage0_7 ((cfg0.slots t 7).cast nbuf0_7)

end Cert.OutputsIdeal.Gen

end
-- ==== Proof.OutIdealRunA.lean ====
/- The run of the ideal outputs kernel's body at the first point: the pieces its stores leave are the witness. -/
module

public import proofs.«01_k».proof.Proof.OutIdealRuns

@[expose] public section

-- membership in a rectangle of production extents (`View.cover_of_tiled`): the elaborator's structural look
-- recurses once per coordinate of the long axes
set_option maxRecDepth 16384

noncomputable section

namespace Cert.OutputsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4980000 in
/-- The pieces the body's stores leave in each output's buffer (last first) at the first point, with the proof that the body, its
    inputs' buffers at their contents and its outputs' at anything, runs to the continuation holding the inputs as they were
    and each output with its pieces written. -/
noncomputable def kernelRun0_A (c : Dev nD) (i : grid0.Coords) (arg2 : Memref sig .tc .vmem S1x77x32x768 .f32) (harg2 : arg2.IsWhole) (arg3 : Memref sig .tc .vmem S1x77x32x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole) (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
    (x0 : Vec F S1x77x32x768 .f32) (x1 : Vec F S1x77x32x768 .f32) (x2 : Vec F S1x768 .f32) (x3 : Vec F S1x768 .f32) :
    Σ' (L4 : List (View.Piece (Elt F) S77x32x768 .fp8e4m3)), Σ' (L5 : List (View.Piece (Elt F) S32x77 .f32)), Σ' (L6 : List (View.Piece (Elt F) S77x32x768 .fp8e4m3)), { L7 : List (View.Piece (Elt F) S32x77 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_outputs i arg2 harg2 arg3 harg3 arg4 harg4 arg5 harg5 arg6 harg6 arg7 harg7 arg8 harg8 arg9 harg9) K } := by
  refine ⟨?_, ?_, ?_, ?_, fun E K => ?run⟩
  case run =>
    simp only [cc0_outputs_eq_skeleton]; unfold cc0_outputs_skel
    simp only [k0_part138_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part139_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.OutputsIdeal.Gen

end
-- ==== Proof.OutIdealRunB.lean ====
/- The run of the ideal outputs kernel's body at the other points: it stores nothing, and the outputs' buffers are as they were. -/
module

public import proofs.«01_k».proof.Proof.OutIdealRunA

@[expose] public section

-- membership in a rectangle of production extents (`View.cover_of_tiled`): the elaborator's structural look
-- recurses once per coordinate of the long axes
set_option maxRecDepth 16384

noncomputable section

namespace Cert.OutputsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point other than the first: it runs to the continuation holding every buffer as it was. -/
theorem kernelRun0_B (c : Dev nD) (i : grid0.Coords) (arg2 : Memref sig .tc .vmem S1x77x32x768 .f32) (harg2 : arg2.IsWhole) (arg3 : Memref sig .tc .vmem S1x77x32x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole) (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : ¬cond0_0 i)
    (x0 : Vec F S1x77x32x768 .f32) (x1 : Vec F S1x77x32x768 .f32) (x2 : Vec F S1x768 .f32) (x3 : Vec F S1x768 .f32) (d4 : Vec F S77x32x768 .fp8e4m3) (d5 : Vec F S32x77 .f32) (d6 : Vec F S77x32x768 .fp8e4m3) (d7 : Vec F S32x77 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare d7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare d7) -∗ K ⟨⟩))
          ⊢ wp frame (wpE (defs₀ (F := F)) Variants.none c none) E (cc0_outputs i arg2 harg2 arg3 harg3 arg4 harg4 arg5 harg5 arg6 harg6 arg7 harg7 arg8 harg8 arg9 harg9) K := by
    intro E K
    simp only [cc0_outputs_eq_skeleton]; unfold cc0_outputs_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    iexists _; isplitr; swap; · iexact H7
    ipureintro; exact hf7

end Cert.OutputsIdeal.Gen

end
-- ==== Proof.OutRows.lean ====
/- The eight-bit codes and the scale of one row, and what the kernel's stages compute of one position's 32 rows. -/
module

public import proofs.«01_k».proof.Proof.RowMath
public import proofs.«01_k».proof.Proof.Gen.OutputsIdeal.Skeleton
public import Idealize.ShloMosaic.Lib.Pointwise
public import Idealize.ShloMosaic.Lib.WholeRead

@[expose] public section

noncomputable section

namespace Cert.Rows

open Idealize.ShloMosaic

/-- The largest magnitude of a row. -/
def amax (u : Fin 768 → EReal) : EReal :=
  Finset.fold max (Ideal.ofBits .f32 0xFF800000#32) (fun k => FloatOps.absf (F := Ideal) (φ := .f32) (u k)) Finset.univ

/-- The scale of a row: its largest magnitude over 448, or one for a row of zeros. -/
def scale (u : Fin 768 → EReal) : EReal :=
  if amax u = 0 then 1 else Ideal.div (amax u) (Ideal.ofBits .f32 0x43E00000#32)

/-- The codes of a row: its entries over the scale, clipped to ±448. -/
def code (u : Fin 768 → EReal) (d : Fin 768) : EReal :=
  min (Ideal.ofBits .f32 0x43E00000#32) (max (Ideal.ofBits .f32 0xC3E00000#32) (Ideal.div (u d) (scale u)))

/-! The four results, from the streams of all layers and the parameters of the last norm. -/

def penCodesOf (X : (⟨4, ![12, 77, 32, 768]⟩ : Shape).Idx → EReal) : (⟨3, ![77, 32, 768]⟩ : Shape).Idx → EReal :=
  fun y => code (fun k => X (ix4 10 (y 0) (y 1) k)) (y 2)

def penScalesOf (X : (⟨4, ![12, 77, 32, 768]⟩ : Shape).Idx → EReal) : (⟨2, ![32, 77]⟩ : Shape).Idx → EReal :=
  fun y => scale fun k => X (ix4 10 (y 1) (y 0) k)

def lastCodesOf (g b : (⟨2, ![1, 768]⟩ : Shape).Idx → EReal) (X : (⟨4, ![12, 77, 32, 768]⟩ : Shape).Idx → EReal) :
    (⟨3, ![77, 32, 768]⟩ : Shape).Idx → EReal :=
  fun y => code (ln (fun k => g (ix2 0 k)) (fun k => b (ix2 0 k)) (fun k => X (ix4 11 (y 0) (y 1) k))) (y 2)

def lastScalesOf (g b : (⟨2, ![1, 768]⟩ : Shape).Idx → EReal) (X : (⟨4, ![12, 77, 32, 768]⟩ : Shape).Idx → EReal) :
    (⟨2, ![32, 77]⟩ : Shape).Idx → EReal :=
  fun y => scale (ln (fun k => g (ix2 0 k)) (fun k => b (ix2 0 k)) (fun k => X (ix4 11 (y 1) (y 0) k)))

end Cert.Rows

namespace Cert.OutputsIdeal.Rows

open Cert.OutputsIdeal Cert.OutputsIdeal.Gen Cert.Rows Idealize.ShloMosaic

/-! ## The kernel: one position -/

theorem pen_scale (v : Vec Ideal S1x1x32x768 .f32) (r : Fin 32) :
    k0_pay7 (F := Ideal) v (ix2 r 0) = scale fun k => v (ix4 0 0 r k) := by
  pointwise [k0_pay7, k0_pay6]
  rfl

theorem pen_code (v : Vec Ideal S1x1x32x768 .f32) (r : Fin 32) (d : Fin 768) :
    k0_pay8 (F := Ideal) v (ix3 0 r d) = code (fun k => v (ix4 0 0 r k)) d := by
  unfold code
  rw [← pen_scale]
  pointwise [k0_pay8, k0_pay6]

theorem last_row (g b : Vec Ideal S1x768 .f32) (v : Vec Ideal S1x1x32x768 .f32) (r : Fin 32) (d : Fin 768) :
    k0_pay11 (F := Ideal) g b (k0_pay10 v) (ix2 r d)
      = ln (fun k => g (ix2 0 k)) (fun k => b (ix2 0 k)) (fun k => v (ix4 0 0 r k)) d := by
  rw [← ln_rsqrt]
  pointwise [k0_pay11, k0_pay10]
  rfl

theorem last_scale (g b : Vec Ideal S1x768 .f32) (v : Vec Ideal S1x1x32x768 .f32) (r : Fin 32) :
    k0_pay12 (F := Ideal) g b (k0_pay10 v) (ix2 r 0)
      = scale (ln (fun k => g (ix2 0 k)) (fun k => b (ix2 0 k)) (fun k => v (ix4 0 0 r k))) := by
  have e := fun d => last_row g b v r d
  pointwise [k0_pay12]
  simp only [e]
  rfl

theorem last_code (g b : Vec Ideal S1x768 .f32) (v : Vec Ideal S1x1x32x768 .f32) (r : Fin 32) (d : Fin 768) :
    k0_pay13 (F := Ideal) g b (k0_pay10 v) (ix3 0 r d)
      = code (ln (fun k => g (ix2 0 k)) (fun k => b (ix2 0 k)) (fun k => v (ix4 0 0 r k))) d := by
  unfold code
  rw [← last_scale, ← last_row]
  pointwise [k0_pay13]

/-! ## The scales of the positions so far -/

/-- The scales `sc` put into lane `n`. -/
def laneStep (n : BitVec 32) (sc : FVec Ideal S32x1 .f32) (p : FVec Ideal S32x128 .f32) : FVec Ideal S32x128 .f32 :=
  select (cmpi .eq (iota .tc S32x128 32 [1] iota_S32x128_d1_w32) (broadcast S32x128 n))
    (broadcastTo S32x128 (shapeCast S32x1 sc shapeCasts_S32x1_S32x1) broadcasts_S32x1_S32x128) p

theorem laneStep_apply (n : BitVec 32) (sc : FVec Ideal S32x1 .f32) (p : FVec Ideal S32x128 .f32) (r : Fin 32) (j : Fin 128) :
    laneStep n sc p (ix2 r j) = if BitVec.ofNat 32 j.val = n then sc (ix2 r 0) else p (ix2 r j) := by
  pointwise [laneStep]
  by_cases h : BitVec.ofNat 32 j.val = n
  · simp [h, Scalar.select, IntOp.cmpi]
  · have h' : (BitVec.ofNat 32 j.val == n) = false := by simpa using h
    simp [h, h', Scalar.select, IntOp.cmpi]

/-- The first `n` lanes hold the scales of `S`. -/
def Lanes (p : FVec Ideal S32x128 .f32) (n : ℕ) (S : Fin 32 → Fin 77 → EReal) : Prop :=
  ∀ (r : Fin 32) (j : Fin 77), j.val < n → p (ix2 r ⟨j.val, by omega⟩) = S r j

theorem Lanes.zero (p : FVec Ideal S32x128 .f32) (S : Fin 32 → Fin 77 → EReal) : Lanes p 0 S := fun _ _ h => absurd h (by omega)

theorem Lanes.step {p : FVec Ideal S32x128 .f32} {n : ℕ} {S : Fin 32 → Fin 77 → EReal} (h : Lanes p n S) (hn : n < 77)
    {sc : FVec Ideal S32x1 .f32} (hs : ∀ r, sc (ix2 r 0) = S r ⟨n, hn⟩) : Lanes (laneStep (BitVec.ofNat 32 n) sc p) (n + 1) S := by
  intro r j hj
  rw [laneStep_apply]
  by_cases e : j.val = n
  · subst e
    rw [if_pos rfl]
    exact hs r
  · rw [if_neg fun e' => e ?_, h r j (by omega)]
    have := congrArg BitVec.toNat e'
    simp only [BitVec.toNat_ofNat] at this
    omega

/-- The first 77 lanes, stored. -/
theorem lanes_out {p : FVec Ideal S32x128 .f32} {S : Fin 32 → Fin 77 → EReal} (h : Lanes p 77 S) (r : Fin 32) (j : Fin 77) :
    k0_pay3 (F := Ideal) p (ix2 r j) = S r j := by
  rw [← h r j j.isLt]
  pointwise [k0_pay3]

/-! ## Loads and stores -/

theorem pos_inb {n : ℕ} (hn : n < 77) : ∀ a, (![0, n, 0, 0] : Fin 4 → ℕ) a + S1x1x32x768.size a ≤ S1x77x32x768.size a := by
  intro a
  fin_cases a
  exacts [le_refl 1, hn, le_refl 32, le_refl 768]

theorem row_inb : ∀ a, (![0, 0] : Fin 2 → ℕ) a + (![1, 768] : Fin 2 → ℕ) a ≤ S1x768.size a := by decide

/-- Position `n` of a whole block. -/
theorem load_pos {sp : Space} {m : Memref sig .tc sp S1x77x32x768 .f32} (hm : m.IsWhole) {n : ℕ}
    (inb : ∀ a, (![0, n, 0, 0] : Fin 4 → ℕ) a + S1x1x32x768.size a ≤ S1x77x32x768.size a) (x : Vec Ideal S1x77x32x768 .f32) (hn : n < 77)
    (r : Fin 32) (d : Fin 768) :
    View.readAt (Elt Ideal) m.view (Rect.unit (s := S1x77x32x768) ![0, n, 0, 0] S1x1x32x768.size inb).toLoadRect (hm.unread x) (ix4 0 0 r d)
      = x (ix4 0 ⟨n, hn⟩ r d) := by
  rw [hm.readAt_unread]
  refine congrArg x (funext fun b => Fin.ext ?_)
  match b with
  | ⟨0, _⟩ => show 0 + 1 * 0 = 0; omega
  | ⟨1, _⟩ => show n + 1 * 0 = n; omega
  | ⟨2, _⟩ => show 0 + 1 * r.val = r.val; omega
  | ⟨3, _⟩ => show 0 + 1 * d.val = d.val; omega

/-- A whole row of parameters. -/
theorem load_row {sp : Space} {m : Memref sig .tc sp S1x768 .f32} (hm : m.IsWhole)
    (inb : ∀ a, (![0, 0] : Fin 2 → ℕ) a + (![1, 768] : Fin 2 → ℕ) a ≤ S1x768.size a) (x : Vec Ideal S1x768 .f32) (d : Fin 768) :
    View.readAt (Elt Ideal) m.view (Rect.unit (s := S1x768) ![0, 0] ![1, 768] inb).toLoadRect (hm.unread x) (ix2 0 d) = x (ix2 0 d) := by
  rw [hm.readAt_unread]
  refine congrArg x (funext fun b => Fin.ext ?_)
  match b with
  | ⟨0, _⟩ => show 0 + 1 * 0 = 0; omega
  | ⟨1, _⟩ => show 0 + 1 * d.val = d.val; omega

variable {sp : Space} {Val : EltTy → Type} {e : EltTy}

/-- The first `n` positions hold the codes `C`. -/
def PlanesAre (v : View sig .tc sp S77x32x768 e) (f : v.ty.Contents Val) (n : ℕ) (C : Fin 77 → Fin 32 → Fin 768 → Val e) : Prop :=
  ∀ (s : Fin 77) (r : Fin 32) (d : Fin 768), s.val < n → v.read Val f (ix3 s r d) = C s r d

theorem PlanesAre.zero {v : View sig .tc sp S77x32x768 e} {f : v.ty.Contents Val} {C : Fin 77 → Fin 32 → Fin 768 → Val e} :
    PlanesAre v f 0 C := fun _ _ _ h => absurd h (by omega)

/-- A buffer whose 77 positions all hold their codes. -/
theorem PlanesAre.read {v : View sig .tc sp S77x32x768 e} {f : v.ty.Contents Val} {C : Fin 77 → Fin 32 → Fin 768 → Val e}
    (h : PlanesAre v f 77 C) : v.read Val f = fun y => C (y 0) (y 1) (y 2) := by
  funext y
  exact (congrArg (v.read Val f) (eq_ix3 y)).trans (h (y 0) (y 1) (y 2) (y 0).isLt)

theorem PlanesAre.store {v : View sig .tc sp S77x32x768 e} {f : v.ty.Contents Val} {C : Fin 77 → Fin 32 → Fin 768 → Val e} {n : ℕ}
    {L : List (View.Piece Val S77x32x768 e)} (h : PlanesAre v (v.writes Val f L) n C) (hn : n < 77)
    (inb : ∀ a, (![n, 0, 0] : Fin 3 → ℕ) a + (![1, 32, 768] : Fin 3 → ℕ) a ≤ S77x32x768.size a)
    {w : (⟨3, ![1, 32, 768]⟩ : Shape).Idx → Val e} (hw : ∀ r d, w (ix3 0 r d) = C ⟨n, hn⟩ r d) :
    PlanesAre v (v.writes Val f (⟨Rect.unit (s := S77x32x768) ![n, 0, 0] ![1, 32, 768] inb, w⟩ :: L)) (n + 1) C := by
  intro s r d hs
  by_cases e1 : s.val = n
  · have e2 : (⟨n, hn⟩ : Fin 77) = s := Fin.ext e1.symm
    rw [← e2, ← hw r d]
    refine v.read_writes_cons_hit_of_coords f (Rect.unit (s := S77x32x768) ![n, 0, 0] ![1, 32, 768] inb) w L (ix3 0 r d) _ fun b => ?_
    match b with
    | ⟨0, _⟩ => show n = n + 1 * 0; omega
    | ⟨1, _⟩ => show r.val = 0 + 1 * r.val; omega
    | ⟨2, _⟩ => show d.val = 0 + 1 * d.val; omega
  · rw [v.read_writes_cons_miss_of_axis f ⟨Rect.unit (s := S77x32x768) ![n, 0, 0] ![1, 32, 768] inb, w⟩ L (ix3 s r d) 0 n 1 rfl rfl rfl
      (by show s.val < n ∨ n + 1 ≤ s.val; omega), h s r d (by omega)]

/-- A store of the whole table of scales. -/
theorem scales_store {v : View sig .tc sp S32x77 e} {f : v.ty.Contents Val} {L : List (View.Piece Val S32x77 e)}
    (inb : ∀ a, (![0, 0] : Fin 2 → ℕ) a + (![32, 77] : Fin 2 → ℕ) a ≤ S32x77.size a) {w : (⟨2, ![32, 77]⟩ : Shape).Idx → Val e} (r : Fin 32) (j : Fin 77) :
    v.read Val (v.writes Val f (⟨Rect.unit (s := S32x77) ![0, 0] ![32, 77] inb, w⟩ :: L)) (ix2 r j) = w (ix2 r j) := by
  refine v.read_writes_cons_hit_of_coords f (Rect.unit (s := S32x77) ![0, 0] ![32, 77] inb) w L (ix2 r j) _ fun b => ?_
  match b with
  | ⟨0, _⟩ => show r.val = 0 + 1 * r.val; omega
  | ⟨1, _⟩ => show j.val = 0 + 1 * j.val; omega

end Cert.OutputsIdeal.Rows
-- ==== Proof.OutPenValue.lean ====
/- What the first point stores of the penultimate stream: the codes of every position and the scales. -/
module

public import proofs.«01_k».proof.Proof.OutRows
public import proofs.«01_k».proof.Proof.OutIdealRunA

@[expose] public section

set_option maxRecDepth 8000

noncomputable section

namespace Cert.OutputsIdeal.Rows

open Cert.OutputsIdeal Cert.OutputsIdeal.Gen Cert.Rows Idealize.ShloMosaic

/-- The codes and the scales of the rows of a stream. -/
def penCode (x : Vec Ideal S1x77x32x768 .f32) (s : Fin 77) (r : Fin 32) (d : Fin 768) : EReal := code (fun k => x (ix4 0 s r k)) d
def penScale (x : Vec Ideal S1x77x32x768 .f32) (r : Fin 32) (s : Fin 77) : EReal := scale fun k => x (ix4 0 s r k)

theorem pen_at {sp : Space} {m : Memref sig .tc sp S1x77x32x768 .f32} (hm : m.IsWhole) {n : ℕ} (inb : ∀ a, (![0, n, 0, 0] : Fin 4 → ℕ) a + S1x1x32x768.size a ≤ S1x77x32x768.size a)
    (x : Vec Ideal S1x77x32x768 .f32) (hn : n < 77) {w : FVec Ideal S1x32x768 .fp8e4m3} (e : w = k0_pay8 (View.readAt (Elt Ideal) m.view (Rect.unit (s := S1x77x32x768) ![0, n, 0, 0] S1x1x32x768.size inb).toLoadRect (hm.unread x))) :
    ∀ r d, w (ix3 0 r d) = penCode x ⟨n, hn⟩ r d := by
  intro r d
  rw [e, pen_code]
  exact congrArg (fun u => code u d) (funext fun k => load_pos hm inb x hn r k)

theorem pen_next {sp : Space} {m : Memref sig .tc sp S1x77x32x768 .f32} (hm : m.IsWhole) {n : ℕ}
    (x : Vec Ideal S1x77x32x768 .f32) (hn : n < 77) {p q : FVec Ideal S32x128 .f32} (h : Lanes p n (penScale x))
    (e : q = laneStep (BitVec.ofNat 32 n) (k0_pay7 (View.readAt (Elt Ideal) m.view (Rect.unit (s := S1x77x32x768) ![0, n, 0, 0] S1x1x32x768.size (pos_inb hn)).toLoadRect (hm.unread x))) p) : Lanes q (n + 1) (penScale x) := by
  rw [e]
  exact h.step hn fun r => (pen_scale _ r).trans (congrArg scale (funext fun k => load_pos hm _ x hn r k))

theorem planes_pen (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) (f : arg6.view.ty.Contents (Elt Ideal)) :
    PlanesAre arg6.view (arg6.view.writes (Elt Ideal) f (kernelRun0_A (F := Ideal) c i arg2 harg2 arg3 harg3 arg4 harg4 arg5 harg5 arg6 harg6 arg7 harg7 arg8 harg8 arg9 harg9 hc0 x0 x1 x2 x3).1) 77 (penCode x0) := by
  iterate 77 refine PlanesAre.store ?_ (by decide) _ (pen_at harg2 _ x0 (by decide) (by exact rfl))
  exact PlanesAre.zero

theorem lanes_pen (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) : Lanes (kernelRun0_A.sl.r_384 (F := Ideal) c arg2 harg2 x0) 77 (penScale x0) := by
  iterate 77 refine pen_next harg2 x0 (by decide) ?_ (by exact rfl)
  exact Lanes.zero _ _

theorem scales_pen (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) (f : arg7.view.ty.Contents (Elt Ideal)) (r : Fin 32) (s : Fin 77) :
    arg7.view.read (Elt Ideal) (arg7.view.writes (Elt Ideal) f (kernelRun0_A (F := Ideal) c i arg2 harg2 arg3 harg3 arg4 harg4 arg5 harg5 arg6 harg6 arg7 harg7 arg8 harg8 arg9 harg9 hc0 x0 x1 x2 x3).2.1) (ix2 r s) = penScale x0 r s :=
  (scales_store _ r s).trans (lanes_out (lanes_pen c i arg2 harg2 arg3 harg3 arg4 harg4 arg5 harg5 arg6 harg6 arg7 harg7 arg8 harg8 arg9 harg9 hc0 x0 x1 x2 x3) r s)

end Cert.OutputsIdeal.Rows
-- ==== Proof.OutLastValue.lean ====
/- What the first point stores of the last stream: the codes of every normed position and the scales. -/
module

public import proofs.«01_k».proof.Proof.OutRows
public import proofs.«01_k».proof.Proof.OutIdealRunA

@[expose] public section

set_option maxRecDepth 8000

noncomputable section

namespace Cert.OutputsIdeal.Rows

open Cert.OutputsIdeal Cert.OutputsIdeal.Gen Cert.Rows Idealize.ShloMosaic

/-- The codes and the scales of the rows of a stream, normed. -/
def lastCode (g b : Vec Ideal S1x768 .f32) (x : Vec Ideal S1x77x32x768 .f32) (s : Fin 77) (r : Fin 32) (d : Fin 768) : EReal :=
  code (ln (fun k => g (ix2 0 k)) (fun k => b (ix2 0 k)) (fun k => x (ix4 0 s r k))) d
def lastScale (g b : Vec Ideal S1x768 .f32) (x : Vec Ideal S1x77x32x768 .f32) (r : Fin 32) (s : Fin 77) : EReal :=
  scale (ln (fun k => g (ix2 0 k)) (fun k => b (ix2 0 k)) (fun k => x (ix4 0 s r k)))

theorem ln_load {sp : Space} {m : Memref sig .tc sp S1x77x32x768 .f32} (hm : m.IsWhole) {mg mb : Memref sig .tc sp S1x768 .f32} (hg : mg.IsWhole) (hb : mb.IsWhole) {n : ℕ}
    (inb : ∀ a, (![0, n, 0, 0] : Fin 4 → ℕ) a + S1x1x32x768.size a ≤ S1x77x32x768.size a)
    (inbg inbb : ∀ a, (![0, 0] : Fin 2 → ℕ) a + (![1, 768] : Fin 2 → ℕ) a ≤ S1x768.size a) (x : Vec Ideal S1x77x32x768 .f32) (g b : Vec Ideal S1x768 .f32) (hn : n < 77) (r : Fin 32) :
    ln (fun k => (View.readAt (Elt Ideal) mg.view (Rect.unit (s := S1x768) ![0, 0] ![1, 768] inbg).toLoadRect (hg.unread g)) (ix2 0 k)) (fun k => (View.readAt (Elt Ideal) mb.view (Rect.unit (s := S1x768) ![0, 0] ![1, 768] inbb).toLoadRect (hb.unread b)) (ix2 0 k)) (fun k => (View.readAt (Elt Ideal) m.view (Rect.unit (s := S1x77x32x768) ![0, n, 0, 0] S1x1x32x768.size inb).toLoadRect (hm.unread x)) (ix4 0 0 r k))
      = ln (fun k => g (ix2 0 k)) (fun k => b (ix2 0 k)) (fun k => x (ix4 0 ⟨n, hn⟩ r k)) := by
  rw [funext fun k => load_row hg inbg g k, funext fun k => load_row hb inbb b k, funext fun k => load_pos hm inb x hn r k]

theorem last_at {sp : Space} {m : Memref sig .tc sp S1x77x32x768 .f32} (hm : m.IsWhole) {mg mb : Memref sig .tc sp S1x768 .f32} (hg : mg.IsWhole) (hb : mb.IsWhole) {n : ℕ}
    (inb : ∀ a, (![0, n, 0, 0] : Fin 4 → ℕ) a + S1x1x32x768.size a ≤ S1x77x32x768.size a)
    (x : Vec Ideal S1x77x32x768 .f32) (g b : Vec Ideal S1x768 .f32) (hn : n < 77)
    {w : FVec Ideal S1x32x768 .fp8e4m3} (e : w = k0_pay13 (View.readAt (Elt Ideal) mg.view (Rect.unit (s := S1x768) ![0, 0] ![1, 768] row_inb).toLoadRect (hg.unread g))
      (View.readAt (Elt Ideal) mb.view (Rect.unit (s := S1x768) ![0, 0] ![1, 768] row_inb).toLoadRect (hb.unread b)) (k0_pay10 (View.readAt (Elt Ideal) m.view (Rect.unit (s := S1x77x32x768) ![0, n, 0, 0] S1x1x32x768.size inb).toLoadRect (hm.unread x)))) :
    ∀ r d, w (ix3 0 r d) = lastCode g b x ⟨n, hn⟩ r d := by
  intro r d
  rw [e, last_code]
  exact congrArg (fun u => code u d) (ln_load hm hg hb inb row_inb row_inb x g b hn r)

theorem last_next {sp : Space} {m : Memref sig .tc sp S1x77x32x768 .f32} (hm : m.IsWhole) {mg mb : Memref sig .tc sp S1x768 .f32} (hg : mg.IsWhole) (hb : mb.IsWhole) {n : ℕ}
    (x : Vec Ideal S1x77x32x768 .f32) (g b : Vec Ideal S1x768 .f32) (hn : n < 77)
    {p q : FVec Ideal S32x128 .f32} (h : Lanes p n (lastScale g b x))
    (e : q = laneStep (BitVec.ofNat 32 n) (k0_pay12 (View.readAt (Elt Ideal) mg.view (Rect.unit (s := S1x768) ![0, 0] ![1, 768] row_inb).toLoadRect (hg.unread g))
      (View.readAt (Elt Ideal) mb.view (Rect.unit (s := S1x768) ![0, 0] ![1, 768] row_inb).toLoadRect (hb.unread b)) (k0_pay10 (View.readAt (Elt Ideal) m.view (Rect.unit (s := S1x77x32x768) ![0, n, 0, 0] S1x1x32x768.size (pos_inb hn)).toLoadRect (hm.unread x)))) p) : Lanes q (n + 1) (lastScale g b x) := by
  rw [e]
  exact h.step hn fun r => (last_scale _ _ _ r).trans (congrArg scale (ln_load hm hg hb _ row_inb row_inb x g b hn r))

theorem last_end {sp : Space} {m : Memref sig .tc sp S1x77x32x768 .f32} (hm : m.IsWhole) {mg mb : Memref sig .tc sp S1x768 .f32} (hg : mg.IsWhole) (hb : mb.IsWhole)
    (x : Vec Ideal S1x77x32x768 .f32) (g b : Vec Ideal S1x768 .f32)
    {p : FVec Ideal S32x128 .f32} {q : FVec Ideal S32x77 .f32} (h : Lanes p 76 (lastScale g b x))
    (e : q = k0_pay3 (laneStep (BitVec.ofNat 32 76) (k0_pay12 (View.readAt (Elt Ideal) mg.view (Rect.unit (s := S1x768) ![0, 0] ![1, 768] row_inb).toLoadRect (hg.unread g))
      (View.readAt (Elt Ideal) mb.view (Rect.unit (s := S1x768) ![0, 0] ![1, 768] row_inb).toLoadRect (hb.unread b)) (k0_pay10 (View.readAt (Elt Ideal) m.view (Rect.unit (s := S1x77x32x768) ![0, 76, 0, 0] S1x1x32x768.size (pos_inb (by decide))).toLoadRect (hm.unread x)))) p)) (r : Fin 32) (s : Fin 77) :
    q (ix2 r s) = lastScale g b x r s := by
  rw [e]
  exact lanes_out (last_next hm hg hb x g b (by decide) h rfl) r s

theorem planes_last (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) (f : arg8.view.ty.Contents (Elt Ideal)) :
    PlanesAre arg8.view (arg8.view.writes (Elt Ideal) f (kernelRun0_A (F := Ideal) c i arg2 harg2 arg3 harg3 arg4 harg4 arg5 harg5 arg6 harg6 arg7 harg7 arg8 harg8 arg9 harg9 hc0 x0 x1 x2 x3).2.2.1) 77 (lastCode x2 x3 x1) := by
  iterate 77 refine PlanesAre.store ?_ (by decide) _ (last_at harg3 harg4 harg5 _ x1 x2 x3 (by decide) (by exact rfl))
  exact PlanesAre.zero

theorem lanes_last (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) : Lanes (kernelRun0_A.sl.r_380 (F := Ideal) c arg3 harg3 arg4 harg4 arg5 harg5 x1 x2 x3) 76 (lastScale x2 x3 x1) := by
  iterate 76 refine last_next harg3 harg4 harg5 x1 x2 x3 (by decide) ?_ (by exact rfl)
  exact Lanes.zero _ _

theorem scales_last (c : Dev nD) (i : grid0.Coords) (arg2 : Memref sig .tc .vmem S1x77x32x768 .f32) (harg2 : arg2.IsWhole) (arg3 : Memref sig .tc .vmem S1x77x32x768 .f32) (harg3 : arg3.IsWhole)
  (arg4 : Memref sig .tc .vmem S1x768 .f32) (harg4 : arg4.IsWhole) (arg5 : Memref sig .tc .vmem S1x768 .f32) (harg5 : arg5.IsWhole) (arg6 : Memref sig .tc .vmem S77x32x768 .fp8e4m3) (harg6 : arg6.IsWhole)
  (arg7 : Memref sig .tc .vmem S32x77 .f32) (harg7 : arg7.IsWhole) (arg8 : Memref sig .tc .vmem S77x32x768 .fp8e4m3) (harg8 : arg8.IsWhole) (arg9 : Memref sig .tc .vmem S32x77 .f32) (harg9 : arg9.IsWhole) (hc0 : cond0_0 i)
  (x0 x1 : Vec Ideal S1x77x32x768 .f32) (x2 x3 : Vec Ideal S1x768 .f32) (f : arg9.view.ty.Contents (Elt Ideal)) (r : Fin 32) (s : Fin 77) :
    arg9.view.read (Elt Ideal) (arg9.view.writes (Elt Ideal) f (kernelRun0_A (F := Ideal) c i arg2 harg2 arg3 harg3 arg4 harg4 arg5 harg5 arg6 harg6 arg7 harg7 arg8 harg8 arg9 harg9 hc0 x0 x1 x2 x3).2.2.2.1) (ix2 r s) = lastScale x2 x3 x1 r s :=
  (scales_store _ r s).trans (last_end harg3 harg4 harg5 x1 x2 x3 (lanes_last c i arg2 harg2 arg3 harg3 arg4 harg4 arg5 harg5 arg6 harg6 arg7 harg7 arg8 harg8 arg9 harg9 hc0 x0 x1 x2 x3) (by exact rfl) r s)

end Cert.OutputsIdeal.Rows
-- ==== Proof.OutIdealFrame.lean ====
/- The ideal outputs kernel: the body at every point, the run and the final arrays. The first point stores the four results, the others
   leave the buffers as they are, and the last point writes them back. -/
module

public import proofs.«01_k».proof.Proof.OutIdealRunB
public import proofs.«01_k».proof.Proof.OutPenValue
public import proofs.«01_k».proof.Proof.OutLastValue
public import Idealize.ShloMosaic.Lib.Claim
public import Idealize.ShloMosaic.Lib.Pipeline.ValueKit

@[expose] public section

-- membership in a rectangle of production extents (`View.cover_of_tiled`): the elaborator's structural look
-- recurses once per coordinate of the long axes
set_option maxRecDepth 16384

noncomputable section

namespace Cert.OutputsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows Cert.OutputsIdeal.Rows

local notation "𝕄" => MT nD τ sig Unit (Elt Ideal) ℕ (UR sig nD τ) ℕ

variable (m : (ℓ : Loc nD τ sig) → Buf (Elt Ideal) ℓ) (ρ : Dev nD → PrngReg)
/-! ## The blocks -/

theorem block0 (c : Dev nD) (t : Fin cfg0.N) (s : Fin 77) (r : Fin 32) (k : Fin 768) : iblk m c 0 t (ix4 0 s r k) = V m c main_arg0 (ix4 10 s r k) := by
  have e : win0_0.index t = ![10, 0, 0, 0] := (by decide +kernel : ∀ t : Fin grid0.N, win0_0.index t = ![10, 0, 0, 0]) t
  blk_ext [iblk, e]

theorem block1 (c : Dev nD) (t : Fin cfg0.N) (s : Fin 77) (r : Fin 32) (k : Fin 768) : iblk m c 1 t (ix4 0 s r k) = V m c main_arg0 (ix4 11 s r k) := by
  have e : win0_1.index t = ![11, 0, 0, 0] := (by decide +kernel : ∀ t : Fin grid0.N, win0_1.index t = ![11, 0, 0, 0]) t
  blk_ext [iblk, e]

theorem block2 (c : Dev nD) (t : Fin cfg0.N) (k : Fin 768) : iblk m c 2 t (ix2 0 k) = V m c main_arg1 (ix2 0 k) := by
  have e : win0_2.index t = ![0, 0] := (by decide +kernel : ∀ t : Fin grid0.N, win0_2.index t = ![0, 0]) t
  blk_ext [iblk, e]

theorem block3 (c : Dev nD) (t : Fin cfg0.N) (k : Fin 768) : iblk m c 3 t (ix2 0 k) = V m c main_arg2 (ix2 0 k) := by
  have e : win0_3.index t = ![0, 0] := (by decide +kernel : ∀ t : Fin grid0.N, win0_3.index t = ![0, 0]) t
  blk_ext [iblk, e]

/-! ## What the first point stores, from the blocks -/

theorem pen_codes_eq (c : Dev nD) (t : Fin cfg0.N) :
    (fun y : (⟨3, ![77, 32, 768]⟩ : Shape).Idx => penCode (iblk m c 0 t) (y 0) (y 1) (y 2)) = penCodesOf (V m c main_arg0) :=
  funext fun y => congrArg (fun u => code u (y 2)) (funext fun k => block0 m c t (y 0) (y 1) k)

theorem pen_scales_eq (c : Dev nD) (t : Fin cfg0.N) (r : Fin 32) (s : Fin 77) :
    penScale (iblk m c 0 t) r s = penScalesOf (V m c main_arg0) (ix2 r s) :=
  congrArg scale (funext fun k => block0 m c t s r k)

theorem ln_eq (c : Dev nD) (t : Fin cfg0.N) (s : Fin 77) (r : Fin 32) :
    ln (fun k => iblk m c 2 t (ix2 0 k)) (fun k => iblk m c 3 t (ix2 0 k)) (fun k => iblk m c 1 t (ix4 0 s r k))
      = ln (fun k => V m c main_arg1 (ix2 0 k)) (fun k => V m c main_arg2 (ix2 0 k)) (fun k => V m c main_arg0 (ix4 11 s r k)) := by
  rw [funext fun k => block2 m c t k, funext fun k => block3 m c t k, funext fun k => block1 m c t s r k]

theorem last_codes_eq (c : Dev nD) (t : Fin cfg0.N) :
    (fun y : (⟨3, ![77, 32, 768]⟩ : Shape).Idx => lastCode (iblk m c 2 t) (iblk m c 3 t) (iblk m c 1 t) (y 0) (y 1) (y 2))
      = lastCodesOf (V m c main_arg1) (V m c main_arg2) (V m c main_arg0) :=
  funext fun y => congrArg (fun u => code u (y 2)) (ln_eq m c t (y 0) (y 1))

theorem last_scales_eq (c : Dev nD) (t : Fin cfg0.N) (r : Fin 32) (s : Fin 77) :
    lastScale (iblk m c 2 t) (iblk m c 3 t) (iblk m c 1 t) r s = lastScalesOf (V m c main_arg1) (V m c main_arg2) (V m c main_arg0) (ix2 r s) :=
  congrArg scale (ln_eq m c t s r)

/-! ## The pipeline's proof data -/

/-- The proof data: after the body at every point each input's buffer holds its block and each output's its result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => penCodesOf (V m c main_arg0)
    | ⟨5, _⟩ => penScalesOf (V m c main_arg0)
    | ⟨6, _⟩ => lastCodesOf (V m c main_arg1) (V m c main_arg2) (V m c main_arg0)
    | ⟨7, _⟩ => lastScalesOf (V m c main_arg1) (V m c main_arg2) (V m c main_arg0)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = penCodesOf (V m c main_arg0) := by dsimp only [dats]
theorem after0_5 (c : Dev nD) (t : Fin cfg0.N) : (dats m 0 c).after 5 t = penScalesOf (V m c main_arg0) := by dsimp only [dats]
theorem after0_6 (c : Dev nD) (t : Fin cfg0.N) : (dats m 0 c).after 6 t = lastCodesOf (V m c main_arg1) (V m c main_arg2) (V m c main_arg0) := by dsimp only [dats]
theorem after0_7 (c : Dev nD) (t : Fin cfg0.N) : (dats m 0 c).after 7 t = lastScalesOf (V m c main_arg1) (V m c main_arg2) (V m c main_arg0) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The outputs' buffers: stored at the first point, idle after it -/

theorem live0_4 (t : Fin cfg0.N) (h : t.val % 24 = 0) : cfg0.idle 4 (grid0.coords t) = false := by
  show (!(k0_cond1 (grid0.coords t) == 1#1)) = false
  rw [show k0_cond1 (grid0.coords t) = 1#1 from (hcond0_0 t).mpr h]
  rfl

theorem idle0_4 (t : Fin cfg0.N) (h : t.val % 24 ≠ 0) : cfg0.idle 4 (grid0.coords t) = true := by
  show (!(k0_cond1 (grid0.coords t) == 1#1)) = true
  have h' : (k0_cond1 (grid0.coords t) == 1#1) = false := by simpa using fun e => h ((hcond0_0 t).mp e)
  rw [h']
  rfl

/-- After the first point the buffer holds what the first point stored. -/
theorem before0_4 (c : Dev nD) : ∀ (n : ℕ) (hn : n < cfg0.N), n ≠ 0 → ∀ d, (dats m 0 c).before 4 ⟨n, hn⟩ d = penCodesOf (V m c main_arg0)
  | 0, _, h, _ => absurd rfl h
  | n + 1, hn, _, d => by
    have hN : n + 1 < 24 := lt_of_lt_of_eq hn (show cfg0.N = 24 from N_0)
    have hn' : n < cfg0.N := Nat.lt_of_succ_lt hn
    have hf : (cfg0.win 4).flush ⟨n, hn'⟩ = false := Bool.eq_false_iff.mpr fun e => by
      have := (flush0_4 ⟨n, hn'⟩).mp e
      simp only at this
      omega
    rw [(dats m 0 c).before_of_pos 4 ⟨n + 1, hn⟩ (Nat.succ_ne_zero n) rfl d]
    show (if (cfg0.win 4).flush ⟨n, hn'⟩ then d else (dats m 0 c).left 4 ⟨n, hn'⟩ d) = _
    rw [hf, if_neg Bool.false_ne_true]
    by_cases h0 : n = 0
    · unfold Pipeline.Dat.left
      rw [live0_4 ⟨n, hn'⟩ (by show n % 24 = 0; omega)]
      rfl
    · unfold Pipeline.Dat.left
      rw [idle0_4 ⟨n, hn'⟩ (by show n % 24 ≠ 0; omega)]
      exact before0_4 c n hn' h0 d

theorem leaves0_4 (c : Dev nD) (t : Fin cfg0.N) (h : t.val % 24 ≠ 0) :
    owns (c : Thread nD τ) (ms0_4 t) fullShare (penCodesOf (V m c main_arg0)) ⊢ ((dats m 0 c).leavesExact 4 t : sProp 𝕄) := by
  cases hf : (cfg0.win 4).flush t
  · rw [(dats m 0 c).leavesExact_idle 4 t (idle0_4 t h) hf]
    iintro H
    iexists (penCodesOf (V m c main_arg0))
    rw [before0_4 m c t.val t.isLt (fun e => h (by rw [e])) _]
    iexact H
  · unfold Pipeline.Dat.leavesExact
    rw [idle0_4 t h, hf]
    exact .rfl

theorem live0_5 (t : Fin cfg0.N) (h : t.val % 24 = 0) : cfg0.idle 5 (grid0.coords t) = false := by
  show (!(k0_cond1 (grid0.coords t) == 1#1)) = false
  rw [show k0_cond1 (grid0.coords t) = 1#1 from (hcond0_0 t).mpr h]
  rfl

theorem idle0_5 (t : Fin cfg0.N) (h : t.val % 24 ≠ 0) : cfg0.idle 5 (grid0.coords t) = true := by
  show (!(k0_cond1 (grid0.coords t) == 1#1)) = true
  have h' : (k0_cond1 (grid0.coords t) == 1#1) = false := by simpa using fun e => h ((hcond0_0 t).mp e)
  rw [h']
  rfl

/-- After the first point the buffer holds what the first point stored. -/
theorem before0_5 (c : Dev nD) : ∀ (n : ℕ) (hn : n < cfg0.N), n ≠ 0 → ∀ d, (dats m 0 c).before 5 ⟨n, hn⟩ d = penScalesOf (V m c main_arg0)
  | 0, _, h, _ => absurd rfl h
  | n + 1, hn, _, d => by
    have hN : n + 1 < 24 := lt_of_lt_of_eq hn (show cfg0.N = 24 from N_0)
    have hn' : n < cfg0.N := Nat.lt_of_succ_lt hn
    have hf : (cfg0.win 5).flush ⟨n, hn'⟩ = false := Bool.eq_false_iff.mpr fun e => by
      have := (flush0_5 ⟨n, hn'⟩).mp e
      simp only at this
      omega
    rw [(dats m 0 c).before_of_pos 5 ⟨n + 1, hn⟩ (Nat.succ_ne_zero n) rfl d]
    show (if (cfg0.win 5).flush ⟨n, hn'⟩ then d else (dats m 0 c).left 5 ⟨n, hn'⟩ d) = _
    rw [hf, if_neg Bool.false_ne_true]
    by_cases h0 : n = 0
    · unfold Pipeline.Dat.left
      rw [live0_5 ⟨n, hn'⟩ (by show n % 24 = 0; omega)]
      rfl
    · unfold Pipeline.Dat.left
      rw [idle0_5 ⟨n, hn'⟩ (by show n % 24 ≠ 0; omega)]
      exact before0_5 c n hn' h0 d

theorem leaves0_5 (c : Dev nD) (t : Fin cfg0.N) (h : t.val % 24 ≠ 0) :
    owns (c : Thread nD τ) (ms0_5 t) fullShare (penScalesOf (V m c main_arg0)) ⊢ ((dats m 0 c).leavesExact 5 t : sProp 𝕄) := by
  cases hf : (cfg0.win 5).flush t
  · rw [(dats m 0 c).leavesExact_idle 5 t (idle0_5 t h) hf]
    iintro H
    iexists (penScalesOf (V m c main_arg0))
    rw [before0_5 m c t.val t.isLt (fun e => h (by rw [e])) _]
    iexact H
  · unfold Pipeline.Dat.leavesExact
    rw [idle0_5 t h, hf]
    exact .rfl

theorem live0_6 (t : Fin cfg0.N) (h : t.val % 24 = 0) : cfg0.idle 6 (grid0.coords t) = false := by
  show (!(k0_cond1 (grid0.coords t) == 1#1)) = false
  rw [show k0_cond1 (grid0.coords t) = 1#1 from (hcond0_0 t).mpr h]
  rfl

theorem idle0_6 (t : Fin cfg0.N) (h : t.val % 24 ≠ 0) : cfg0.idle 6 (grid0.coords t) = true := by
  show (!(k0_cond1 (grid0.coords t) == 1#1)) = true
  have h' : (k0_cond1 (grid0.coords t) == 1#1) = false := by simpa using fun e => h ((hcond0_0 t).mp e)
  rw [h']
  rfl

/-- After the first point the buffer holds what the first point stored. -/
theorem before0_6 (c : Dev nD) : ∀ (n : ℕ) (hn : n < cfg0.N), n ≠ 0 → ∀ d, (dats m 0 c).before 6 ⟨n, hn⟩ d = lastCodesOf (V m c main_arg1) (V m c main_arg2) (V m c main_arg0)
  | 0, _, h, _ => absurd rfl h
  | n + 1, hn, _, d => by
    have hN : n + 1 < 24 := lt_of_lt_of_eq hn (show cfg0.N = 24 from N_0)
    have hn' : n < cfg0.N := Nat.lt_of_succ_lt hn
    have hf : (cfg0.win 6).flush ⟨n, hn'⟩ = false := Bool.eq_false_iff.mpr fun e => by
      have := (flush0_6 ⟨n, hn'⟩).mp e
      simp only at this
      omega
    rw [(dats m 0 c).before_of_pos 6 ⟨n + 1, hn⟩ (Nat.succ_ne_zero n) rfl d]
    show (if (cfg0.win 6).flush ⟨n, hn'⟩ then d else (dats m 0 c).left 6 ⟨n, hn'⟩ d) = _
    rw [hf, if_neg Bool.false_ne_true]
    by_cases h0 : n = 0
    · unfold Pipeline.Dat.left
      rw [live0_6 ⟨n, hn'⟩ (by show n % 24 = 0; omega)]
      rfl
    · unfold Pipeline.Dat.left
      rw [idle0_6 ⟨n, hn'⟩ (by show n % 24 ≠ 0; omega)]
      exact before0_6 c n hn' h0 d

theorem leaves0_6 (c : Dev nD) (t : Fin cfg0.N) (h : t.val % 24 ≠ 0) :
    owns (c : Thread nD τ) (ms0_6 t) fullShare (lastCodesOf (V m c main_arg1) (V m c main_arg2) (V m c main_arg0)) ⊢ ((dats m 0 c).leavesExact 6 t : sProp 𝕄) := by
  cases hf : (cfg0.win 6).flush t
  · rw [(dats m 0 c).leavesExact_idle 6 t (idle0_6 t h) hf]
    iintro H
    iexists (lastCodesOf (V m c main_arg1) (V m c main_arg2) (V m c main_arg0))
    rw [before0_6 m c t.val t.isLt (fun e => h (by rw [e])) _]
    iexact H
  · unfold Pipeline.Dat.leavesExact
    rw [idle0_6 t h, hf]
    exact .rfl

theorem live0_7 (t : Fin cfg0.N) (h : t.val % 24 = 0) : cfg0.idle 7 (grid0.coords t) = false := by
  show (!(k0_cond1 (grid0.coords t) == 1#1)) = false
  rw [show k0_cond1 (grid0.coords t) = 1#1 from (hcond0_0 t).mpr h]
  rfl

theorem idle0_7 (t : Fin cfg0.N) (h : t.val % 24 ≠ 0) : cfg0.idle 7 (grid0.coords t) = true := by
  show (!(k0_cond1 (grid0.coords t) == 1#1)) = true
  have h' : (k0_cond1 (grid0.coords t) == 1#1) = false := by simpa using fun e => h ((hcond0_0 t).mp e)
  rw [h']
  rfl

/-- After the first point the buffer holds what the first point stored. -/
theorem before0_7 (c : Dev nD) : ∀ (n : ℕ) (hn : n < cfg0.N), n ≠ 0 → ∀ d, (dats m 0 c).before 7 ⟨n, hn⟩ d = lastScalesOf (V m c main_arg1) (V m c main_arg2) (V m c main_arg0)
  | 0, _, h, _ => absurd rfl h
  | n + 1, hn, _, d => by
    have hN : n + 1 < 24 := lt_of_lt_of_eq hn (show cfg0.N = 24 from N_0)
    have hn' : n < cfg0.N := Nat.lt_of_succ_lt hn
    have hf : (cfg0.win 7).flush ⟨n, hn'⟩ = false := Bool.eq_false_iff.mpr fun e => by
      have := (flush0_7 ⟨n, hn'⟩).mp e
      simp only at this
      omega
    rw [(dats m 0 c).before_of_pos 7 ⟨n + 1, hn⟩ (Nat.succ_ne_zero n) rfl d]
    show (if (cfg0.win 7).flush ⟨n, hn'⟩ then d else (dats m 0 c).left 7 ⟨n, hn'⟩ d) = _
    rw [hf, if_neg Bool.false_ne_true]
    by_cases h0 : n = 0
    · unfold Pipeline.Dat.left
      rw [live0_7 ⟨n, hn'⟩ (by show n % 24 = 0; omega)]
      rfl
    · unfold Pipeline.Dat.left
      rw [idle0_7 ⟨n, hn'⟩ (by show n % 24 ≠ 0; omega)]
      exact before0_7 c n hn' h0 d

theorem leaves0_7 (c : Dev nD) (t : Fin cfg0.N) (h : t.val % 24 ≠ 0) :
    owns (c : Thread nD τ) (ms0_7 t) fullShare (lastScalesOf (V m c main_arg1) (V m c main_arg2) (V m c main_arg0)) ⊢ ((dats m 0 c).leavesExact 7 t : sProp 𝕄) := by
  cases hf : (cfg0.win 7).flush t
  · rw [(dats m 0 c).leavesExact_idle 7 t (idle0_7 t h) hf]
    iintro H
    iexists (lastScalesOf (V m c main_arg1) (V m c main_arg2) (V m c main_arg0))
    rw [before0_7 m c t.val t.isLt (fun e => h (by rw [e])) _]
    iexact H
  · unfold Pipeline.Dat.leavesExact
    rw [idle0_7 t h, hf]
    exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 24 = 0
  · rw [show (dats m 0 c).leavesExact 4 t = owns (c : Thread nD τ) (ms0_4 t) fullShare ((dats m 0 c).after 4 t) from by
      unfold Dat.leavesExact; rw [live0_4 t h0], after0_4]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    rw [show (dats m 0 c).leavesExact 7 t = owns (c : Thread nD τ) (ms0_7 t) fullShare ((dats m 0 c).after 7 t) from by
      unfold Dat.leavesExact; rw [live0_7 t h0], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%g4, H4⟩, ⟨%g5, H5⟩, ⟨%g6, H6⟩, ⟨%g7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      exact (planes_pen c (grid0.coords t) _ _ _ _ _ _ _ _ _ _ _ _ _ _ _ _ ((hcond0_0 t).mpr h0) (iblk m c 0 t) (iblk m c 1 t) (iblk m c 2 t) (iblk m c 3 t) _).read.trans (pen_codes_eq m c t)
    isplitl [H5]
    · unfold owns; iexists _; isplitr
      swap; · iexact H5
      ipureintro
      funext y
      exact (congrArg _ (eq_ix2 y)).trans ((scales_pen c (grid0.coords t) _ _ _ _ _ _ _ _ _ _ _ _ _ _ _ _ ((hcond0_0 t).mpr h0) (iblk m c 0 t) (iblk m c 1 t) (iblk m c 2 t) (iblk m c 3 t) _ (y 0) (y 1)).trans ((pen_scales_eq m c t (y 0) (y 1)).trans (congrArg _ (eq_ix2 y).symm)))
    isplitl [H6]
    · unfold owns; iexists _; isplitr
      swap; · iexact H6
      ipureintro
      exact (planes_last c (grid0.coords t) _ _ _ _ _ _ _ _ _ _ _ _ _ _ _ _ ((hcond0_0 t).mpr h0) (iblk m c 0 t) (iblk m c 1 t) (iblk m c 2 t) (iblk m c 3 t) _).read.trans (last_codes_eq m c t)
    unfold owns; iexists _; isplitr
    swap; · iexact H7
    ipureintro
    funext y
    exact (congrArg _ (eq_ix2 y)).trans ((scales_last c (grid0.coords t) _ _ _ _ _ _ _ _ _ _ _ _ _ _ _ _ ((hcond0_0 t).mpr h0) (iblk m c 0 t) (iblk m c 1 t) (iblk m c 2 t) (iblk m c 3 t) _ (y 0) (y 1)).trans ((last_scales_eq m c t (y 0) (y 1)).trans (congrArg _ (eq_ix2 y).symm)))
  · have hz : t.val ≠ 0 := fun e => h0 (by rw [e])
    have b4 := fun d => before0_4 m c t.val t.isLt hz d
    have b5 := fun d => before0_5 m c t.val t.isLt hz d
    have b6 := fun d => before0_6 m c t.val t.isLt hz d
    have b7 := fun d => before0_7 m c t.val t.isLt hz d
    simp only [show (⟨t.val, t.isLt⟩ : Fin cfg0.N) = t from rfl] at b4 b5 b6 b7
    simp only [b4, b5, b6, b7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_B c (grid0.coords t) _ _ _ _ _ _ _ _ _ _ _ _ _ _ _ _ (fun h => h0 ((hcond0_0 t).mp h)) (iblk m c 0 t) (iblk m c 1 t) (iblk m c 2 t) (iblk m c 3 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves0_4 m c t h0); iexact H4
    isplitl [H5]; · iapply (leaves0_5 m c t h0); iexact H5
    isplitl [H6]; · iapply (leaves0_6 m c t h0); iexact H6
    iapply (leaves0_7 m c t h0); iexact H7

theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩) (run_main m ρ)

/-- The arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The final arrays -/

theorem final_penCodes (c : Dev nD) : (dats m 0 c).arrAt 4 cfg0.N = penCodesOf (V m c main_arg0) := by
  refine (dats m 0 c).arrAt_eq_of_covers 4 _ (by decide +kernel) fun t hf y => ?_
  have e : win0_4.index t = ![0, 0, 0] := (by decide +kernel : ∀ t : Fin grid0.N, win0_4.index t = ![0, 0, 0]) t
  blk_simp
  rw [after0_4]
  refine congrArg (penCodesOf (V m c main_arg0)) ?_
  blk_ext [e]

theorem final_penScales (c : Dev nD) : (dats m 0 c).arrAt 5 cfg0.N = penScalesOf (V m c main_arg0) := by
  refine (dats m 0 c).arrAt_eq_of_covers 5 _ (by decide +kernel) fun t hf y => ?_
  have e : win0_5.index t = ![0, 0] := (by decide +kernel : ∀ t : Fin grid0.N, win0_5.index t = ![0, 0]) t
  blk_simp
  rw [after0_5]
  refine congrArg (penScalesOf (V m c main_arg0)) ?_
  blk_ext [e]

theorem final_lastCodes (c : Dev nD) : (dats m 0 c).arrAt 6 cfg0.N = lastCodesOf (V m c main_arg1) (V m c main_arg2) (V m c main_arg0) := by
  refine (dats m 0 c).arrAt_eq_of_covers 6 _ (by decide +kernel) fun t hf y => ?_
  have e : win0_6.index t = ![0, 0, 0] := (by decide +kernel : ∀ t : Fin grid0.N, win0_6.index t = ![0, 0, 0]) t
  blk_simp
  rw [after0_6]
  refine congrArg (lastCodesOf (V m c main_arg1) (V m c main_arg2) (V m c main_arg0)) ?_
  blk_ext [e]

theorem final_lastScales (c : Dev nD) : (dats m 0 c).arrAt 7 cfg0.N = lastScalesOf (V m c main_arg1) (V m c main_arg2) (V m c main_arg0) := by
  refine (dats m 0 c).arrAt_eq_of_covers 7 _ (by decide +kernel) fun t hf y => ?_
  have e : win0_7.index t = ![0, 0] := (by decide +kernel : ∀ t : Fin grid0.N, win0_7.index t = ![0, 0]) t
  blk_simp
  rw [after0_7]
  refine congrArg (lastScalesOf (V m c main_arg1) (V m c main_arg2) (V m c main_arg0)) ?_
  blk_ext [e]

end Cert.OutputsIdeal.Gen

end
-- ==== Proof.OutRefRows.lean ====
/- What the reference's stages compute of the rows, all positions at once. -/
module

public import proofs.«01_k».proof.Proof.OutRows
public import proofs.«01_k».proof.Proof.Gen.OutputsReferenceIdeal.Skeleton

@[expose] public section

noncomputable section

namespace Cert.OutputsReferenceIdeal.Rows

open Cert.OutputsReferenceIdeal Cert.OutputsReferenceIdeal.Gen Cert.Rows Idealize.ShloMosaic

/-! ## The stages, on arrays of any content -/

theorem amax_apply (v : FVec Ideal S77x32x768 .f32) (s : Fin 77) (r : Fin 32) :
    multiReduction .maximumf [2] S77x32 (absf v) 0xFF800000#32 reduces_S77x32x768_S77x32 (.inl rfl) rfl (ix2 s r) = amax (fun k => v (ix3 s r k)) := by
  pointwise
  rfl

theorem scale_apply (w : FVec Ideal S77x32 .f32) (s : Fin 77) (r : Fin 32) :
    (select (cmpf .oeq w (broadcast S77x32 (Scalar.ofBits (F := Ideal) .f32 0x00000000#32))) (broadcast S77x32 (Scalar.ofBits (F := Ideal) .f32 0x3F800000#32))
      (divf w (broadcast S77x32 (Scalar.ofBits (F := Ideal) .f32 0x43E00000#32)))) (ix2 s r)
      = if w (ix2 s r) = 0 then 1 else Ideal.div (w (ix2 s r)) (Ideal.ofBits .f32 0x43E00000#32) := by
  pointwise

theorem code_apply (v : FVec Ideal S77x32x768 .f32) (q : FVec Ideal S77x32 .f32) (s : Fin 77) (r : Fin 32) (d : Fin 768) :
    truncf (F := Ideal) .fp8e4m3 (minimumf (broadcast S77x32x768 (Scalar.ofBits (F := Ideal) .f32 0x43E00000#32))
      (maximumf (broadcast S77x32x768 (Scalar.ofBits (F := Ideal) .f32 0xC3E00000#32))
        (divf v (broadcastTo S77x32x768 (shapeCast S77x32x1 q shapeCasts_S77x32_S77x32x1) broadcasts_S77x32x1_S77x32x768)))) bitsLt_fp8e4m3_f32 (ix3 s r d)
      = min (Ideal.ofBits .f32 0x43E00000#32) (max (Ideal.ofBits .f32 0xC3E00000#32) (Ideal.div (v (ix3 s r d)) (q (ix2 s r)))) := by
  pointwise

/-! ## The penultimate stream -/

theorem pen_scale (v : Vec Ideal S1x77x32x768 .f32) (s : Fin 77) (r : Fin 32) :
    k0_pay6 (F := Ideal) v (ix2 s r) = scale fun k => v (ix4 0 s r k) := by
  have h : multiReduction .maximumf [2] S77x32 (absf (k0_pay5 (F := Ideal) v)) 0xFF800000#32 reduces_S77x32x768_S77x32 (.inl rfl) rfl (ix2 s r)
      = amax (fun k => v (ix4 0 s r k)) := by
    refine (amax_apply _ s r).trans (congrArg amax (funext fun k => ?_))
    pointwise [k0_pay5]
  unfold scale
  rw [← h]
  exact scale_apply _ s r

theorem pen_scales (v : Vec Ideal S1x77x32x768 .f32) (s : Fin 77) (r : Fin 32) :
    k0_pay8 (F := Ideal) v (ix2 r s) = scale fun k => v (ix4 0 s r k) := by
  rw [← pen_scale]
  pointwise [k0_pay8]

theorem pen_codes (v : Vec Ideal S1x77x32x768 .f32) (s : Fin 77) (r : Fin 32) (d : Fin 768) :
    k0_pay7 (F := Ideal) v (ix3 s r d) = code (fun k => v (ix4 0 s r k)) d := by
  have h : k0_pay5 (F := Ideal) v (ix3 s r d) = v (ix4 0 s r d) := by pointwise [k0_pay5]
  unfold code
  rw [← pen_scale]
  exact (code_apply (k0_pay5 v) (k0_pay6 v) s r d).trans (by rw [h])

/-! ## The last stream, normed -/

theorem last_row (g b : Vec Ideal S1x768 .f32) (v : Vec Ideal S1x77x32x768 .f32) (s : Fin 77) (r : Fin 32) (d : Fin 768) :
    k0_pay1 (F := Ideal) g b (k0_pay9 v) (k0_pay10 v) (ix3 s r d)
      = ln (fun k => g (ix2 0 k)) (fun k => b (ix2 0 k)) (fun k => v (ix4 0 s r k)) d := by
  pointwise [k0_pay1, k0_pay9, k0_pay10]
  rfl

theorem last_scale (g b : Vec Ideal S1x768 .f32) (v : Vec Ideal S1x77x32x768 .f32) (s : Fin 77) (r : Fin 32) :
    k0_pay2 (F := Ideal) g b (k0_pay9 v) (k0_pay10 v) (ix2 s r)
      = scale (ln (fun k => g (ix2 0 k)) (fun k => b (ix2 0 k)) (fun k => v (ix4 0 s r k))) := by
  have h : multiReduction .maximumf [2] S77x32 (absf (k0_pay1 (F := Ideal) g b (k0_pay9 v) (k0_pay10 v))) 0xFF800000#32 reduces_S77x32x768_S77x32 (.inl rfl) rfl (ix2 s r)
      = amax (ln (fun k => g (ix2 0 k)) (fun k => b (ix2 0 k)) (fun k => v (ix4 0 s r k))) :=
    (amax_apply _ s r).trans (congrArg amax (funext fun k => last_row g b v s r k))
  unfold scale
  rw [← h]
  exact scale_apply _ s r

theorem last_scales (g b : Vec Ideal S1x768 .f32) (v : Vec Ideal S1x77x32x768 .f32) (s : Fin 77) (r : Fin 32) :
    k0_pay4 (F := Ideal) g b (k0_pay9 v) (k0_pay10 v) (ix2 r s)
      = scale (ln (fun k => g (ix2 0 k)) (fun k => b (ix2 0 k)) (fun k => v (ix4 0 s r k))) := by
  rw [← last_scale]
  pointwise [k0_pay4]

theorem last_codes (g b : Vec Ideal S1x768 .f32) (v : Vec Ideal S1x77x32x768 .f32) (s : Fin 77) (r : Fin 32) (d : Fin 768) :
    k0_pay3 (F := Ideal) g b (k0_pay9 v) (k0_pay10 v) (ix3 s r d)
      = code (ln (fun k => g (ix2 0 k)) (fun k => b (ix2 0 k)) (fun k => v (ix4 0 s r k))) d := by
  unfold code
  rw [← last_scale, ← last_row]
  exact code_apply (k0_pay1 g b (k0_pay9 v) (k0_pay10 v)) (k0_pay2 g b (k0_pay9 v) (k0_pay10 v)) s r d

end Cert.OutputsReferenceIdeal.Rows
-- ==== Proof.OutRefValue.lean ====
/- What the reference leaves in its four result arrays. -/
module

public import proofs.«01_k».proof.Proof.OutRefRows
public import proofs.«01_k».proof.Proof.Gen.OutputsReferenceIdeal.Value

@[expose] public section

noncomputable section

namespace Cert.OutputsReferenceIdeal.Rows

open Cert.OutputsReferenceIdeal Cert.OutputsReferenceIdeal.Gen Cert.OutputsReferenceIdeal.Value Cert.Rows Idealize.ShloMosaic

variable (a0 : Vec Ideal S12x77x32x768 .f32) (a1 a2 : Vec Ideal S1x768 .f32)

theorem ld_pen (s : Fin 77) (r : Fin 32) (k : Fin 768) : View.ld (Val := Elt Ideal) (e' := .f32) a0 r0_0 (ix4 0 s r k) = a0 (ix4 10 s r k) := by
  refine congrArg a0 (funext fun b => Fin.ext ?_)
  match b with
  | ⟨0, _⟩ => show 10 + 1 * 0 = 10; omega
  | ⟨1, _⟩ => show 0 + 1 * s.val = s.val; omega
  | ⟨2, _⟩ => show 0 + 1 * r.val = r.val; omega
  | ⟨3, _⟩ => show 0 + 1 * k.val = k.val; omega

theorem ld_last (s : Fin 77) (r : Fin 32) (k : Fin 768) : View.ld (Val := Elt Ideal) (e' := .f32) a0 r0_3 (ix4 0 s r k) = a0 (ix4 11 s r k) := by
  refine congrArg a0 (funext fun b => Fin.ext ?_)
  match b with
  | ⟨0, _⟩ => show 11 + 1 * 0 = 11; omega
  | ⟨1, _⟩ => show 0 + 1 * s.val = s.val; omega
  | ⟨2, _⟩ => show 0 + 1 * r.val = r.val; omega
  | ⟨3, _⟩ => show 0 + 1 * k.val = k.val; omega

theorem out_penCodes : G3 (F := Ideal) a0 a1 a2 = penCodesOf a0 := by
  funext y
  refine (congrArg (G3 (F := Ideal) a0 a1 a2) (eq_ix3 y)).trans ((pen_codes _ _ _ _).trans ?_)
  exact congrArg (fun u => code u (y 2)) (funext fun k => ld_pen a0 (y 0) (y 1) k)

theorem out_penScales : G4 (F := Ideal) a0 a1 a2 = penScalesOf a0 := by
  funext y
  refine (congrArg (G4 (F := Ideal) a0 a1 a2) (eq_ix2 y)).trans ((pen_scales _ _ _).trans ?_)
  exact congrArg scale (funext fun k => ld_pen a0 (y 1) (y 0) k)

theorem out_lastCodes : G5 (F := Ideal) a0 a1 a2 = lastCodesOf a1 a2 a0 := by
  funext y
  refine (congrArg (G5 (F := Ideal) a0 a1 a2) (eq_ix3 y)).trans ((last_codes a1 a2 (View.ld (Val := Elt Ideal) (e' := .f32) a0 r0_3) _ _ _).trans ?_)
  exact congrArg (fun u => code (ln (fun k => a1 (ix2 0 k)) (fun k => a2 (ix2 0 k)) u) (y 2)) (funext fun k => ld_last a0 (y 0) (y 1) k)

theorem out_lastScales : G6 (F := Ideal) a0 a1 a2 = lastScalesOf a1 a2 a0 := by
  funext y
  refine (congrArg (G6 (F := Ideal) a0 a1 a2) (eq_ix2 y)).trans ((last_scales a1 a2 (View.ld (Val := Elt Ideal) (e' := .f32) a0 r0_3) _ _).trans ?_)
  exact congrArg (fun u => scale (ln (fun k => a1 (ix2 0 k)) (fun k => a2 (ix2 0 k)) u)) (funext fun k => ld_last a0 (y 1) (y 0) k)

end Cert.OutputsReferenceIdeal.Rows
-- ==== Proof.lean ====
module

public import proofs.«01_k».proof.Defs
public import proofs.«01_k».proof.Proof.BitsFrame
public import proofs.«01_k».proof.Proof.KernelValue
public import proofs.«01_k».proof.Proof.RefValue
public import proofs.«01_k».proof.Proof.OutBitsFrame
public import proofs.«01_k».proof.Proof.OutIdealFrame
public import proofs.«01_k».proof.Proof.OutRefValue

@[expose] public section

noncomputable section

namespace Cert.Proof

open Idealize.ShloMosaic Idealize.ShloMosaic.TcCoe Idealize.SL.Sem Cert.Rows

/-- Memories that agree on the arguments give the two programs the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) : Cert.ReferenceIdeal.Rows.argsOf m' c = Cert.KernelIdeal.Rows.argsOf m c := by
  obtain ⟨h0, h1, h2, h3, h4, h5, h6, h7, h8, h9, h10, h11, h12, h13, h14, h15, h16, h17⟩ := h
  unfold Cert.ReferenceIdeal.Rows.argsOf Cert.KernelIdeal.Rows.argsOf
  congr 1

/-- The two programs end with the same streams and the same keys. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Rows.streamsOf (Cert.KernelIdeal.Rows.argsOf m c), fun c => Cert.KernelIdeal.Rows.keysOf (Cert.KernelIdeal.Rows.argsOf m c), ?_, ?_⟩
  · refine (θ_run _ _ _).mono (fun r h c => ?_) (θ_run_and (Cert.KernelIdeal.Gen.run_main m g) (Cert.KernelIdeal.Gen.unchanged m g))
    exact ⟨((h.1 c).1 18).trans (Cert.KernelIdeal.Rows.final_streams m c), ((h.1 c).1 19).trans (Cert.KernelIdeal.Rows.final_keys m c), h.2 c⟩
  · refine (θ_run _ _ _).mono (fun r h c => ?_) (Cert.ReferenceIdeal.Value.run_blocks m' g')
    obtain ⟨h18, h19, hk⟩ := h c
    refine ⟨h18.trans ((Cert.ReferenceIdeal.Rows.final_streams m' c).trans ?_), h19.trans ((Cert.ReferenceIdeal.Rows.final_keys m' c).trans ?_), hk⟩
    · exact congrArg Cert.KernelIdeal.Rows.streamsOf (args_eq m m' c (hag c))
    · exact congrArg Cert.KernelIdeal.Rows.keysOf (args_eq m m' c (hag c))

/-- The two programs end with the same codes and the same scales. -/
theorem algebraicOut : Cert.algebraic_OutputsIdeal_OutputsReferenceIdeal (hOutputsIdeal := Cert.OutputsIdeal.Gen.facts) (hOutputsReferenceIdeal := Cert.OutputsReferenceIdeal.Gen.facts) := by
  intro m g m' g' _ hag
  refine ⟨fun c => penCodesOf (m ((c.tc : Thread Cert.OutputsIdeal.nD Cert.OutputsIdeal.τ).loc Cert.OutputsIdeal.main_arg0)),
    fun c => penScalesOf (m ((c.tc : Thread Cert.OutputsIdeal.nD Cert.OutputsIdeal.τ).loc Cert.OutputsIdeal.main_arg0)),
    fun c => lastCodesOf (m ((c.tc : Thread Cert.OutputsIdeal.nD Cert.OutputsIdeal.τ).loc Cert.OutputsIdeal.main_arg1))
      (m ((c.tc : Thread Cert.OutputsIdeal.nD Cert.OutputsIdeal.τ).loc Cert.OutputsIdeal.main_arg2)) (m ((c.tc : Thread Cert.OutputsIdeal.nD Cert.OutputsIdeal.τ).loc Cert.OutputsIdeal.main_arg0)),
    fun c => lastScalesOf (m ((c.tc : Thread Cert.OutputsIdeal.nD Cert.OutputsIdeal.τ).loc Cert.OutputsIdeal.main_arg1))
      (m ((c.tc : Thread Cert.OutputsIdeal.nD Cert.OutputsIdeal.τ).loc Cert.OutputsIdeal.main_arg2)) (m ((c.tc : Thread Cert.OutputsIdeal.nD Cert.OutputsIdeal.τ).loc Cert.OutputsIdeal.main_arg0)), ?_, ?_⟩
  · refine (θ_run _ _ _).mono (fun r h c => ?_) (θ_run_and (Cert.OutputsIdeal.Gen.run_main m g) (Cert.OutputsIdeal.Gen.unchanged m g))
    exact ⟨((h.1 c).1 4).trans (Cert.OutputsIdeal.Gen.final_penCodes m c), ((h.1 c).1 5).trans (Cert.OutputsIdeal.Gen.final_penScales m c),
      ((h.1 c).1 6).trans (Cert.OutputsIdeal.Gen.final_lastCodes m c), ((h.1 c).1 7).trans (Cert.OutputsIdeal.Gen.final_lastScales m c), h.2 c⟩
  · refine (θ_run _ _ _).mono (fun r h c => ?_) (Cert.OutputsReferenceIdeal.Value.run m' g')
    obtain ⟨h3, h4, h5, h6, hk⟩ := h c
    obtain ⟨e0, e1, e2⟩ := hag c
    refine ⟨h3.trans ((Cert.OutputsReferenceIdeal.Rows.out_penCodes _ _ _).trans ?_), h4.trans ((Cert.OutputsReferenceIdeal.Rows.out_penScales _ _ _).trans ?_),
      h5.trans ((Cert.OutputsReferenceIdeal.Rows.out_lastCodes _ _ _).trans ?_), h6.trans ((Cert.OutputsReferenceIdeal.Rows.out_lastScales _ _ _).trans ?_), hk⟩
    · exact congrArg penCodesOf e0
    · exact congrArg penScalesOf e0
    · exact e0 ▸ e1 ▸ e2 ▸ rfl
    · exact e0 ▸ e1 ▸ e2 ▸ rfl

theorem claim : Cert.Claim := ⟨Cert.Kernel.Gen.facts, Cert.KernelIdeal.Gen.facts, Cert.ReferenceIdeal.Gen.facts,
  Cert.Outputs.Gen.facts, Cert.OutputsIdeal.Gen.facts, Cert.OutputsReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Outputs.Gen.frame m ρ, fun m ρ _ => Cert.OutputsIdeal.Gen.frame m ρ, fun m ρ _ => Cert.OutputsReferenceIdeal.Gen.frame m ρ,
  trivial, algebraic, trivial, algebraicOut⟩

end Cert.Proof

end
